-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
-- ==== Pre_finite_scores.lean ====
abbrev S1024x32768 : Shape := ⟨2, ![1024, 32768]⟩
abbrev S32768x1024 : Shape := ⟨2, ![32768, 1024]⟩
abbrev S512x32768 : Shape := ⟨2, ![512, 32768]⟩
abbrev S_ : Shape := ⟨0, ![]⟩

class Facts : Prop where
  bitsLt_bf16_f32 : FTy.bits .bf16 < FTy.bits .f32
  bcast_S_S1024x32768 : S_.BroadcastsInDim S1024x32768 (![] : Fin 0 → Fin S1024x32768.rank)
  reducesTo_S1024x32768_S_d0_1 : S1024x32768.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S1024x32768 .bf16) (main_arg1 : FVec F S32768x1024 .bf16) (main_arg2 : FVec F S512x32768 .bf16) : IVec S_ 1 :=
  let main_v0 : FVec F S1024x32768 .f32 := (extf .f32 · bitsLt_bf16_f32) main_arg0
  let main_v1 : FVec F S1024x32768 .f32 := Host.absf main_v0
  let main_cst : FVec F S_ .f32 := constant S_ .f32 0x7F800000#32
  let main_v2 : FVec F S1024x32768 .f32 := broadcastInDim S1024x32768 ![] bcast_S_S1024x32768 main_cst
  let main_v3 : IVec S1024x32768 1 := cmpf .olt main_v1 main_v2
  let main_c : IVec S_ 1 := constantI S_ 1 1#1
  let main_v4 : IVec S_ 1 := (fun x v => Host.reduce IntOp.andi x v reducesTo_S1024x32768_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  main_v10
-- ==== Pre_routed.lean ====
abbrev S288 : Shape := ⟨1, ![288]⟩
abbrev S1 : Shape := ⟨1, ![1]⟩
abbrev S32 : Shape := ⟨1, ![32]⟩
abbrev S589824x128 : Shape := ⟨2, ![589824, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S287 : Shape := ⟨1, ![287]⟩
abbrev S288x1 : Shape := ⟨2, ![288, 1]⟩

class Facts : Prop where
  shapeCasts_S1_S_ : S1.ShapeCasts S_
  bcast_S_S288 : S_.BroadcastsInDim S288 (![] : Fin 0 → Fin S288.rank)
  slices_S288_S287_1 : S288.Slices ![1] S287
  slices_S288_S1_287 : S288.Slices ![287] S1
  concatenates_S287_S1_S288_d0 : Shape.Concatenates [S287, S1] S288 0
  bcast_S288_S288x1_0 : S288.BroadcastsInDim S288x1 (![0] : Fin 1 → Fin S288x1.rank)
  reducesTo_S288_S_d0 : S288.ReducesTo [0] S_
  h_S_ : 0 < S_.numel
  bcast_S_S32 : S_.BroadcastsInDim S32 (![] : Fin 0 → Fin S32.rank)
  reducesTo_S32_S_d0 : S32.ReducesTo [0] S_
  gather_S32_S288x1_S288_n_0_n_n_0_1_1_wf : GatherDims.WF S32 S288x1 S288 [] [0] [] [0] [] 1 ![1]

variable [Facts]

def gather_S32_S288x1_S288_n_0_n_n_0_1_1 : GatherDims S32 S288x1 S288 where
  offsetDims := []
  collapsedSliceDims := [0]
  operandBatchingDims := []
  startIndicesBatchingDims := []
  startIndexMap := [0]
  indexVectorDim := 1
  sliceSizes := ![1]
  wf := gather_S32_S288x1_S288_n_0_n_n_0_1_1_wf
def fn_part2 {F : FTy → Type} [FloatOps F] (main_arg0 : IVec S288 32) (main_arg1 : IVec S1 32) (main_v0 : IVec S288 32) (main_v7 : IVec S288 32) (main_v14 : IVec S288 32) (main_v30 : IVec S_ 1) (main_v35 : IVec S_ 1) : IVec S_ 1 :=
  let main_v36 : IVec S_ 1 := andi main_v30 main_v35
  let main_v37 : IVec S_ 32 := shapeCast S_ main_arg1 shapeCasts_S1_S_
  let main_c_11 : IVec S_ 32 := constantI S_ 32 1#32
  let main_v38 : IVec S_ 32 := subi main_v37 main_c_11
  let main_v39 : IVec S288 32 := broadcastInDim S288 ![] bcast_S_S288 main_v38
  let main_v40 : IVec S288 1 := cmpi .sge main_v0 main_v39
  let main_v41 : IVec S288 1 := cmpi .eq main_v7 main_arg0
  let main_v42 : IVec S288 1 := ori main_v40 main_v41
  let main_v43 : IVec S288 1 := cmpi .eq main_v14 main_v7
  let main_v44 : IVec S288 1 := ori main_v42 main_v43
  let main_c_12 : IVec S_ 1 := constantI S_ 1 1#1
  let main_v45 : IVec S_ 1 := (fun x v => Host.reduce IntOp.andi x v reducesTo_S288_S_d0 h_S_) main_v44 main_c_12
  let main_v46 : IVec S_ 1 := andi main_v36 main_v45
  main_v46

def fn_part1 {F : FTy → Type} [FloatOps F] (main_arg0 : IVec S288 32) (main_arg1 : IVec S1 32) (main_arg2 : IVec S32 32) (main_v0 : IVec S288 32) (main_v4 : IVec S288 1) (main_v7 : IVec S288 32) (main_v14 : IVec S288 32) (main_v16 : IVec S_ 1) (main_v18 : IVec S_ 1) : IVec S_ 1 :=
  let main_v19 : IVec S_ 1 := andi main_v16 main_v18
  let main_c_4 : IVec S_ 32 := constantI S_ 32 0#32
  let main_v20 : IVec S288 32 := broadcastInDim S288 ![] bcast_S_S288 main_c_4
  let main_v21 : IVec S288 1 := cmpi .sge main_arg0 main_v20
  let main_c_5 : IVec S_ 32 := constantI S_ 32 32#32
  let main_v22 : IVec S288 32 := broadcastInDim S288 ![] bcast_S_S288 main_c_5
  let main_v23 : IVec S288 1 := cmpi .slt main_arg0 main_v22
  let main_v24 : IVec S288 1 := andi main_v21 main_v23
  let main_c_6 : IVec S_ 1 := constantI S_ 1 1#1
  let main_v25 : IVec S_ 1 := (fun x v => Host.reduce IntOp.andi x v reducesTo_S288_S_d0 h_S_) main_v24 main_c_6
  let main_v26 : IVec S_ 1 := andi main_v19 main_v25
  let main_c_7 : IVec S_ 32 := constantI S_ 32 32#32
  let main_v27 : IVec S32 32 := broadcastInDim S32 ![] bcast_S_S32 main_c_7
  let main_v28 : IVec S32 1 := cmpi .slt main_arg2 main_v27
  let main_c_8 : IVec S_ 1 := constantI S_ 1 1#1
  let main_v29 : IVec S_ 1 := (fun x v => Host.reduce IntOp.andi x v reducesTo_S32_S_d0 h_S_) main_v28 main_c_8
  let main_v30 : IVec S_ 1 := andi main_v26 main_v29
  let main_v31 : IVec S288 1 := noti main_v4
  let main_c_9 : IVec S_ 32 := constantI S_ 32 0#32
  let main_v32 : IVec S288 32 := broadcastInDim S288 ![] bcast_S_S288 main_c_9
  let main_v33 : IVec S288 1 := cmpi .slt main_v14 main_v32
  let main_v34 : IVec S288 1 := ori main_v31 main_v33
  let main_c_10 : IVec S_ 1 := constantI S_ 1 1#1
  let main_v35 : IVec S_ 1 := (fun x v => Host.reduce IntOp.andi x v reducesTo_S288_S_d0 h_S_) main_v34 main_c_10
  fn_part2 (F := F) main_arg0 main_arg1 main_v0 main_v7 main_v14 main_v30 main_v35

def fn {F : FTy → Type} [FloatOps F] (main_arg0 : IVec S288 32) (main_arg1 : IVec S1 32) (main_arg2 : IVec S32 32) (main_arg3 : IVec S589824x128 32) (main_arg4 : FVec F S32x1024x2048 .f32) (main_arg5 : FVec F S32x1x2048 .f32) (main_arg6 : FVec F S32x1024x1024 .f32) (main_arg7 : FVec F S32x1x1024 .f32) : IVec S_ 1 :=
  let main_v0 : IVec S288 32 := iotaInDim S288 32 0
  let main_v1 : IVec S_ 32 := shapeCast S_ main_arg1 shapeCasts_S1_S_
  let main_c : IVec S_ 32 := constantI S_ 32 1#32
  let main_v2 : IVec S_ 32 := subi main_v1 main_c
  let main_v3 : IVec S288 32 := broadcastInDim S288 ![] bcast_S_S288 main_v2
  let main_v4 : IVec S288 1 := cmpi .eq main_v0 main_v3
  let main_v5 : IVec S287 32 := (extractStridedSlice S287 ![1] · slices_S288_S287_1) main_arg0
  let main_v6 : IVec S1 32 := (extractStridedSlice S1 ![287] · slices_S288_S1_287) main_arg0
  let main_v7 : IVec S288 32 := (fun a b => concatenate S288 0 [⟨S287, a⟩, ⟨S1, b⟩] concatenates_S287_S1_S288_d0) main_v5 main_v6
  let main_c_0 : IVec S_ 32 := constantI S_ 32 0#32
  let main_v8 : IVec S288 32 := broadcastInDim S288 ![] bcast_S_S288 main_c_0
  let main_v9 : IVec S288 1 := cmpi .slt main_arg0 main_v8
  let main_c_1 : IVec S_ 32 := constantI S_ 32 32#32
  let main_v10 : IVec S288 32 := broadcastInDim S288 ![] bcast_S_S288 main_c_1
  let main_v11 : IVec S288 32 := addi main_arg0 main_v10
  let main_v12 : IVec S288 32 := select main_v9 main_v11 main_arg0
  let main_v13 : IVec S288x1 32 := broadcastInDim S288x1 ![0] bcast_S288_S288x1_0 main_v12
  let main_v14 : IVec S288 32 := (fun x i => Host.gather gather_S32_S288x1_S288_n_0_n_n_0_1_1 x i) main_arg2 main_v13
  let main_v15 : IVec S_ 32 := shapeCast S_ main_arg1 shapeCasts_S1_S_
  let main_c_2 : IVec S_ 32 := constantI S_ 32 1#32
  let main_v16 : IVec S_ 1 := cmpi .sge main_v15 main_c_2
  let main_v17 : IVec S_ 32 := shapeCast S_ main_arg1 shapeCasts_S1_S_
  let main_c_3 : IVec S_ 32 := constantI S_ 32 288#32
  let main_v18 : IVec S_ 1 := cmpi .sle main_v17 main_c_3
  fn_part1 (F := F) main_arg0 main_arg1 main_arg2 main_v0 main_v4 main_v7 main_v14 main_v16 main_v18
-- ==== Kernel.lean ====
abbrev S1024x32768 : Shape := ⟨2, ![1024, 32768]⟩
abbrev S32768x1024 : Shape := ⟨2, ![32768, 1024]⟩
abbrev S512x32768 : Shape := ⟨2, ![512, 32768]⟩
abbrev S32768x512 : Shape := ⟨2, ![32768, 512]⟩
abbrev S1024x1024 : Shape := ⟨2, ![1024, 1024]⟩
abbrev S2048x1024 : Shape := ⟨2, ![2048, 1024]⟩
abbrev S512x2048 : Shape := ⟨2, ![512, 2048]⟩
abbrev S1024x512 : Shape := ⟨2, ![1024, 512]⟩
abbrev S128x1024 : Shape := ⟨2, ![128, 1024]⟩
abbrev S1x1024 : Shape := ⟨2, ![1, 1024]⟩
abbrev S80x1024 : Shape := ⟨2, ![80, 1024]⟩
abbrev S1024x128 : Shape := ⟨2, ![1024, 128]⟩
abbrev S64x1024 : Shape := ⟨2, ![64, 1024]⟩
abbrev S16x1024 : Shape := ⟨2, ![16, 1024]⟩
abbrev S1024 : Shape := ⟨1, ![1024]⟩
abbrev S1024x64 : Shape := ⟨2, ![1024, 64]⟩

abbrev nBuf : Space → Nat
  | .hbm => 4
  | .vmem => 12
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S512x32768, .bf16⟩
  | .hbm, ⟨3, _⟩ => ⟨S32768x512, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

@[reducible] def k0_t1_loop (i : grid0.Coords) : Scf.Loop 32 :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_25 : BitVec 32 := 1#32
  ⟨c0_i32_23, v67, c1_i32_25⟩
def k0_mult1 (i : grid0.Coords) (k0_t1 : Fin (k0_t1_loop i).trips) : BitVec 32 :=
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  v386
def k0_off1 (i : grid0.Coords) (k0_t1 : Fin (k0_t1_loop i).trips) : Fin 2 → Nat :=
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v388 : Index := Scalar.indexCast v387
  let c0_158 : Index := 0#32
  ![v388.toNat, 0]
def k0_off2 (i : grid0.Coords) (k0_t1 : Fin (k0_t1_loop i).trips) : Fin 2 → Nat :=
  let c0_159 : Index := 0#32
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v390 : Index := Scalar.indexCast v387
  ![0, v390.toNat]
def k0_off3 (i : grid0.Coords) (k0_t1 : Fin (k0_t1_loop i).trips) : Fin 2 → Nat :=
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v412 : Index := Scalar.indexCast v387
  let c128_168 : Index := 128#32
  ![v412.toNat, 128]
def k0_off4 (i : grid0.Coords) (k0_t1 : Fin (k0_t1_loop i).trips) : Fin 2 → Nat :=
  let c64_169 : Index := 64#32
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v414 : Index := Scalar.indexCast v387
  ![64, v414.toNat]
def k0_off5 (i : grid0.Coords) (k0_t1 : Fin (k0_t1_loop i).trips) : Fin 2 → Nat :=
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v436 : Index := Scalar.indexCast v387
  let c256_178 : Index := 256#32
  ![v436.toNat, 256]
def k0_off6 (i : grid0.Coords) (k0_t1 : Fin (k0_t1_loop i).trips) : Fin 2 → Nat :=
  let c128_179 : Index := 128#32
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v438 : Index := Scalar.indexCast v387
  ![128, v438.toNat]
def k0_off7 (i : grid0.Coords) (k0_t1 : Fin (k0_t1_loop i).trips) : Fin 2 → Nat :=
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v460 : Index := Scalar.indexCast v387
  let c384_188 : Index := 384#32
  ![v460.toNat, 384]
def k0_off8 (i : grid0.Coords) (k0_t1 : Fin (k0_t1_loop i).trips) : Fin 2 → Nat :=
  let c192_189 : Index := 192#32
  let c0_i32_23 : BitVec 32 := 0#32
  let c1_i32_25 : BitVec 32 := 1#32
  let arg10 : BitVec 32 := Scf.iv c0_i32_23 c1_i32_25 k0_t1
  let c1024_i32_157 : BitVec 32 := 1024#32
  let v386 : BitVec 32 := Scalar.muli arg10 c1024_i32_157
  let v387 : BitVec 32 := v386
  let v462 : Index := Scalar.indexCast v387
  ![192, v462.toNat]
@[reducible] def k0_t2_loop (i : grid0.Coords) : Scf.Loop 32 :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let v64 : BitVec 32 := Scalar.addi c0_i32_23 v63
  let c1_i32_26 : BitVec 32 := 1#32
  ⟨v67, v64, c1_i32_26⟩
def k0_mult2 (i : grid0.Coords) (k0_t2 : Fin (k0_t2_loop i).trips) : BitVec 32 :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  v386
def k0_off9 (i : grid0.Coords) (k0_t2 : Fin (k0_t2_loop i).trips) : Fin 2 → Nat :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v388 : Index := Scalar.indexCast v387
  let c0_158 : Index := 0#32
  ![v388.toNat, 0]
def k0_off10 (i : grid0.Coords) (k0_t2 : Fin (k0_t2_loop i).trips) : Fin 2 → Nat :=
  let c0_159 : Index := 0#32
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v390 : Index := Scalar.indexCast v387
  ![0, v390.toNat]
def k0_off11 (i : grid0.Coords) (k0_t2 : Fin (k0_t2_loop i).trips) : Fin 2 → Nat :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v412 : Index := Scalar.indexCast v387
  let c128_168 : Index := 128#32
  ![v412.toNat, 128]
def k0_off12 (i : grid0.Coords) (k0_t2 : Fin (k0_t2_loop i).trips) : Fin 2 → Nat :=
  let c64_169 : Index := 64#32
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v414 : Index := Scalar.indexCast v387
  ![64, v414.toNat]
def k0_off13 (i : grid0.Coords) (k0_t2 : Fin (k0_t2_loop i).trips) : Fin 2 → Nat :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v436 : Index := Scalar.indexCast v387
  let c256_178 : Index := 256#32
  ![v436.toNat, 256]
def k0_off14 (i : grid0.Coords) (k0_t2 : Fin (k0_t2_loop i).trips) : Fin 2 → Nat :=
  let c128_179 : Index := 128#32
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v438 : Index := Scalar.indexCast v387
  ![128, v438.toNat]
def k0_off15 (i : grid0.Coords) (k0_t2 : Fin (k0_t2_loop i).trips) : Fin 2 → Nat :=
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v460 : Index := Scalar.indexCast v387
  let c384_188 : Index := 384#32
  ![v460.toNat, 384]
def k0_off16 (i : grid0.Coords) (k0_t2 : Fin (k0_t2_loop i).trips) : Fin 2 → Nat :=
  let c192_189 : Index := 192#32
  let c0_i32_23 : BitVec 32 := 0#32
  let arg1 : BitVec 32 := BitVec.ofNat 32 (i 1).val
  let c1_i32_22 : BitVec 32 := 1#32
  let v62 : BitVec 32 := Scalar.muli arg1 c1_i32_22
  let v63 : BitVec 32 := Scalar.subi v62 c0_i32_23
  let c1_i32_24 : BitVec 32 := 1#32
  let v65 : BitVec 32 := Scalar.divsi v63 c1_i32_24
  let v66 : BitVec 32 := Scalar.muli v65 c1_i32_24
  let v67 : BitVec 32 := Scalar.addi c0_i32_23 v66
  let c1_i32_26 : BitVec 32 := 1#32
  let arg10 : BitVec 32 := Scf.iv v67 c1_i32_26 k0_t2
  let c1024_i32_157 : BitVec 32 := 1024#32
  let v386 : BitVec 32 := Scalar.muli arg10 c1024_i32_157
  let v387 : BitVec 32 := v386
  let v462 : Index := Scalar.indexCast v387
  ![192, v462.toNat]
def k0_mult3 (i : grid0.Coords) : BitVec 32 :=
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  v72
def k0_off17 (i : grid0.Coords) : Fin 2 → Nat :=
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v74 : Index := Scalar.indexCast v73
  let c0_29 : Index := 0#32
  ![v74.toNat, 0]
def k0_off18 (i : grid0.Coords) : Fin 2 → Nat :=
  let c0_30 : Index := 0#32
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v76 : Index := Scalar.indexCast v73
  ![0, v76.toNat]
def k0_off19 (i : grid0.Coords) : Fin 2 → Nat :=
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v103 : Index := Scalar.indexCast v73
  let c128_41 : Index := 128#32
  ![v103.toNat, 128]
def k0_off20 (i : grid0.Coords) : Fin 2 → Nat :=
  let c64 : Index := 64#32
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v105 : Index := Scalar.indexCast v73
  ![64, v105.toNat]
def k0_off21 (i : grid0.Coords) : Fin 2 → Nat :=
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v132 : Index := Scalar.indexCast v73
  let c256_52 : Index := 256#32
  ![v132.toNat, 256]
def k0_off22 (i : grid0.Coords) : Fin 2 → Nat :=
  let c128_53 : Index := 128#32
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v134 : Index := Scalar.indexCast v73
  ![128, v134.toNat]
def k0_off23 (i : grid0.Coords) : Fin 2 → Nat :=
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v161 : Index := Scalar.indexCast v73
  let c384_64 : Index := 384#32
  ![v161.toNat, 384]
def k0_off24 (i : grid0.Coords) : Fin 2 → Nat :=
  let c192 : Index := 192#32
  let arg1 : BitVec 32 := BitVec.ofNat 32 (i 1).val
  let c1_i32_27 : BitVec 32 := 1#32
  let v70 : BitVec 32 := Scalar.muli arg1 c1_i32_27
  let c0_i32_28 : BitVec 32 := 0#32
  let v71 : BitVec 32 := Scalar.addi v70 c0_i32_28
  let c1024_i32 : BitVec 32 := 1024#32
  let v72 : BitVec 32 := Scalar.muli v71 c1024_i32
  let v73 : BitVec 32 := v72
  let v163 : Index := Scalar.indexCast v73
  ![192, v163.toNat]
@[reducible] def k0_t3_loop (i : grid0.Coords) : Scf.Loop 32 :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_98 : BitVec 32 := 1#32
  ⟨c0_i32_96, v235, c1_i32_98⟩
def k0_mult4 (i : grid0.Coords) (k0_t3 : Fin (k0_t3_loop i).trips) : BitVec 32 :=
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  v386
def k0_off25 (i : grid0.Coords) (k0_t3 : Fin (k0_t3_loop i).trips) : Fin 2 → Nat :=
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v388 : Index := Scalar.indexCast v387
  let c512_158 : Index := 512#32
  ![v388.toNat, 512]
def k0_off26 (i : grid0.Coords) (k0_t3 : Fin (k0_t3_loop i).trips) : Fin 2 → Nat :=
  let c256_159 : Index := 256#32
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v390 : Index := Scalar.indexCast v387
  ![256, v390.toNat]
def k0_off27 (i : grid0.Coords) (k0_t3 : Fin (k0_t3_loop i).trips) : Fin 2 → Nat :=
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v412 : Index := Scalar.indexCast v387
  let c640_168 : Index := 640#32
  ![v412.toNat, 640]
def k0_off28 (i : grid0.Coords) (k0_t3 : Fin (k0_t3_loop i).trips) : Fin 2 → Nat :=
  let c320_169 : Index := 320#32
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v414 : Index := Scalar.indexCast v387
  ![320, v414.toNat]
def k0_off29 (i : grid0.Coords) (k0_t3 : Fin (k0_t3_loop i).trips) : Fin 2 → Nat :=
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v436 : Index := Scalar.indexCast v387
  let c768_178 : Index := 768#32
  ![v436.toNat, 768]
def k0_off30 (i : grid0.Coords) (k0_t3 : Fin (k0_t3_loop i).trips) : Fin 2 → Nat :=
  let c384_179 : Index := 384#32
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v438 : Index := Scalar.indexCast v387
  ![384, v438.toNat]
def k0_off31 (i : grid0.Coords) (k0_t3 : Fin (k0_t3_loop i).trips) : Fin 2 → Nat :=
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v460 : Index := Scalar.indexCast v387
  let c896_188 : Index := 896#32
  ![v460.toNat, 896]
def k0_off32 (i : grid0.Coords) (k0_t3 : Fin (k0_t3_loop i).trips) : Fin 2 → Nat :=
  let c448_189 : Index := 448#32
  let c0_i32_96 : BitVec 32 := 0#32
  let c1_i32_98 : BitVec 32 := 1#32
  let arg10 : BitVec 32 := Scf.iv c0_i32_96 c1_i32_98 k0_t3
  let c1024_i32_157 : BitVec 32 := 1024#32
  let v386 : BitVec 32 := Scalar.muli arg10 c1024_i32_157
  let v387 : BitVec 32 := v386
  let v462 : Index := Scalar.indexCast v387
  ![448, v462.toNat]
@[reducible] def k0_t4_loop (i : grid0.Coords) : Scf.Loop 32 :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let v232 : BitVec 32 := Scalar.addi c0_i32_96 v231
  let c1_i32_99 : BitVec 32 := 1#32
  ⟨v235, v232, c1_i32_99⟩
def k0_mult5 (i : grid0.Coords) (k0_t4 : Fin (k0_t4_loop i).trips) : BitVec 32 :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  v386
def k0_off33 (i : grid0.Coords) (k0_t4 : Fin (k0_t4_loop i).trips) : Fin 2 → Nat :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v388 : Index := Scalar.indexCast v387
  let c512_158 : Index := 512#32
  ![v388.toNat, 512]
def k0_off34 (i : grid0.Coords) (k0_t4 : Fin (k0_t4_loop i).trips) : Fin 2 → Nat :=
  let c256_159 : Index := 256#32
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v390 : Index := Scalar.indexCast v387
  ![256, v390.toNat]
def k0_off35 (i : grid0.Coords) (k0_t4 : Fin (k0_t4_loop i).trips) : Fin 2 → Nat :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v412 : Index := Scalar.indexCast v387
  let c640_168 : Index := 640#32
  ![v412.toNat, 640]
def k0_off36 (i : grid0.Coords) (k0_t4 : Fin (k0_t4_loop i).trips) : Fin 2 → Nat :=
  let c320_169 : Index := 320#32
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v414 : Index := Scalar.indexCast v387
  ![320, v414.toNat]
def k0_off37 (i : grid0.Coords) (k0_t4 : Fin (k0_t4_loop i).trips) : Fin 2 → Nat :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v436 : Index := Scalar.indexCast v387
  let c768_178 : Index := 768#32
  ![v436.toNat, 768]
def k0_off38 (i : grid0.Coords) (k0_t4 : Fin (k0_t4_loop i).trips) : Fin 2 → Nat :=
  let c384_179 : Index := 384#32
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v438 : Index := Scalar.indexCast v387
  ![384, v438.toNat]
def k0_off39 (i : grid0.Coords) (k0_t4 : Fin (k0_t4_loop i).trips) : Fin 2 → Nat :=
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v460 : Index := Scalar.indexCast v387
  let c896_188 : Index := 896#32
  ![v460.toNat, 896]
def k0_off40 (i : grid0.Coords) (k0_t4 : Fin (k0_t4_loop i).trips) : Fin 2 → Nat :=
  let c448_189 : Index := 448#32
  let c0_i32_96 : BitVec 32 := 0#32
  let arg1 : BitVec 32 := BitVec.ofNat 32 (i 1).val
  let c1_i32_95 : BitVec 32 := 1#32
  let v230 : BitVec 32 := Scalar.muli arg1 c1_i32_95
  let v231 : BitVec 32 := Scalar.subi v230 c0_i32_96
  let c1_i32_97 : BitVec 32 := 1#32
  let v233 : BitVec 32 := Scalar.divsi v231 c1_i32_97
  let v234 : BitVec 32 := Scalar.muli v233 c1_i32_97
  let v235 : BitVec 32 := Scalar.addi c0_i32_96 v234
  let c1_i32_99 : BitVec 32 := 1#32
  let arg10 : BitVec 32 := Scf.iv v235 c1_i32_99 k0_t4
  let c1024_i32_157 : BitVec 32 := 1024#32
  let v386 : BitVec 32 := Scalar.muli arg10 c1024_i32_157
  let v387 : BitVec 32 := v386
  let v462 : Index := Scalar.indexCast v387
  ![448, v462.toNat]
def k0_mult6 (i : grid0.Coords) : BitVec 32 :=
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  v240
def k0_off41 (i : grid0.Coords) : Fin 2 → Nat :=
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v242 : Index := Scalar.indexCast v241
  let c512_103 : Index := 512#32
  ![v242.toNat, 512]
def k0_off42 (i : grid0.Coords) : Fin 2 → Nat :=
  let c256_104 : Index := 256#32
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v244 : Index := Scalar.indexCast v241
  ![256, v244.toNat]
def k0_off43 (i : grid0.Coords) : Fin 2 → Nat :=
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v271 : Index := Scalar.indexCast v241
  let c640_115 : Index := 640#32
  ![v271.toNat, 640]
def k0_off44 (i : grid0.Coords) : Fin 2 → Nat :=
  let c320 : Index := 320#32
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v273 : Index := Scalar.indexCast v241
  ![320, v273.toNat]
def k0_off45 (i : grid0.Coords) : Fin 2 → Nat :=
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v300 : Index := Scalar.indexCast v241
  let c768_126 : Index := 768#32
  ![v300.toNat, 768]
def k0_off46 (i : grid0.Coords) : Fin 2 → Nat :=
  let c384_127 : Index := 384#32
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v302 : Index := Scalar.indexCast v241
  ![384, v302.toNat]
def k0_off47 (i : grid0.Coords) : Fin 2 → Nat :=
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v329 : Index := Scalar.indexCast v241
  let c896_138 : Index := 896#32
  ![v329.toNat, 896]
def k0_off48 (i : grid0.Coords) : Fin 2 → Nat :=
  let c448 : Index := 448#32
  let arg1 : BitVec 32 := BitVec.ofNat 32 (i 1).val
  let c1_i32_100 : BitVec 32 := 1#32
  let v238 : BitVec 32 := Scalar.muli arg1 c1_i32_100
  let c0_i32_101 : BitVec 32 := 0#32
  let v239 : BitVec 32 := Scalar.addi v238 c0_i32_101
  let c1024_i32_102 : BitVec 32 := 1024#32
  let v240 : BitVec 32 := Scalar.muli v239 c1024_i32_102
  let v241 : BitVec 32 := v240
  let v331 : Index := Scalar.indexCast v241
  ![448, v331.toNat]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1024x32768 : Shape := ⟨2, ![1024, 32768]⟩
abbrev S32768x1024 : Shape := ⟨2, ![32768, 1024]⟩
abbrev S512x32768 : Shape := ⟨2, ![512, 32768]⟩
abbrev S8x128x16x2048 : Shape := ⟨4, ![8, 128, 16, 2048]⟩
abbrev S16x2048x8x128 : Shape := ⟨4, ![16, 2048, 8, 128]⟩
abbrev S8x64x16x2048 : Shape := ⟨4, ![8, 64, 16, 2048]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x8x64 : Shape := ⟨4, ![16, 2048, 8, 64]⟩
abbrev S32768x512 : Shape := ⟨2, ![32768, 512]⟩

abbrev nBuf : Space → Nat
  | .hbm => 62
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S512x32768, .bf16⟩
  | .hbm, ⟨3, _⟩ => ⟨S1024x32768, .f32⟩
  | .hbm, ⟨4, _⟩ => ⟨S8x128x16x2048, .f32⟩
  | .hbm, ⟨5, _⟩ => ⟨S32768x1024, .f32⟩
  | .hbm, ⟨6, _⟩ => ⟨S16x2048x8x128, .f32⟩
  | .hbm, ⟨7, _⟩ => ⟨S512x32768, .f32⟩
  | .hbm, ⟨8, _⟩ => ⟨S8x64x16x2048, .f32⟩
  | .hbm, ⟨9, _⟩ => ⟨S16x8x2048x2048, .f32⟩
  | .hbm, ⟨10, _⟩ => ⟨S_, .f32⟩
  | .hbm, ⟨11, _⟩ => ⟨S_, .f32⟩
  | .hbm, ⟨12, _⟩ => ⟨S16x8x2048x2048, .f32⟩
  | .hbm, ⟨13, _⟩ => ⟨S16x8x2048x2048, .f32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S1x1x2048x2048, .i1⟩
  | .hbm, ⟨39, _⟩ => ⟨S_, .f32⟩
  | .hbm, ⟨40, _⟩ => ⟨S_, .f32⟩
  | .hbm, ⟨41, _⟩ => ⟨S16x8x2048x2048, .i1⟩
  | .hbm, ⟨42, _⟩ => ⟨S16x8x2048x2048, .f32⟩
  | .hbm, ⟨43, _⟩ => ⟨S16x8x2048x2048, .f32⟩
  | .hbm, ⟨44, _⟩ => ⟨S_, .f32⟩
  | .hbm, ⟨45, _⟩ => ⟨S16x8x2048, .f32⟩
  | .hbm, ⟨46, _⟩ => ⟨S_, .f32⟩
  | .hbm, ⟨47, _⟩ => ⟨S16x8x2048, .f32⟩
  | .hbm, ⟨48, _⟩ => ⟨S16x8x2048, .f32⟩
  | .hbm, ⟨49, _⟩ => ⟨S16x8x2048x1, .f32⟩
  | .hbm, ⟨50, _⟩ => ⟨S16x8x2048x2048, .f32⟩
  | .hbm, ⟨51, _⟩ => ⟨S16x8x2048x2048, .f32⟩
  | .hbm, ⟨52, _⟩ => ⟨S16x8x2048x2048, .f32⟩
  | .hbm, ⟨53, _⟩ => ⟨S_, .f32⟩
  | .hbm, ⟨54, _⟩ => ⟨S16x8x2048, .f32⟩
  | .hbm, ⟨55, _⟩ => ⟨S16x8x2048x1, .f32⟩
  | .hbm, ⟨56, _⟩ => ⟨S16x8x2048x2048, .f32⟩
  | .hbm, ⟨57, _⟩ => ⟨S16x8x2048x2048, .f32⟩
  | .hbm, ⟨58, _⟩ => ⟨S16x8x64x2048, .f32⟩
  | .hbm, ⟨59, _⟩ => ⟨S16x2048x8x64, .f32⟩
  | .hbm, ⟨60, _⟩ => ⟨S32768x512, .f32⟩
  | .hbm, ⟨61, _⟩ => ⟨S32768x512, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S32 : Shape := ⟨1, ![32]⟩
abbrev S589824x128 : Shape := ⟨2, ![589824, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1179648x128 : Shape := ⟨2, ![1179648, 128]⟩
abbrev S2048x128 : Shape := ⟨2, ![2048, 128]⟩
abbrev S1x1x2048 : Shape := ⟨3, ![1, 1, 2048]⟩
abbrev S1x1x1024 : Shape := ⟨3, ![1, 1, 1024]⟩
abbrev S4096x128 : Shape := ⟨2, ![4096, 128]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S_ : Shape := ⟨0, ![]⟩
abbrev S1x1024x2048 : Shape := ⟨3, ![1, 1024, 2048]⟩
abbrev S1x1024x1024 : Shape := ⟨3, ![1, 1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 12
  | .smem => 4
  | _ => 0

abbrev bufTy : (tb : Table) → Fin (tcTables nBuf tb) → BufTy
  | .hbm, ⟨0, _⟩ => ⟨S589824x128, .i32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1179648x128, .f32⟩
  | .local _ .vmem, ⟨0, _⟩ => ⟨S2048x128, .i32⟩
  | .local _ .vmem, ⟨1, _⟩ => ⟨S2048x128, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S32, .i32⟩
  | .local _ .smem, ⟨3, _⟩ => ⟨S1, .i32⟩
  | _, _ => ⟨S589824x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond3 (i : grid0.Coords) : BitVec 1 :=
  let arg0 : BitVec 32 := BitVec.ofNat 32 (i 0).val
  let c0_i32_3 : BitVec 32 := 0#32
  let v14 : BitVec 1 := Scalar.cmpi .eq arg0 c0_i32_3
  let v15 : BitVec 32 := Scalar.extui v14
  let c0_i32_4 : BitVec 32 := 0#32
  let v16 : BitVec 1 := Scalar.cmpi .ne v15 c0_i32_4
  v16

def k0_off4 (v9 : BitVec 32) : Fin 3 → Nat :=
  let c0_i32_49 : BitVec 32 := 0#32
  let c0_i32_50 : BitVec 32 := 0#32
  ![v9.toNat, 0, 0]
def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def k0_off5 (v9 : BitVec 32) : Fin 3 → Nat :=
  let c0_i32_56 : BitVec 32 := 0#32
  let c0_i32_57 : BitVec 32 := 0#32
  ![v9.toNat, 0, 0]

def k0_chk1 (i : grid0.Coords) (v4 : BitVec 32) (v9 : BitVec 32) : Prop :=
  (∀ (k0_h2 : k0_cond2 i v4 = 1#1), ∀ (k0_h3 : k0_cond3 i = 1#1), ∀ a, (k0_off4 v9) a + S1x1024x2048.size a ≤ S32x1024x2048.size a) ∧
  (∀ (k0_h2 : k0_cond2 i v4 = 1#1), ∀ (k0_h3 : k0_cond3 i = 1#1), ∀ a, (k0_off5 v9) a + S1x1024x1024.size a ≤ S32x1024x1024.size a)
theorem k0_off4_inb : ∀ (i : grid0.Coords) (v4 : BitVec 32) (v9 : BitVec 32) (k0_hw1 : k0_chk1 i v4 v9), ∀ (k0_h2 : k0_cond2 i v4 = 1#1), ∀ (k0_h3 : k0_cond3 i = 1#1), ∀ a, (k0_off4 v9) a + S1x1024x2048.size a ≤ S32x1024x2048.size a := fun i v4 v9 k0_hw1 k0_h2 k0_h3 => k0_hw1.1 k0_h2 k0_h3
theorem k0_off5_inb : ∀ (i : grid0.Coords) (v4 : BitVec 32) (v9 : BitVec 32) (k0_hw1 : k0_chk1 i v4 v9), ∀ (k0_h2 : k0_cond2 i v4 = 1#1), ∀ (k0_h3 : k0_cond3 i = 1#1), ∀ a, (k0_off5 v9) a + S1x1024x1024.size a ≤ S32x1024x1024.size a := fun i v4 v9 k0_hw1 k0_h2 k0_h3 => k0_hw1.2 k0_h2 k0_h3

def k0_off6 (v85 : BitVec 32) : Fin 2 → Nat :=
  let c0_i32_43 : BitVec 32 := 0#32
  ![v85.toNat, 0]
def k0_cond5 (i : grid0.Coords) (v9 : BitVec 32) (v13 : BitVec 32) : BitVec 1 :=
  let arg0 : BitVec 32 := BitVec.ofNat 32 (i 0).val
  let c0_i32_7 : BitVec 32 := 0#32
  let v22 : BitVec 1 := Scalar.cmpi .eq arg0 c0_i32_7
  let v23 : BitVec 1 := Scalar.cmpi .ne v9 v13
  let v24 : BitVec 1 := Scalar.ori v22 v23
  let v25 : BitVec 32 := Scalar.extui v24
  let c0_i32_8 : BitVec 32 := 0#32
  let v26 : BitVec 1 := Scalar.cmpi .ne v25 c0_i32_8
  v26

def k0_off7 (v85 : BitVec 32) : Fin 3 → Nat :=
  let c0_i32_44 : BitVec 32 := 0#32
  let c0_i32_45 : BitVec 32 := 0#32
  ![v85.toNat, 0, 0]
def k0_off8 (v9 : BitVec 32) : Fin 3 → Nat :=
  let c0_i32_46 : BitVec 32 := 0#32
  let c0_i32_47 : BitVec 32 := 0#32
  ![v9.toNat, 0, 0]

def k0_off9 (v85 : BitVec 32) : Fin 2 → Nat :=
  let c1_i32_48 : BitVec 32 := 1#32
  ![v85.toNat, 1]
def k0_off10 (v85 : BitVec 32) : Fin 3 → Nat :=
  let c0_i32_49 : BitVec 32 := 0#32
  let c0_i32_50 : BitVec 32 := 0#32
  ![v85.toNat, 0, 0]
def k0_off11 (v9 : BitVec 32) : Fin 3 → Nat :=
  let c0_i32_51 : BitVec 32 := 0#32
  let c0_i32_52 : BitVec 32 := 0#32
  ![v9.toNat, 0, 0]
def k0_off12 (v9 : BitVec 32) : Fin 1 → Nat :=
  let v98 : Index := Scalar.indexCast v9
  ![v98.toNat]

def k0_chk3 (i : grid0.Coords) (v4 : BitVec 32) (v9 : BitVec 32) (v13 : BitVec 32) : Prop :=
  (∀ (k0_h2 : k0_cond2 i v4 = 1#1), ∀ (k0_h5 : k0_cond5 i v9 v13 = 1#1), ∀ a, (k0_off8 v9) a + S1x1024x2048.size a ≤ S32x1024x2048.size a) ∧
  (∀ (k0_h2 : k0_cond2 i v4 = 1#1), ∀ (k0_h5 : k0_cond5 i v9 v13 = 1#1), ∀ a, (k0_off11 v9) a + S1x1024x1024.size a ≤ S32x1024x1024.size a) ∧
  (∀ (k0_h2 : k0_cond2 i v4 = 1#1), ∀ (k0_h5 : k0_cond5 i v9 v13 = 1#1), ∀ a, (k0_off12 v9) a + S1.size a ≤ S32.size a)
theorem k0_off8_inb : ∀ (i : grid0.Coords) (v4 : BitVec 32) (v9 : BitVec 32) (v13 : BitVec 32) (k0_hw3 : k0_chk3 i v4 v9 v13), ∀ (k0_h2 : k0_cond2 i v4 = 1#1), ∀ (k0_h5 : k0_cond5 i v9 v13 = 1#1), ∀ a, (k0_off8 v9) a + S1x1024x2048.size a ≤ S32x1024x2048.size a := fun i v4 v9 v13 k0_hw3 k0_h2 k0_h5 => k0_hw3.1 k0_h2 k0_h5
theorem k0_off11_inb : ∀ (i : grid0.Coords) (v4 : BitVec 32) (v9 : BitVec 32) (v13 : BitVec 32) (k0_hw3 : k0_chk3 i v4 v9 v13), ∀ (k0_h2 : k0_cond2 i v4 = 1#1), ∀ (k0_h5 : k0_cond5 i v9 v13 = 1#1), ∀ a, (k0_off11 v9) a + S1x1024x1024.size a ≤ S32x1024x1024.size a := fun i v4 v9 v13 k0_hw3 k0_h2 k0_h5 => k0_hw3.2.1 k0_h2 k0_h5
theorem k0_off12_inb : ∀ (i : grid0.Coords) (v4 : BitVec 32) (v9 : BitVec 32) (v13 : BitVec 32) (k0_hw3 : k0_chk3 i v4 v9 v13), ∀ (k0_h2 : k0_cond2 i v4 = 1#1), ∀ (k0_h5 : k0_cond5 i v9 v13 = 1#1), ∀ a, (k0_off12 v9) a + S1.size a ≤ S32.size a := fun i v4 v9 v13 k0_hw3 k0_h2 k0_h5 => k0_hw3.2.2 k0_h2 k0_h5

def k0_off13 (v85 : BitVec 32) : Fin 2 → Nat :=
  let c1_i32_63 : BitVec 32 := 1#32
  let v117 : BitVec 32 := Scalar.subi c1_i32_63 v85
  let c0_i32_64 : BitVec 32 := 0#32
  ![v117.toNat, 0]
def k0_cond6 (v99 : BitVec 32) : BitVec 1 :=
  let c0_i32_53 : BitVec 32 := 0#32
  let v100 : BitVec 1 := Scalar.cmpi .sge v99 c0_i32_53
  let v101 : BitVec 32 := Scalar.extui v100
  let c0_i32_54 : BitVec 32 := 0#32
  let v102 : BitVec 1 := Scalar.cmpi .ne v101 c0_i32_54
  v102

def k0_off14 (v85 : BitVec 32) : Fin 3 → Nat :=
  let c1_i32_63 : BitVec 32 := 1#32
  let v117 : BitVec 32 := Scalar.subi c1_i32_63 v85
  let c0_i32_65 : BitVec 32 := 0#32
  let c0_i32_66 : BitVec 32 := 0#32
  ![v117.toNat, 0, 0]
def k0_off15 (v99 : BitVec 32) : Fin 3 → Nat :=
  let c0_i32_67 : BitVec 32 := 0#32
  let c0_i32_68 : BitVec 32 := 0#32
  ![v99.toNat, 0, 0]
def k0_off16 (v85 : BitVec 32) : Fin 2 → Nat :=
  let c1_i32_63 : BitVec 32 := 1#32
  let v117 : BitVec 32 := Scalar.subi c1_i32_63 v85
  let c1_i32_69 : BitVec 32 := 1#32
  ![v117.toNat, 1]
def k0_off17 (v85 : BitVec 32) : Fin 3 → Nat :=
  let c1_i32_63 : BitVec 32 := 1#32
  let v117 : BitVec 32 := Scalar.subi c1_i32_63 v85
  let c0_i32_70 : BitVec 32 := 0#32
  let c0_i32_71 : BitVec 32 := 0#32
  ![v117.toNat, 0, 0]
def k0_off18 (v99 : BitVec 32) : Fin 3 → Nat :=
  let c0_i32_72 : BitVec 32 := 0#32
  let c0_i32_73 : BitVec 32 := 0#32
  ![v99.toNat, 0, 0]

def k0_chk4 (i : grid0.Coords) (v4 : BitVec 32) (v9 : BitVec 32) (v13 : BitVec 32) (v85 : BitVec 32) (v99 : BitVec 32) : Prop :=
  (∀ (k0_h2 : k0_cond2 i v4 = 1#1), ∀ (k0_h5 : k0_cond5 i v9 v13 = 1#1), ∀ (k0_h6 : k0_cond6 v99 = 1#1), ∀ a, (k0_off13 v85) a + S1x1.size a ≤ S2x2.size a) ∧
  (∀ (k0_h2 : k0_cond2 i v4 = 1#1), ∀ (k0_h5 : k0_cond5 i v9 v13 = 1#1), ∀ (k0_h6 : k0_cond6 v99 = 1#1), ∀ a, (k0_off14 v85) a + S1x1024x2048.size a ≤ S2x1024x2048.size a) ∧
  (∀ (k0_h2 : k0_cond2 i v4 = 1#1), ∀ (k0_h5 : k0_cond5 i v9 v13 = 1#1), ∀ (k0_h6 : k0_cond6 v99 = 1#1), ∀ a, (k0_off15 v99) a + S1x1024x2048.size a ≤ S32x1024x2048.size a) ∧
  (∀ (k0_h2 : k0_cond2 i v4 = 1#1), ∀ (k0_h5 : k0_cond5 i v9 v13 = 1#1), ∀ (k0_h6 : k0_cond6 v99 = 1#1), ∀ a, (k0_off16 v85) a + S1x1.size a ≤ S2x2.size a) ∧
  (∀ (k0_h2 : k0_cond2 i v4 = 1#1), ∀ (k0_h5 : k0_cond5 i v9 v13 = 1#1), ∀ (k0_h6 : k0_cond6 v99 = 1#1), ∀ a, (k0_off17 v85) a + S1x1024x1024.size a ≤ S2x1024x1024.size a) ∧
  (∀ (k0_h2 : k0_cond2 i v4 = 1#1), ∀ (k0_h5 : k0_cond5 i v9 v13 = 1#1), ∀ (k0_h6 : k0_cond6 v99 = 1#1), ∀ a, (k0_off18 v99) a + S1x1024x1024.size a ≤ S32x1024x1024.size a)
theorem k0_off13_inb : ∀ (i : grid0.Coords) (v4 : BitVec 32) (v9 : BitVec 32) (v13 : BitVec 32) (v85 : BitVec 32) (v99 : BitVec 32) (k0_hw4 : k0_chk4 i v4 v9 v13 v85 v99), ∀ (k0_h2 : k0_cond2 i v4 = 1#1), ∀ (k0_h5 : k0_cond5 i v9 v13 = 1#1), ∀ (k0_h6 : k0_cond6 v99 = 1#1), ∀ a, (k0_off13 v85) a + S1x1.size a ≤ S2x2.size a := fun i v4 v9 v13 v85 v99 k0_hw4 k0_h2 k0_h5 k0_h6 => k0_hw4.1 k0_h2 k0_h5 k0_h6
theorem k0_off14_inb : ∀ (i : grid0.Coords) (v4 : BitVec 32) (v9 : BitVec 32) (v13 : BitVec 32) (v85 : BitVec 32) (v99 : BitVec 32) (k0_hw4 : k0_chk4 i v4 v9 v13 v85 v99), ∀ (k0_h2 : k0_cond2 i v4 = 1#1), ∀ (k0_h5 : k0_cond5 i v9 v13 = 1#1), ∀ (k0_h6 : k0_cond6 v99 = 1#1), ∀ a, (k0_off14 v85) a + S1x1024x2048.size a ≤ S2x1024x2048.size a := fun i v4 v9 v13 v85 v99 k0_hw4 k0_h2 k0_h5 k0_h6 => k0_hw4.2.1 k0_h2 k0_h5 k0_h6
theorem k0_off15_inb : ∀ (i : grid0.Coords) (v4 : BitVec 32) (v9 : BitVec 32) (v13 : BitVec 32) (v85 : BitVec 32) (v99 : BitVec 32) (k0_hw4 : k0_chk4 i v4 v9 v13 v85 v99), ∀ (k0_h2 : k0_cond2 i v4 = 1#1), ∀ (k0_h5 : k0_cond5 i v9 v13 = 1#1), ∀ (k0_h6 : k0_cond6 v99 = 1#1), ∀ a, (k0_off15 v99) a + S1x1024x2048.size a ≤ S32x1024x2048.size a := fun i v4 v9 v13 v85 v99 k0_hw4 k0_h2 k0_h5 k0_h6 => k0_hw4.2.2.1 k0_h2 k0_h5 k0_h6
theorem k0_off16_inb : ∀ (i : grid0.Coords) (v4 : BitVec 32) (v9 : BitVec 32) (v13 : BitVec 32) (v85 : BitVec 32) (v99 : BitVec 32) (k0_hw4 : k0_chk4 i v4 v9 v13 v85 v99), ∀ (k0_h2 : k0_cond2 i v4 = 1#1), ∀ (k0_h5 : k0_cond5 i v9 v13 = 1#1), ∀ (k0_h6 : k0_cond6 v99 = 1#1), ∀ a, (k0_off16 v85) a + S1x1.size a ≤ S2x2.size a := fun i v4 v9 v13 v85 v99 k0_hw4 k0_h2 k0_h5 k0_h6 => k0_hw4.2.2.2.1 k0_h2 k0_h5 k0_h6
theorem k0_off17_inb : ∀ (i : grid0.Coords) (v4 : BitVec 32) (v9 : BitVec 32) (v13 : BitVec 32) (v85 : BitVec 32) (v99 : BitVec 32) (k0_hw4 : k0_chk4 i v4 v9 v13 v85 v99), ∀ (k0_h2 : k0_cond2 i v4 = 1#1), ∀ (k0_h5 : k0_cond5 i v9 v13 = 1#1), ∀ (k0_h6 : k0_cond6 v99 = 1#1), ∀ a, (k0_off17 v85) a + S1x1024x1024.size a ≤ S2x1024x1024.size a := fun i v4 v9 v13 v85 v99 k0_hw4 k0_h2 k0_h5 k0_h6 => k0_hw4.2.2.2.2.1 k0_h2 k0_h5 k0_h6
theorem k0_off18_inb : ∀ (i : grid0.Coords) (v4 : BitVec 32) (v9 : BitVec 32) (v13 : BitVec 32) (v85 : BitVec 32) (v99 : BitVec 32) (k0_hw4 : k0_chk4 i v4 v9 v13 v85 v99), ∀ (k0_h2 : k0_cond2 i v4 = 1#1), ∀ (k0_h5 : k0_cond5 i v9 v13 = 1#1), ∀ (k0_h6 : k0_cond6 v99 = 1#1), ∀ a, (k0_off18 v99) a + S1x1024x1024.size a ≤ S32x1024x1024.size a := fun i v4 v9 v13 v85 v99 k0_hw4 k0_h2 k0_h5 k0_h6 => k0_hw4.2.2.2.2.2 k0_h2 k0_h5 k0_h6

def k0_off19 (v85 : BitVec 32) : Fin 3 → Nat :=
  let v103 : Index := Scalar.indexCast v85
  let c0_55 : Index := 0#32
  let c0_56 : Index := 0#32
  ![v103.toNat, 0, 0]
def k0_off20 (v85 : BitVec 32) : Fin 3 → Nat :=
  let v110 : Index := Scalar.indexCast v85
  let c0_59 : Index := 0#32
  let c0_60 : Index := 0#32
  ![v110.toNat, 0, 0]

def k0_chk2 (i : grid0.Coords) (v4 : BitVec 32) (v9 : BitVec 32) (v13 : BitVec 32) (v85 : BitVec 32) : Prop :=
  (∀ (k0_h2 : k0_cond2 i v4 = 1#1), ∀ (k0_h5 : k0_cond5 i v9 v13 = 1#1), ∀ a, (k0_off6 v85) a + S1x1.size a ≤ S2x2.size a) ∧
  (∀ (k0_h2 : k0_cond2 i v4 = 1#1), ∀ (k0_h5 : k0_cond5 i v9 v13 = 1#1), ∀ a, (k0_off7 v85) a + S1x1024x2048.size a ≤ S2x1024x2048.size a) ∧
  (∀ (k0_h2 : k0_cond2 i v4 = 1#1), ∀ (k0_h5 : k0_cond5 i v9 v13 = 1#1), ∀ a, (k0_off9 v85) a + S1x1.size a ≤ S2x2.size a) ∧
  (∀ (k0_h2 : k0_cond2 i v4 = 1#1), ∀ (k0_h5 : k0_cond5 i v9 v13 = 1#1), ∀ a, (k0_off10 v85) a + S1x1024x1024.size a ≤ S2x1024x1024.size a) ∧
  (∀ (k0_h2 : k0_cond2 i v4 = 1#1), ∀ (k0_h5 : k0_cond5 i v9 v13 = 1#1), ∀ a, (k0_off19 v85) a + S1x1024x2048.size a ≤ S2x1024x2048.size a) ∧
  (∀ (k0_h2 : k0_cond2 i v4 = 1#1), ∀ (k0_h5 : k0_cond5 i v9 v13 = 1#1), ∀ a, (k0_off20 v85) a + S1x1024x1024.size a ≤ S2x1024x1024.size a)
theorem k0_off6_inb : ∀ (i : grid0.Coords) (v4 : BitVec 32) (v9 : BitVec 32) (v13 : BitVec 32) (v85 : BitVec 32) (k0_hw2 : k0_chk2 i v4 v9 v13 v85), ∀ (k0_h2 : k0_cond2 i v4 = 1#1), ∀ (k0_h5 : k0_cond5 i v9 v13 = 1#1), ∀ a, (k0_off6 v85) a + S1x1.size a ≤ S2x2.size a := fun i v4 v9 v13 v85 k0_hw2 k0_h2 k0_h5 => k0_hw2.1 k0_h2 k0_h5
theorem k0_off7_inb : ∀ (i : grid0.Coords) (v4 : BitVec 32) (v9 : BitVec 32) (v13 : BitVec 32) (v85 : BitVec 32) (k0_hw2 : k0_chk2 i v4 v9 v13 v85), ∀ (k0_h2 : k0_cond2 i v4 = 1#1), ∀ (k0_h5 : k0_cond5 i v9 v13 = 1#1), ∀ a, (k0_off7 v85) a + S1x1024x2048.size a ≤ S2x1024x2048.size a := fun i v4 v9 v13 v85 k0_hw2 k0_h2 k0_h5 => k0_hw2.2.1 k0_h2 k0_h5
theorem k0_off9_inb : ∀ (i : grid0.Coords) (v4 : BitVec 32) (v9 : BitVec 32) (v13 : BitVec 32) (v85 : BitVec 32) (k0_hw2 : k0_chk2 i v4 v9 v13 v85), ∀ (k0_h2 : k0_cond2 i v4 = 1#1), ∀ (k0_h5 : k0_cond5 i v9 v13 = 1#1), ∀ a, (k0_off9 v85) a + S1x1.size a ≤ S2x2.size a := fun i v4 v9 v13 v85 k0_hw2 k0_h2 k0_h5 => k0_hw2.2.2.1 k0_h2 k0_h5
theorem k0_off10_inb : ∀ (i : grid0.Coords) (v4 : BitVec 32) (v9 : BitVec 32) (v13 : BitVec 32) (v85 : BitVec 32) (k0_hw2 : k0_chk2 i v4 v9 v13 v85), ∀ (k0_h2 : k0_cond2 i v4 = 1#1), ∀ (k0_h5 : k0_cond5 i v9 v13 = 1#1), ∀ a, (k0_off10 v85) a + S1x1024x1024.size a ≤ S2x1024x1024.size a := fun i v4 v9 v13 v85 k0_hw2 k0_h2 k0_h5 => k0_hw2.2.2.2.1 k0_h2 k0_h5
theorem k0_off19_inb : ∀ (i : grid0.Coords) (v4 : BitVec 32) (v9 : BitVec 32) (v13 : BitVec 32) (v85 : BitVec 32) (k0_hw2 : k0_chk2 i v4 v9 v13 v85), ∀ (k0_h2 : k0_cond2 i v4 = 1#1), ∀ (k0_h5 : k0_cond5 i v9 v13 = 1#1), ∀ a, (k0_off19 v85) a + S1x1024x2048.size a ≤ S2x1024x2048.size a := fun i v4 v9 v13 v85 k0_hw2 k0_h2 k0_h5 => k0_hw2.2.2.2.2.1 k0_h2 k0_h5
theorem k0_off20_inb : ∀ (i : grid0.Coords) (v4 : BitVec 32) (v9 : BitVec 32) (v13 : BitVec 32) (v85 : BitVec 32) (k0_hw2 : k0_chk2 i v4 v9 v13 v85), ∀ (k0_h2 : k0_cond2 i v4 = 1#1), ∀ (k0_h5 : k0_cond5 i v9 v13 = 1#1), ∀ a, (k0_off20 v85) a + S1x1024x1024.size a ≤ S2x1024x1024.size a := fun i v4 v9 v13 v85 k0_hw2 k0_h2 k0_h5 => k0_hw2.2.2.2.2.2 k0_h2 k0_h5

def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S288 : Shape := ⟨1, ![288]⟩
abbrev S1 : Shape := ⟨1, ![1]⟩
abbrev S32 : Shape := ⟨1, ![32]⟩
abbrev S589824x128 : Shape := ⟨2, ![589824, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x512 : Shape := ⟨3, ![288, 512, 512]⟩
abbrev S288x512x512x2 : Shape := ⟨4, ![288, 512, 512, 2]⟩
abbrev S288x512x512x1 : Shape := ⟨4, ![288, 512, 512, 1]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩
abbrev S1179648x128 : Shape := ⟨2, ![1179648, 128]⟩

abbrev nBuf : Space → Nat
  | .hbm => 98
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S32, .i32⟩
  | .hbm, ⟨3, _⟩ => ⟨S589824x128, .i32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S288x512x512, .i32⟩
  | .hbm, ⟨9, _⟩ => ⟨S288x512x512x2, .bf16⟩
  | .hbm, ⟨10, _⟩ => ⟨S288x512x512x1, .bf16⟩
  | .hbm, ⟨11, _⟩ => ⟨S288x512x512, .bf16⟩
  | .hbm, ⟨12, _⟩ => ⟨S288x512x512x1, .bf16⟩
  | .hbm, ⟨13, _⟩ => ⟨S288x512x512, .bf16⟩
  | .hbm, ⟨14, _⟩ => ⟨S288x512x1024, .bf16⟩
  | .hbm, ⟨15, _⟩ => ⟨S288x512x1024, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x2048, .f32⟩
  | .hbm, ⟨25, _⟩ => ⟨S288x512x2048, .f32⟩
  | .hbm, ⟨26, _⟩ => ⟨S_, .i32⟩
  | .hbm, ⟨27, _⟩ => ⟨S288, .i32⟩
  | .hbm, ⟨28, _⟩ => ⟨S288, .i1⟩
  | .hbm, ⟨29, _⟩ => ⟨S_, .i32⟩
  | .hbm, ⟨30, _⟩ => ⟨S288, .i32⟩
  | .hbm, ⟨31, _⟩ => ⟨S288, .i32⟩
  | .hbm, ⟨32, _⟩ => ⟨S288, .i32⟩
  | .hbm, ⟨33, _⟩ => ⟨S288x1, .i32⟩
  | .hbm, ⟨34, _⟩ => ⟨S288x1x2048, .f32⟩
  | .hbm, ⟨35, _⟩ => ⟨S288x512x2048, .f32⟩
  | .hbm, ⟨36, _⟩ => ⟨S288x512x2048, .f32⟩
  | .hbm, ⟨37, _⟩ => ⟨S288x512x1024, .f32⟩
  | .hbm, ⟨38, _⟩ => ⟨S288x512x1024, .f32⟩
  | .hbm, ⟨39, _⟩ => ⟨S_, .f32⟩
  | .hbm, ⟨40, _⟩ => ⟨S288x512x1024, .f32⟩
  | .hbm, ⟨41, _⟩ => ⟨S288x512x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S288x512x1024, .f32⟩
  | .hbm, ⟨49, _⟩ => ⟨S288x512x1024, .f32⟩
  | .hbm, ⟨50, _⟩ => ⟨S_, .f32⟩
  | .hbm, ⟨51, _⟩ => ⟨S288x512x1024, .f32⟩
  | .hbm, ⟨52, _⟩ => ⟨S288x512x1024, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S_, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S288x512x1024, .f32⟩
  | .hbm, ⟨66, _⟩ => ⟨S_, .i32⟩
  | .hbm, ⟨67, _⟩ => ⟨S288, .i32⟩
  | .hbm, ⟨68, _⟩ => ⟨S288, .i1⟩
  | .hbm, ⟨69, _⟩ => ⟨S_, .i32⟩
  | .hbm, ⟨70, _⟩ => ⟨S288, .i32⟩
  | .hbm, ⟨71, _⟩ => ⟨S288, .i32⟩
  | .hbm, ⟨72, _⟩ => ⟨S288, .i32⟩
  | .hbm, ⟨73, _⟩ => ⟨S288x1, .i32⟩
  | .hbm, ⟨74, _⟩ => ⟨S288x1024x1024, .f32⟩
  | .hbm, ⟨75, _⟩ => ⟨S288x512x1024, .f32⟩
  | .hbm, ⟨76, _⟩ => ⟨S_, .i32⟩
  | .hbm, ⟨77, _⟩ => ⟨S288, .i32⟩
  | .hbm, ⟨78, _⟩ => ⟨S288, .i1⟩
  | .hbm, ⟨79, _⟩ => ⟨S_, .i32⟩
  | .hbm, ⟨80, _⟩ => ⟨S288, .i32⟩
  | .hbm, ⟨81, _⟩ => ⟨S288, .i32⟩
  | .hbm, ⟨82, _⟩ => ⟨S288, .i32⟩
  | .hbm, ⟨83, _⟩ => ⟨S288x1, .i32⟩
  | .hbm, ⟨84, _⟩ => ⟨S288x1x1024, .f32⟩
  | .hbm, ⟨85, _⟩ => ⟨S288x512x1024, .f32⟩
  | .hbm, ⟨86, _⟩ => ⟨S288x512x1024, .f32⟩
  | .hbm, ⟨87, _⟩ => ⟨S288, .i32⟩
  | .hbm, ⟨88, _⟩ => ⟨S288x1x1, .i32⟩
  | .hbm, ⟨89, _⟩ => ⟨S_, .i32⟩
  | .hbm, ⟨90, _⟩ => ⟨S288x1x1, .i32⟩
  | .hbm, ⟨91, _⟩ => ⟨S288x1x1, .i1⟩
  | .hbm, ⟨92, _⟩ => ⟨S_, .f32⟩
  | .hbm, ⟨93, _⟩ => ⟨S_, .f32⟩
  | .hbm, ⟨94, _⟩ => ⟨S288x512x1024, .i1⟩
  | .hbm, ⟨95, _⟩ => ⟨S288x512x1024, .f32⟩
  | .hbm, ⟨96, _⟩ => ⟨S288x512x1024, .f32⟩
  | .hbm, ⟨97, _⟩ => ⟨S1179648x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel3.lean ====
abbrev S16x256x1024 : Shape := ⟨3, ![16, 256, 1024]⟩
abbrev S1x1024 : Shape := ⟨2, ![1, 1024]⟩
abbrev S1x1024x2048 : Shape := ⟨3, ![1, 1024, 2048]⟩
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x2048, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x256x1024 : Shape := ⟨3, ![16, 256, 1024]⟩
abbrev S1x1024 : Shape := ⟨2, ![1, 1024]⟩
abbrev S1x1024x2048 : Shape := ⟨3, ![1, 1024, 2048]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S1x1x1024 : Shape := ⟨3, ![1, 1, 1024]⟩
abbrev S1024x2048 : Shape := ⟨2, ![1024, 2048]⟩
abbrev S16x256x2048 : Shape := ⟨3, ![16, 256, 2048]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x2048, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S1024x2048, .f32⟩
  | .hbm, ⟨21, _⟩ => ⟨S16x256x2048, .f32⟩
  | .hbm, ⟨22, _⟩ => ⟨S4096x2048, .f32⟩
  | .hbm, ⟨23, _⟩ => ⟨S4096x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Trips.lean ====
/- The counted loops of the attention kernel, by invariants that forget what the score buffers hold. -/
module

public import proofs.«01_k».proof.Proof.Gen.KernelIdeal.Frame.Runs
public import Idealize.ShloMosaic.Lib.LoopRemainder

@[expose] public section

set_option maxRecDepth 16384
set_option maxHeartbeats 2000000

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a pass over one block of keys hands on: per head of a group of four, the running maximum and the
    accumulator. -/
abbrev Carry (F : FTy → Type) : Type :=
  FVec F S1x1024 .f32 × FVec F S80x1024 .f32 × FVec F S1x1024 .f32 × FVec F S80x1024 .f32
    × FVec F S1x1024 .f32 × FVec F S80x1024 .f32 × FVec F S1x1024 .f32 × FVec F S80x1024 .f32

/-- The running maximum after a block of scores. -/
def stepM (m : FVec F S1x1024 .f32) (s : FVec F S1024x1024 .f32) : FVec F S1x1024 .f32 := k0_pay79 m s

/-- The accumulator after a block of scores and its values. -/
def stepA (m : FVec F S1x1024 .f32) (a : FVec F S80x1024 .f32) (v : Vec F S64x1024 .bf16)
    (s : FVec F S1024x1024 .f32) : FVec F S80x1024 .f32 := k0_pay81 m a (k0_pay9 v) s (k0_pay80 s)

/-- One block of keys for the four heads of a group, from its scores and values. -/
def pass (q1 q2 q3 q4 : Vec F S128x1024 .bf16) (k1 k2 k3 k4 : Vec F S1024x128 .bf16)
    (v1 v2 v3 v4 : Vec F S64x1024 .bf16) (acc : Carry F) : Carry F :=
  (stepM acc.1 (k0_pay5 q1 k1), stepA acc.1 acc.2.1 v1 (k0_pay5 q1 k1),
    stepM acc.2.2.1 (k0_pay5 q2 k2), stepA acc.2.2.1 acc.2.2.2.1 v2 (k0_pay5 q2 k2),
    stepM acc.2.2.2.2.1 (k0_pay5 q3 k3), stepA acc.2.2.2.2.1 acc.2.2.2.2.2.1 v3 (k0_pay5 q3 k3),
    stepM acc.2.2.2.2.2.2.1 (k0_pay5 q4 k4), stepA acc.2.2.2.2.2.2.1 acc.2.2.2.2.2.2.2 v4 (k0_pay5 q4 k4))

section
variable (𝒱 : Variants) (c : Dev nD) (bd : Option 𝒱.V) (i : grid0.Coords)
  (arg2 : Memref sig .tc .vmem S1024x1024 .bf16) (harg2 : arg2.IsWhole)
  (arg3 : Memref sig .tc .vmem S2048x1024 .bf16) (harg3 : arg3.IsWhole)
  (arg4 : Memref sig .tc .vmem S512x2048 .bf16) (harg4 : arg4.IsWhole)
  (arg5 : Memref sig .tc .vmem S1024x512 .bf16) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1024x1024 .f32) (harg8 : arg8.IsWhole)
  (arg9 : Memref sig .tc .vmem S1024x1024 .f32) (harg9 : arg9.IsWhole)
  (arg1 : BitVec 32) (v27 : IVec S1024x1024 32) (v41 : IVec S1024x1024 1) (v43 v44 : IVec S1024x1024 32)
  (v50 v51 v52 v53 : Vec F S128x1024 .bf16) (v67 : BitVec 32)
  (v24 v49 : IVec S1024x1024 32) (v218 v219 v220 v221 : Vec F S128x1024 .bf16)
  (v222 : FVec F S1x1024 .f32) (v223 : FVec F S80x1024 .f32) (v224 : FVec F S1x1024 .f32) (v225 : FVec F S80x1024 .f32)
  (v226 : FVec F S1x1024 .f32) (v227 : FVec F S80x1024 .f32) (v228 : FVec F S1x1024 .f32) (v229 : FVec F S80x1024 .f32)
  (c0_i32_96 v235 c1_i32_98 : BitVec 32)

/-- What a pass reads and scribbles on: the keys and the values at their contents, the four score buffers at any. -/
abbrev Held (X3 : BufTy.Contents (Elt F) arg3.view.ty) (X4 : BufTy.Contents (Elt F) arg4.view.ty) : sProp 𝕄 :=
  iprop((arg3.view.loc (c : Thread nD τ) ↦[arg3.view.set]{fullShare} X3)
    ∗ (arg4.view.loc (c : Thread nD τ) ↦[arg4.view.set]{fullShare} X4)
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f))

variable (X3 : BufTy.Contents (Elt F) arg3.view.ty) (X4 : BufTy.Contents (Elt F) arg4.view.ty)

/-- The first group's carry after block `k` of keys. -/
def R1 (k : Fin (k0_t1_loop i).trips) (acc : Carry F) : Carry F :=
  pass v50 v51 v52 v53
    (arg3.view.readAt (Elt F) (Rect.unit (s := S2048x1024) (k0_off1 i k) S1024x128.size (k0_off1_inb i k)).toLoadRect X3)
    (arg3.view.readAt (Elt F) (Rect.unit (s := S2048x1024) (k0_off3 i k) S1024x128.size (k0_off3_inb i k)).toLoadRect X3)
    (arg3.view.readAt (Elt F) (Rect.unit (s := S2048x1024) (k0_off5 i k) S1024x128.size (k0_off5_inb i k)).toLoadRect X3)
    (arg3.view.readAt (Elt F) (Rect.unit (s := S2048x1024) (k0_off7 i k) S1024x128.size (k0_off7_inb i k)).toLoadRect X3)
    (arg4.view.readAt (Elt F) (Rect.unit (s := S512x2048) (k0_off2 i k) S64x1024.size (k0_off2_inb i k)).toLoadRect X4)
    (arg4.view.readAt (Elt F) (Rect.unit (s := S512x2048) (k0_off4 i k) S64x1024.size (k0_off4_inb i k)).toLoadRect X4)
    (arg4.view.readAt (Elt F) (Rect.unit (s := S512x2048) (k0_off6 i k) S64x1024.size (k0_off6_inb i k)).toLoadRect X4)
    (arg4.view.readAt (Elt F) (Rect.unit (s := S512x2048) (k0_off8 i k) S64x1024.size (k0_off8_inb i k)).toLoadRect X4) acc

/-- One pass of the first group's loop. -/
theorem trip1 (k : Fin (k0_t1_loop i).trips) (E : Set ℕ) (acc : Carry F) :
    Held (F := F) c arg3 arg4 arg6 arg7 arg8 arg9 X3 X4
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg1 v27 v41 v43 v44 v50 v51 v52 v53 k acc)
          (fun yld => iprop(⌜yld = R1 (F := F) i arg3 arg4 v50 v51 v52 v53 X3 X4 k acc⌝ ∗ Held (F := F) c arg3 arg4 arg6 arg7 arg8 arg9 X3 X4)) := by
  unfold k0_t1_body
  iintro ⟨H3, H4, ⟨%f6, H6⟩, ⟨%f7, H7⟩, ⟨%f8, H8⟩, ⟨%f9, H9⟩⟩
  sl_exec
  sl_step
  isplitr
  · ipureintro
    sl_unfold_words
    simp only [View.readCov_cons_toLoadRect]
    rfl
  isplitl [H3]; · iexact H3
  isplitl [H4]; · iexact H4
  isplitl [H6]; · iexists _; iexact H6
  isplitl [H7]; · iexists _; iexact H7
  isplitl [H8]; · iexists _; iexact H8
  iexists _; iexact H9

/-- The first group's carry before block `n`. -/
def iter1 (init : Carry F) : ℕ → Carry F
  | 0 => init
  | n + 1 => if h : n < (k0_t1_loop i).trips then
      R1 (F := F) i arg3 arg4 v50 v51 v52 v53 X3 X4 ⟨n, h⟩ (iter1 init n) else iter1 init n

/-- One step of the recursion. -/
theorem iter1_succ (init : Carry F) (k : Fin (k0_t1_loop i).trips) :
    iter1 (F := F) i arg3 arg4 v50 v51 v52 v53 X3 X4 init (k.val + 1)
      = R1 (F := F) i arg3 arg4 v50 v51 v52 v53 X3 X4 k (iter1 (F := F) i arg3 arg4 v50 v51 v52 v53 X3 X4 init k.val) := by
  rw [iter1.eq_2]; exact dif_pos k.isLt

set_option warn.classDefReducibility false in
/-- The first group's loop by its invariant: the score buffers at any contents, the carry the recursion's. -/
@[sl_loop] def loop1 (E : Set ℕ) (init : Carry F) :
    LoopInvTy_k0_t1 (F := F) Unit ℕ (UR sig nD τ) ℕ 𝒱 c bd E i arg2 harg2 arg3 harg3 arg4 harg4 arg5 harg5 arg6 harg6 arg7 harg7 arg8 harg8 arg9 harg9 arg1 v27 v41 v43 v44 v50 v51 v52 v53 init where
  inv := fun n acc => iprop(Held (F := F) c arg3 arg4 arg6 arg7 arg8 arg9 X3 X4 ∗ ⌜acc = iter1 (F := F) i arg3 arg4 v50 v51 v52 v53 X3 X4 init n⌝)
  step k acc := by
    iintro ⟨HH, %h⟩
    subst h
    iapply (wp_wand_r Idealize.ShloMosaic.frame (wpE (defs₀ (F := F)) 𝒱 (c : Thread nD τ) bd) E)
    isplitl [HH]
    · iapply (trip1 (F := F) 𝒱 c bd i arg2 harg2 arg3 harg3 arg4 harg4 arg5 harg5 arg6 harg6 arg7 harg7 arg8 harg8 arg9 harg9 arg1 v27 v41 v43 v44 v50 v51 v52 v53 X3 X4 k E _)
      iexact HH
    iintro %y ⟨%hy, HH⟩
    isplitl [HH]
    · iexact HH
    ipureintro
    rw [iter1_succ]; exact hy

set_option warn.classDefReducibility false in
/-- The first group's second loop makes no trip. -/
@[sl_loop] def loop2 (E : Set ℕ) (init : Carry F) :
    LoopInvTy_k0_t2 (F := F) Unit ℕ (UR sig nD τ) ℕ 𝒱 c bd E i arg2 harg2 arg3 harg3 arg4 harg4 arg5 harg5 arg6 harg6 arg7 harg7 arg8 harg8 arg9 harg9 arg1 v27 v41 v43 v44 v50 v51 v52 v53 v67 init where
  inv := fun _ acc => iprop(⌜acc = init⌝)
  step k _ := (Scf.rem_no_trip _ _ k).elim

/-- The second group's carry after block `k` of keys. -/
def R3 (k : Fin (k0_t3_loop i).trips) (acc : Carry F) : Carry F :=
  pass v218 v219 v220 v221
    (arg3.view.readAt (Elt F) (Rect.unit (s := S2048x1024) (k0_off25 i k) S1024x128.size (k0_off25_inb i k)).toLoadRect X3)
    (arg3.view.readAt (Elt F) (Rect.unit (s := S2048x1024) (k0_off27 i k) S1024x128.size (k0_off27_inb i k)).toLoadRect X3)
    (arg3.view.readAt (Elt F) (Rect.unit (s := S2048x1024) (k0_off29 i k) S1024x128.size (k0_off29_inb i k)).toLoadRect X3)
    (arg3.view.readAt (Elt F) (Rect.unit (s := S2048x1024) (k0_off31 i k) S1024x128.size (k0_off31_inb i k)).toLoadRect X3)
    (arg4.view.readAt (Elt F) (Rect.unit (s := S512x2048) (k0_off26 i k) S64x1024.size (k0_off26_inb i k)).toLoadRect X4)
    (arg4.view.readAt (Elt F) (Rect.unit (s := S512x2048) (k0_off28 i k) S64x1024.size (k0_off28_inb i k)).toLoadRect X4)
    (arg4.view.readAt (Elt F) (Rect.unit (s := S512x2048) (k0_off30 i k) S64x1024.size (k0_off30_inb i k)).toLoadRect X4)
    (arg4.view.readAt (Elt F) (Rect.unit (s := S512x2048) (k0_off32 i k) S64x1024.size (k0_off32_inb i k)).toLoadRect X4) acc

/-- One pass of the second group's loop. -/
theorem trip3 (k : Fin (k0_t3_loop i).trips) (E : Set ℕ) (acc : Carry F) :
    Held (F := F) c arg3 arg4 arg6 arg7 arg8 arg9 X3 X4
      ⊢ wp frame (wpE (defs₀ (F := F)) 𝒱 (c : Thread nD τ) bd) E
          (k0_t3_body (F := F) i arg2 harg2 arg3 harg3 arg4 harg4 arg5 harg5 arg6 harg6 arg7 harg7 arg8 harg8 arg9 harg9 arg1 v24 v49 v218 v219 v220 v221 v222 v223 v224 v225 v226 v227 v228 v229 c0_i32_96 v235 c1_i32_98 k acc)
          (fun yld => iprop(⌜yld = R3 (F := F) i arg3 arg4 v218 v219 v220 v221 X3 X4 k acc⌝ ∗ Held (F := F) c arg3 arg4 arg6 arg7 arg8 arg9 X3 X4)) := by
  unfold k0_t3_body
  iintro ⟨H3, H4, ⟨%f6, H6⟩, ⟨%f7, H7⟩, ⟨%f8, H8⟩, ⟨%f9, H9⟩⟩
  sl_exec
  sl_step
  isplitr
  · ipureintro
    sl_unfold_words
    simp only [View.readCov_cons_toLoadRect]
    rfl
  isplitl [H3]; · iexact H3
  isplitl [H4]; · iexact H4
  isplitl [H6]; · iexists _; iexact H6
  isplitl [H7]; · iexists _; iexact H7
  isplitl [H8]; · iexists _; iexact H8
  iexists _; iexact H9

/-- The second group's carry before block `n`. -/
def iter3 (init : Carry F) : ℕ → Carry F
  | 0 => init
  | n + 1 => if h : n < (k0_t3_loop i).trips then
      R3 (F := F) i arg3 arg4 v218 v219 v220 v221 X3 X4 ⟨n, h⟩ (iter3 init n) else iter3 init n

/-- One step of the recursion. -/
theorem iter3_succ (init : Carry F) (k : Fin (k0_t3_loop i).trips) :
    iter3 (F := F) i arg3 arg4 v218 v219 v220 v221 X3 X4 init (k.val + 1)
      = R3 (F := F) i arg3 arg4 v218 v219 v220 v221 X3 X4 k (iter3 (F := F) i arg3 arg4 v218 v219 v220 v221 X3 X4 init k.val) := by
  rw [iter3.eq_2]; exact dif_pos k.isLt

set_option warn.classDefReducibility false in
/-- The second group's loop by its invariant: the score buffers at any contents, the carry the recursion's. -/
@[sl_loop] def loop3 (E : Set ℕ) (init : Carry F) :
    LoopInvTy_k0_t3 (F := F) Unit ℕ (UR sig nD τ) ℕ 𝒱 c bd E i arg2 harg2 arg3 harg3 arg4 harg4 arg5 harg5 arg6 harg6 arg7 harg7 arg8 harg8 arg9 harg9 arg1 v24 v49 v218 v219 v220 v221 v222 v223 v224 v225 v226 v227 v228 v229 c0_i32_96 v235 c1_i32_98 init where
  inv := fun n acc => iprop(Held (F := F) c arg3 arg4 arg6 arg7 arg8 arg9 X3 X4 ∗ ⌜acc = iter3 (F := F) i arg3 arg4 v218 v219 v220 v221 X3 X4 init n⌝)
  step k acc := by
    iintro ⟨HH, %h⟩
    subst h
    iapply (wp_wand_r Idealize.ShloMosaic.frame (wpE (defs₀ (F := F)) 𝒱 (c : Thread nD τ) bd) E)
    isplitl [HH]
    · iapply (trip3 (F := F) 𝒱 c bd i arg2 harg2 arg3 harg3 arg4 harg4 arg5 harg5 arg6 harg6 arg7 harg7 arg8 harg8 arg9 harg9 arg1 v24 v49 v218 v219 v220 v221 v222 v223 v224 v225 v226 v227 v228 v229 c0_i32_96 v235 c1_i32_98 X3 X4 k E _)
      iexact HH
    iintro %y ⟨%hy, HH⟩
    isplitl [HH]
    · iexact HH
    ipureintro
    rw [iter3_succ]; exact hy

set_option warn.classDefReducibility false in
/-- The second group's second loop makes no trip. -/
@[sl_loop] def loop4 (E : Set ℕ) (init : Carry F) :
    LoopInvTy_k0_t4 (F := F) Unit ℕ (UR sig nD τ) ℕ 𝒱 c bd E i arg2 harg2 arg3 harg3 arg4 harg4 arg5 harg5 arg6 harg6 arg7 harg7 arg8 harg8 arg9 harg9 arg1 v24 v49 v218 v219 v220 v221 v222 v223 v224 v225 v226 v227 v228 v229 c0_i32_96 v235 c1_i32_98 init where
  inv := fun _ acc => iprop(⌜acc = init⌝)
  step k _ := (Scf.rem_no_trip _ _ k).elim

end

end Cert.KernelIdeal.Attn

end
-- ==== Proof.Run.lean ====
/- The body of the attention kernel run once, over the loops' own invariants (Trips.lean). -/
module

public import proofs.«01_k».proof.Proof.Trips

@[expose] public section

-- membership in a rectangle of production extents (`View.cover_of_tiled`): a structural search
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging buffer, as pieces, with the proof that from the inputs'
    buffers at their contents the body runs to a state with them unchanged, the score buffers at some contents and
    the output's buffer with those pieces written. -/
noncomputable def kernelRun (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) :
    { L3 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mla_attn i arg2 harg2 arg3 harg3 arg4 harg4 arg5 harg5 arg6 harg6 arg7 harg7 arg8 harg8 arg9 harg9) K } := by
  refine ⟨?_, fun E K => ?run⟩
  case run =>
    simp only [cc0_mla_attn_eq_skeleton]; unfold cc0_mla_attn_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Attn

end
-- ==== Proof.Launch.lean ====
/- The launch of the attention kernel: what each grid point leaves, the body obligation, the frame run. -/
module

public import proofs.«01_k».proof.Proof.Run
public import Idealize.ShloMosaic.Lib.Pipeline.Value
public import Idealize.ShloMosaic.Lib.Claim

@[expose] public section

-- membership in a rectangle of production extents (`View.cover_of_tiled`): a structural search
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eight stores of one head each cover the output block. -/
theorem outBlk_cover (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) (y : S1024x512.Idx) :
    ∃ pc ∈ (kernelRun c i arg2 harg2 arg3 harg3 arg4 harg4 arg5 harg5 arg6 harg6 arg7 harg7 arg8 harg8 arg9 harg9 x0 x1 x2).1, y ∈ pc.1.set :=
  View.cover_of_tiledL (kernelRun c i arg2 harg2 arg3 harg3 arg4 harg4 arg5 harg5 arg6 harg6 arg7 harg7 arg8 harg8 arg9 harg9 x0 x1 x2).1 S1024x64.size (by sl_kernel_rfl) y

/-- What the body leaves in the output block: its pieces read back. -/
def outBlk (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) : Vec F S1024x512 .bf16 :=
  VO0_3.read (Elt F) (VO0_3.writes (Elt F) VO0_3.junk (kernelRun c i arg2 harg2 arg3 harg3 arg4 harg4 arg5 harg5 arg6 harg6 arg7 harg7 arg8 harg8 arg9 harg9 x0 x1 x2).1)

/-- What the output block holds after the body at point `t`. -/
def outsAt0 (c : Dev nD) (t : Fin cfg0.N) : Vec F S1024x512 .bf16 :=
  outBlk c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t)

/-- The proof data: each input keeps its block, the output is left at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- What the body finds in each input window. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold outBlk
  iintro ⟨⟨⟨HS0, HS1, HS2, HS3⟩, Hg⟩, Ho, ⟨%d0, H0⟩, ⟨%d1, H1⟩, ⟨%d2, H2⟩, ⟨%d3, H3⟩⟩
  iapply ((kernelRun c (grid0.coords t) _ _ _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%e3, H3⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outBlk_cover c _ _ _ _ _ _ _ _ _ _ _ _ _ _ _ _ _ _ _ _)

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- The launch: it terminates with every array as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What point `t` writes back. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- Distinct points have distinct output blocks. -/
theorem idx_inj3 : ∀ t t' : Fin cfg0.N, win0_3.index t = win0_3.index t' → t = t' :=
  (by decide +kernel : ∀ t t' : Fin grid0.N, win0_3.index t = win0_3.index t' → t = t')

/-- So the blocks are disjoint. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index in no block keeps its contents. -/
theorem entry3 (c : Dev nD) (i : S32768x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- The output after the run. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- The queries are kept. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The keys are kept. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The values are kept. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run with the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Attn

end
-- ==== Proof.WordLaunch.lean ====
/- The launch of the attention kernel as it is printed, over machine words: what each grid point leaves, the body obligation, the frame run. -/
module

public import proofs.«01_k».proof.Proof.WordRun
public import Idealize.ShloMosaic.Lib.Pipeline.Value
public import Idealize.ShloMosaic.Lib.Claim

@[expose] public section

-- membership in a rectangle of production extents (`View.cover_of_tiled`): a structural search
-- recurses once per coordinate of the long axes
set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eight stores of one head each cover the output block. -/
theorem outBlk_cover (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) (y : S1024x512.Idx) :
    ∃ pc ∈ (kernelRun c i arg2 harg2 arg3 harg3 arg4 harg4 arg5 harg5 arg6 harg6 arg7 harg7 arg8 harg8 arg9 harg9 x0 x1 x2).1, y ∈ pc.1.set :=
  View.cover_of_tiledL (kernelRun c i arg2 harg2 arg3 harg3 arg4 harg4 arg5 harg5 arg6 harg6 arg7 harg7 arg8 harg8 arg9 harg9 x0 x1 x2).1 S1024x64.size (by sl_kernel_rfl) y

/-- What the body leaves in the output block: its pieces read back. -/
def outBlk (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) : Vec F S1024x512 .bf16 :=
  VO0_3.read (Elt F) (VO0_3.writes (Elt F) VO0_3.junk (kernelRun c i arg2 harg2 arg3 harg3 arg4 harg4 arg5 harg5 arg6 harg6 arg7 harg7 arg8 harg8 arg9 harg9 x0 x1 x2).1)

/-- What the output block holds after the body at point `t`. -/
def outsAt0 (c : Dev nD) (t : Fin cfg0.N) : Vec F S1024x512 .bf16 :=
  outBlk c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t)

/-- The proof data: each input keeps its block, the output is left at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- What the body finds in each input window. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold outBlk
  iintro ⟨⟨⟨HS0, HS1, HS2, HS3⟩, Hg⟩, Ho, ⟨%d0, H0⟩, ⟨%d1, H1⟩, ⟨%d2, H2⟩, ⟨%d3, H3⟩⟩
  iapply ((kernelRun c (grid0.coords t) _ _ _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%e3, H3⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outBlk_cover c _ _ _ _ _ _ _ _ _ _ _ _ _ _ _ _ _ _ _ _)

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- The launch: it terminates with every array as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Attn

end
-- ==== Proof.Softmax.lean ====
/- The softmax of one row, by blocks: the algebra over the extended reals. -/
module

public import Idealize.ShloMosaic.Lib.Pointwise

@[expose] public section

noncomputable section

namespace Cert.Softmax

open Idealize.ShloMosaic

/-- The weight of a logit `l` (in base two) against the maximum `M`. -/
def wt (l M : EReal) : EReal := Ideal.exp2 (l - M)

/-- The product with a nonnegative real goes through a finite sum, whatever the terms. -/
theorem coe_mul_sum {ι : Type*} (s : Finset ι) (f : ι → EReal) {c : ℝ} (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of reals is a real. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A logit: a real, or minus infinity where the mask hides it. -/
def Logit (l : EReal) : Prop := l = ⊥ ∨ ∃ r : ℝ, l = r

/-- The weight as a real. -/
def wtR (l : EReal) (M : ℝ) : ℝ := (wt l M).toReal

theorem wt_bot (M : EReal) : wt ⊥ M = 0 := by
  unfold wt; rw [show (⊥ : EReal) - M = ⊥ from EReal.bot_sub _]; rfl

theorem wt_coe (r M : ℝ) : wt (r : EReal) M = ((2 : ℝ) ^ (r - M) : ℝ) := by
  unfold wt; rw [← EReal.coe_sub]; rfl

theorem wtR_bot (M : ℝ) : wtR ⊥ M = 0 := by unfold wtR; rw [wt_bot]; rfl

theorem wtR_coe (r M : ℝ) : wtR (r : EReal) M = (2 : ℝ) ^ (r - M) := by unfold wtR; rw [wt_coe]; exact EReal.toReal_coe _

theorem wt_eq {l : EReal} (h : Logit l) (M : ℝ) : wt l M = (wtR l M : EReal) := by
  rcases h with rfl | ⟨r, rfl⟩
  · rw [wt_bot, wtR_bot]; rfl
  · rw [wt_coe, wtR_coe]

theorem wtR_nonneg {l : EReal} (h : Logit l) (M : ℝ) : 0 ≤ wtR l M := by
  rcases h with rfl | ⟨r, rfl⟩
  · rw [wtR_bot]
  · rw [wtR_coe]; positivity

/-- The weight against a new maximum is the old weight times the correction. -/
theorem wt_shift {l : EReal} (h : Logit l) (M N : ℝ) : wt (M : EReal) N * wt l M = wt l N := by
  rcases h with rfl | ⟨r, rfl⟩
  · rw [wt_bot, wt_bot, mul_zero]
  · rw [wt_coe, wt_coe, wt_coe, ← EReal.coe_mul, ← Real.rpow_add (by norm_num)]
    congr 2; ring

/-- The first block: from an empty start the running maximum is the block's and the accumulator its weighted sum. -/
theorem first {ι : Type*} [Fintype ι] (L V : ι → EReal) :
    max ⊥ (Finset.univ.sup L) = Finset.univ.sup L
      ∧ wt ⊥ (max ⊥ (Finset.univ.sup L)) * 0 + ∑ k, V k * wt (L k) (max ⊥ (Finset.univ.sup L))
        = ∑ k, V k * wt (L k) (Finset.univ.sup L) := by
  have h : max ⊥ (Finset.univ.sup L) = Finset.univ.sup L := max_eq_right bot_le
  rw [h, mul_zero, zero_add]
  exact ⟨rfl, rfl⟩

/-- A later block: the accumulator so far, corrected, and the block's own weighted sum. -/
theorem next {ι κ : Type*} [Fintype ι] [Fintype κ] (L V : ι → EReal) (L' V' : κ → EReal) (hL : ∀ k, Logit (L k))
    {M N : ℝ} :
    wt (M : EReal) N * (∑ k, V k * wt (L k) M) + ∑ k, V' k * wt (L' k) N
      = (∑ k, V k * wt (L k) N) + ∑ k, V' k * wt (L' k) N := by
  congr 1
  have h : wt (M : EReal) N = (wtR (M : EReal) N : EReal) := wt_eq (Or.inr ⟨M, rfl⟩) N
  rw [h, coe_mul_sum _ _ (wtR_nonneg (Or.inr ⟨M, rfl⟩) N)]
  refine Finset.sum_congr rfl fun k _ => ?_
  rw [← h, mul_left_comm, wt_shift (hL k)]

/-- The supremum of logits one of which is a real is a real. -/
theorem sup_real {ι : Type*} [Fintype ι] {L : ι → EReal} (hL : ∀ k, Logit (L k)) (h : ∃ k, ∃ r : ℝ, L k = r) :
    ∃ M : ℝ, Finset.univ.sup L = M := by
  obtain ⟨k0, r, hr⟩ := h
  haveI : Nonempty ι := ⟨k0⟩
  obtain ⟨k, -, hk⟩ := Finset.exists_mem_eq_sup (Finset.univ : Finset ι) Finset.univ_nonempty L
  rcases hL k with hb | ⟨s, hs⟩
  · have := Finset.le_sup (f := L) (Finset.mem_univ k0)
    rw [hk, hb, hr, le_bot_iff] at this
    exact absurd this (EReal.coe_ne_bot r)
  · exact ⟨s, hk.trans hs⟩

/-- The exponential of the reference's logit less its maximum is the kernel's weight. -/
theorem exp_eq {l : EReal} (h : Logit l) (M : ℝ) :
    Ideal.exp (l * (Real.log 2 : ℝ) - (M : EReal) * (Real.log 2 : ℝ)) = wt l M := by
  rcases h with rfl | ⟨r, rfl⟩
  · rw [EReal.bot_mul_coe_of_pos (Real.log_pos (by norm_num)), wt_bot,
      show (⊥ : EReal) - (M : EReal) * (Real.log 2 : ℝ) = ⊥ from EReal.bot_sub _]
    rfl
  · rw [wt_coe, ← EReal.coe_mul, ← EReal.coe_mul, ← EReal.coe_sub, Ideal.exp_coe, ← sub_mul, mul_comm,
      ← Real.rpow_def_of_pos (by norm_num)]

/-- The maximum of the scaled logits is the scaled maximum. -/
theorem sup_scaled {ι : Type*} [Fintype ι] (L : ι → EReal) :
    (Finset.univ.sup fun k => L k * (Real.log 2 : ℝ)) = Finset.univ.sup L * (Real.log 2 : ℝ) := by
  have hp : (0 : ℝ) < Real.log 2 := Real.log_pos (by norm_num)
  refine (Finset.comp_sup_eq_sup_comp_of_is_total (fun x : EReal => x * (Real.log 2 : ℝ)) ?_ ?_).symm
  · intro a b hab
    exact mul_le_mul_of_nonneg_right hab (by exact_mod_cast hp.le)
  · exact EReal.bot_mul_coe_of_pos hp

/-- One row: the weighted sum over the sum of weights, as the kernel ends with, is the softmax's weighted sum. -/
theorem row {ι : Type*} [Fintype ι] (L V : ι → EReal) (hL : ∀ k, Logit (L k)) (hr : ∃ k, ∃ r : ℝ, L k = r) :
    Ideal.div (∑ k, V k * wt (L k) (Finset.univ.sup L)) (∑ k, 1 * wt (L k) (Finset.univ.sup L))
      = ∑ k, V k * Ideal.div (Ideal.exp (L k * (Real.log 2 : ℝ)
            - max ⊥ (Finset.univ.sup fun j => L j * (Real.log 2 : ℝ))))
          (∑ k', Ideal.exp (L k' * (Real.log 2 : ℝ) - max ⊥ (Finset.univ.sup fun j => L j * (Real.log 2 : ℝ)))) := by
  obtain ⟨M, hM⟩ := sup_real hL hr
  rw [sup_scaled, hM, max_eq_right bot_le]
  simp only [exp_eq (hL _), one_mul]
  have hw : ∀ k, wt (L k) M = (wtR (L k) M : EReal) := fun k => wt_eq (hL k) M
  have hpos : 0 < ∑ k, wtR (L k) M := by
    obtain ⟨k0, r, h0⟩ := hr
    refine Finset.sum_pos' (fun k _ => wtR_nonneg (hL k) M) ⟨k0, Finset.mem_univ _, ?_⟩
    rw [h0, wtR_coe]; positivity
  simp only [hw, coe_sum]
  rw [Ideal.div_coe hpos.ne', mul_comm, coe_mul_sum _ _ (by positivity)]
  refine Finset.sum_congr rfl fun k _ => ?_
  rw [Ideal.div_coe hpos.ne', mul_comm, mul_assoc]

/-- The supremum over two blocks. -/
theorem sup_two {n m : ℕ} (L : Fin (n + m) → EReal) :
    Finset.univ.sup L = max (Finset.univ.sup fun k => L (Fin.castAdd m k)) (Finset.univ.sup fun k => L (Fin.natAdd n k)) := by
  apply le_antisymm
  · refine Finset.sup_le fun k _ => ?_
    refine Fin.addCases (fun k => ?_) (fun k => ?_) k
    · exact le_max_of_le_left (Finset.le_sup (f := fun k => L (Fin.castAdd m k)) (Finset.mem_univ k))
    · exact le_max_of_le_right (Finset.le_sup (f := fun k => L (Fin.natAdd n k)) (Finset.mem_univ k))
  · refine max_le (Finset.sup_le fun k _ => ?_) (Finset.sup_le fun k _ => ?_)
    · exact Finset.le_sup (f := L) (Finset.mem_univ _)
    · exact Finset.le_sup (f := L) (Finset.mem_univ _)

/-- Only the first block seen, the second wholly hidden: the state is the whole row's. -/
theorem one_block {n m : ℕ} (L V : Fin (n + m) → EReal) (hb : ∀ k, L (Fin.natAdd n k) = ⊥) :
    (Finset.univ.sup fun k => L (Fin.castAdd m k)) = Finset.univ.sup L
      ∧ ∑ k, V (Fin.castAdd m k) * wt (L (Fin.castAdd m k)) (Finset.univ.sup L) = ∑ k, V k * wt (L k) (Finset.univ.sup L) := by
  constructor
  · rw [sup_two]; simp only [hb, Finset.sup_bot]; exact (max_eq_left bot_le).symm
  · rw [Fin.sum_univ_add (fun k => V k * wt (L k) (Finset.univ.sup L))]
    simp only [hb, wt_bot, mul_zero, Finset.sum_const_zero, add_zero]

/-- Both blocks seen, one after the other: the state is the whole row's. -/
theorem two_blocks {n m : ℕ} (L V : Fin (n + m) → EReal) (hL : ∀ k, Logit (L k))
    (hr : ∃ k, ∃ r : ℝ, L (Fin.castAdd m k) = r) :
    max (Finset.univ.sup fun k => L (Fin.castAdd m k)) (Finset.univ.sup fun k => L (Fin.natAdd n k)) = Finset.univ.sup L
      ∧ wt (Finset.univ.sup fun k => L (Fin.castAdd m k)) (Finset.univ.sup L)
            * (∑ k, V (Fin.castAdd m k) * wt (L (Fin.castAdd m k)) (Finset.univ.sup fun k => L (Fin.castAdd m k)))
          + ∑ k, V (Fin.natAdd n k) * wt (L (Fin.natAdd n k)) (Finset.univ.sup L)
        = ∑ k, V k * wt (L k) (Finset.univ.sup L) := by
  refine ⟨(sup_two L).symm, ?_⟩
  obtain ⟨M, hM⟩ := sup_real (fun k => hL (Fin.castAdd m k)) hr
  obtain ⟨N, hN⟩ := sup_real hL (hr.imp' (Fin.castAdd m) fun _ h => h)
  rw [hM, hN, next _ _ _ _ (fun k => hL _), Fin.sum_univ_add (fun k => V k * wt (L k) N)]

end Cert.Softmax

end
-- ==== Proof.Row.lean ====
/- One row of the attention as a function of the arrays: the logits, and the row's result. -/
module

public import proofs.«01_k».proof.Proof.Softmax

@[expose] public section

set_option maxRecDepth 16384

noncomputable section

namespace Cert.Row

open Idealize.ShloMosaic Cert.Softmax

/-- Minus infinity's pattern. -/
theorem ninf : Ideal.ofBits .f32 0xFF800000#32 = ⊥ := by simp [Ideal.ofBits, Ideal.ieee]
/-- The pattern of two. -/
theorem two : Ideal.ofBits .f32 0x40000000#32 = ((2 : ℝ) : EReal) := by
  simp [Ideal.ofBits, Ideal.ieee]
  rw [← EReal.coe_mul]
  norm_num

/-- The logit of key `k` for query `q` of head `h` in sequence `b`, in base two: their product where the key's chunk
    is not after the query's, minus infinity elsewhere. -/
def logit (Q : (⟨2, ![1024, 32768]⟩ : Shape).Idx → EReal) (K : (⟨2, ![32768, 1024]⟩ : Shape).Idx → EReal)
    (b : Fin 16) (h : Fin 8) (q k : Fin 2048) : EReal :=
  if k.val / 64 ≤ q.val / 64 then
    ∑ x : Fin 128, K (ix2 ⟨b.val * 2048 + k.val, by omega⟩ ⟨h.val * 128 + x.val, by omega⟩)
      * Q (ix2 ⟨h.val * 128 + x.val, by omega⟩ ⟨b.val * 2048 + q.val, by omega⟩)
  else ⊥

/-- Comparing chunk numbers as signed words is comparing them. -/
theorem sle_chunk (i j : Fin 2048) :
    IntOp.cmpi CmpIPredicate.sle (BitVec.ofNat 32 (i.val / 64)) (BitVec.ofNat 32 (j.val / 64))
      = if i.val / 64 ≤ j.val / 64 then 1#1 else 0#1 := by
  have h : ∀ a b : Fin 32, IntOp.cmpi CmpIPredicate.sle (BitVec.ofNat 32 a.val) (BitVec.ofNat 32 b.val)
      = if a.val ≤ b.val then 1#1 else 0#1 := by decide +kernel
  exact h ⟨i.val / 64, by omega⟩ ⟨j.val / 64, by omega⟩

/-- The row's result at value column `e` of head `h`: the softmax's weighted sum. -/
def out (Q : (⟨2, ![1024, 32768]⟩ : Shape).Idx → EReal) (K : (⟨2, ![32768, 1024]⟩ : Shape).Idx → EReal)
    (V : (⟨2, ![512, 32768]⟩ : Shape).Idx → EReal) (b : Fin 16) (h : Fin 8) (q : Fin 2048) (e : Fin 512) : EReal :=
  ∑ k : Fin 2048, V (ix2 e ⟨b.val * 2048 + k.val, by omega⟩)
    * Ideal.div (Ideal.exp (logit Q K b h q k * (Real.log 2 : ℝ)
        - max ⊥ (Finset.univ.sup fun j => logit Q K b h q j * (Real.log 2 : ℝ))))
      (∑ k', Ideal.exp (logit Q K b h q k' * (Real.log 2 : ℝ)
        - max ⊥ (Finset.univ.sup fun j => logit Q K b h q j * (Real.log 2 : ℝ))))

/-- With finite queries and keys every logit is a real or minus infinity, -/
theorem logit_logit (Q : (⟨2, ![1024, 32768]⟩ : Shape).Idx → EReal) (K : (⟨2, ![32768, 1024]⟩ : Shape).Idx → EReal)
    (hQ : ∀ i, ∃ r : ℝ, Q i = (r : EReal)) (hK : ∀ i, ∃ r : ℝ, K i = (r : EReal)) (b h q k) : Logit (logit Q K b h q k) := by
  unfold logit
  split
  · right
    choose Q' hQ using hQ
    choose K' hK using hK
    simp only [hQ, hK, ← EReal.coe_mul, coe_sum]
    exact ⟨_, rfl⟩
  · left; rfl

/-- and a query's logit of a key in its own chunk or before is a real. -/
theorem logit_real (Q : (⟨2, ![1024, 32768]⟩ : Shape).Idx → EReal) (K : (⟨2, ![32768, 1024]⟩ : Shape).Idx → EReal)
    (hQ : ∀ i, ∃ r : ℝ, Q i = (r : EReal)) (hK : ∀ i, ∃ r : ℝ, K i = (r : EReal)) (b h) (q k : Fin 2048)
    (hk : k.val / 64 ≤ q.val / 64) : ∃ r : ℝ, logit Q K b h q k = (r : EReal) := by
  unfold logit
  rw [if_pos hk]
  choose Q' hQ using hQ
  choose K' hK using hK
  simp only [hQ, hK, ← EReal.coe_mul, coe_sum]
  exact ⟨_, rfl⟩

end Cert.Row

end
-- ==== Proof.Score.lean ====
/- The masked scores of the attention kernel's last block of keys, at an index. -/
module

public import proofs.«01_k».proof.Proof.Trips
public import proofs.«01_k».proof.Proof.Row
public import Idealize.ShloMosaic.Lib.Pointwise

@[expose] public section

set_option maxRecDepth 16384
set_option maxHeartbeats 1000000

noncomputable section

namespace Cert.KernelIdeal.Attn

open Cert.KernelIdeal.Gen
open Idealize.ShloMosaic Idealize.ShloMosaic.Tactic Cert.Softmax

/-- The masked scores of the last block of keys. -/
def scoreM {F : FTy → Type} [FloatOps F] (q : Vec F S128x1024 .bf16) (k : Vec F S1024x128 .bf16) : FVec F S1024x1024 .f32 :=
  k0_pay85 k0_pay65 (k0_pay70 k0_pay66 k0_pay67 k0_pay68 k0_pay69) q k

/-- The rounded-down quotient by 64 the kernel spells out, of a position of a block. -/
theorem chunk_word (n : Fin 1024) :
    (Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) : BitVec 32)
      = BitVec.ofNat 32 (n.val / 64) := by
  revert n
  decide +kernel

/-- The masked scores at an index. -/
theorem scoreM_apply (q : Vec Ideal S128x1024 .bf16) (k : Vec Ideal S1024x128 .bf16) (e r : Fin 1024) :
    scoreM q k (ix2 e r) = if e.val / 64 ≤ r.val / 64 then ∑ x : Fin 128, k (ix2 e x) * q (ix2 x r) else ⊥ := by
  pointwise [scoreM, k0_pay85, k0_pay65, k0_pay70, k0_pay66, k0_pay67, k0_pay68, k0_pay69]
  rw [chunk_word, chunk_word, show ∀ w : BitVec 32, IntOp.addi w 0#32 = w from BitVec.add_zero,
    Cert.Row.sle_chunk ⟨e.val, by omega⟩ ⟨r.val, by omega⟩, Cert.Row.ninf]
  by_cases h : e.val / 64 ≤ r.val / 64
  · rw [if_pos h, if_pos h]; rfl
  · rw [if_neg h, if_neg h]; rfl

end Cert.KernelIdeal.Attn

end
-- ==== Proof.Head.lean ====
/- One head of the attention kernel at an index: a step over a block of keys, the masked last block, the division. -/
module

public import proofs.«01_k».proof.Proof.Trips
public import proofs.«01_k».proof.Proof.Score
public import Idealize.ShloMosaic.Lib.Pointwise

@[expose] public section

set_option maxRecDepth 16384
set_option maxHeartbeats 1000000

noncomputable section

namespace Cert.KernelIdeal.Attn

open Cert.KernelIdeal.Gen
open Idealize.ShloMosaic Idealize.ShloMosaic.Tactic Cert.Softmax

/-- What a head stores: the last step, over the masked scores, and the division. -/
def fin {F : FTy → Type} [FloatOps F] (q : Vec F S128x1024 .bf16) (k : Vec F S1024x128 .bf16) (v : Vec F S64x1024 .bf16)
    (m : FVec F S1x1024 .f32) (a : FVec F S80x1024 .f32) : Vec F S1024x64 .bf16 :=
  k0_pay99 (stepA m a v (scoreM q k))

/-- Unmasked scores at an index. -/
theorem score_apply (q : Vec Ideal S128x1024 .bf16) (k : Vec Ideal S1024x128 .bf16) (e r : Fin 1024) :
    k0_pay5 q k (ix2 e r) = ∑ x : Fin 128, k (ix2 e x) * q (ix2 x r) := by
  pointwise [k0_pay5]

/-- The running maximum at a query. -/
theorem stepM_apply (m : FVec Ideal S1x1024 .f32) (s : FVec Ideal S1024x1024 .f32) (r : Fin 1024) :
    stepM m s (ix2 0 r) = max (m (ix2 0 r)) (Finset.univ.sup fun x => s (ix2 x r)) := by
  have h : stepM m s (ix2 0 r)
      = max (m (ix2 0 r)) (Finset.fold max (Ideal.ofBits .f32 0xFF800000#32) (fun x => s (ix2 x r)) Finset.univ) := by
    pointwise [stepM, k0_pay79]
  rw [h, Cert.Row.ninf]
  rfl

/-- The accumulator at a query: row `e` of the values below 64, the row of ones above. -/
theorem stepA_apply (m : FVec Ideal S1x1024 .f32) (a : FVec Ideal S80x1024 .f32) (v : Vec Ideal S64x1024 .bf16)
    (s : FVec Ideal S1024x1024 .f32) (e : Fin 80) (r : Fin 1024) :
    stepA m a v s (ix2 e r) = wt (m (ix2 0 r)) (stepM m s (ix2 0 r)) * a (ix2 e r)
      + ∑ x : Fin 1024, (if h : e.val < 64 then v (ix2 ⟨e.val, h⟩ x) else 1)
          * wt (s (ix2 x r)) (stepM m s (ix2 0 r)) := by
  unfold wt stepM
  pointwise [stepA, k0_pay81, k0_pay9, k0_pay80]
  rfl

theorem fin_apply (q : Vec Ideal S128x1024 .bf16) (k : Vec Ideal S1024x128 .bf16) (v : Vec Ideal S64x1024 .bf16)
    (m : FVec Ideal S1x1024 .f32) (a : FVec Ideal S80x1024 .f32) (r : Fin 1024) (e : Fin 64) :
    fin q k v m a (ix2 r e) = Ideal.div (stepA m a v (scoreM q k) (ix2 ⟨e.val, by omega⟩ r))
      (stepA m a v (scoreM q k) (ix2 64 r)) := by
  pointwise [fin, k0_pay99]

end Cert.KernelIdeal.Attn

end
-- ==== Proof.Pieces.lean ====
/- The pieces the attention kernel stores, head by head, as functions of the three blocks it reads. -/
module

public import proofs.«01_k».proof.Proof.Launch
public import proofs.«01_k».proof.Proof.Head
public import Idealize.ShloMosaic.Lib.WholeRead

@[expose] public section

set_option maxRecDepth 16384
set_option maxHeartbeats 2000000

noncomputable section

namespace Cert.KernelIdeal.Attn

open Cert.KernelIdeal.Gen
open Idealize.ShloMosaic Idealize.ShloMosaic.Tactic

variable {F : FTy → Type} [FloatOps F]

/-- The rows of head `h` in the block of queries, -/
def Qv (x0 : Vec F S1024x1024 .bf16) (h : Fin 8) : Vec F S128x1024 .bf16 :=
  fun y => x0 (ix2 ⟨128 * h.val + (y 0).val, by have := (y 0).isLt; have : (y 0).val < 128 := this; omega⟩ (y 1))
/-- its columns in block `j` of the keys, -/
def Kv (x1 : Vec F S2048x1024 .bf16) (j : Fin 2) (h : Fin 8) : Vec F S1024x128 .bf16 :=
  fun y => x1 (ix2 ⟨1024 * j.val + (y 0).val, by have := (y 0).isLt; have : (y 0).val < 1024 := this; omega⟩
    ⟨128 * h.val + (y 1).val, by have := (y 1).isLt; have : (y 1).val < 128 := this; omega⟩)
/-- and its rows in block `j` of the values. -/
def Vv (x2 : Vec F S512x2048 .bf16) (j : Fin 2) (h : Fin 8) : Vec F S64x1024 .bf16 :=
  fun y => x2 (ix2 ⟨64 * h.val + (y 0).val, by have := (y 0).isLt; have : (y 0).val < 64 := this; omega⟩
    ⟨1024 * j.val + (y 1).val, by have := (y 1).isLt; have : (y 1).val < 1024 := this; omega⟩)

/-- What a head stores from its blocks, `n` the number of whole blocks of keys before the last. -/
def headOut (n : ℕ) (q : Vec F S128x1024 .bf16) (k0 k : Vec F S1024x128 .bf16) (v0 v : Vec F S64x1024 .bf16) : Vec F S1024x64 .bf16 :=
  if n = 0 then fin q k v k0_pay71 k0_pay72
  else fin q k v (stepM k0_pay71 (k0_pay5 q k0)) (stepA k0_pay71 k0_pay72 v0 (k0_pay5 q k0))

/-- The empty start of a group. -/
def ini : Carry F := (k0_pay71, k0_pay72, k0_pay73, k0_pay74, k0_pay75, k0_pay76, k0_pay77, k0_pay78)

/-- Where the last block of keys starts. -/
def lastOff (i : grid0.Coords) : ℕ :=
  BitVec.toNat (Scalar.indexCast (Scalar.muli (Scalar.addi (Scalar.muli (BitVec.ofNat 32 (i 1).val) 1#32) 0#32) 1024#32))

/-- How many blocks come before it. -/
def lastTrips (i : grid0.Coords) : ℕ :=
  Scf.trips (0#32) (Scalar.addi (0#32)
    (Scalar.muli (Scalar.divsi (Scalar.subi (Scalar.muli (BitVec.ofNat 32 (i 1).val) 1#32) 0#32) 1#32) 1#32)) 1#32

theorem lastOff_eq (i : grid0.Coords) : lastOff i = 1024 * (i 1).val := by
  have h : ∀ n : Fin 2, BitVec.toNat (Scalar.indexCast (Scalar.muli (Scalar.addi (Scalar.muli (BitVec.ofNat 32 n.val) 1#32) 0#32) 1024#32))
      = 1024 * n.val := by decide +kernel
  exact h (i 1)

theorem lastTrips_eq (i : grid0.Coords) : lastTrips i = (i 1).val := by
  have h : ∀ n : Fin 2, Scf.trips (0#32) (Scalar.addi (0#32)
    (Scalar.muli (Scalar.divsi (Scalar.subi (Scalar.muli (BitVec.ofNat 32 n.val) 1#32) 0#32) 1#32) 1#32)) 1#32 = n.val := by
    decide +kernel
  exact h (i 1)

theorem i1_lt (i : grid0.Coords) : (i 1).val < 2 := (i 1).isLt

theorem outInb (h : Fin 8) : ∀ a, (![0, 64 * h.val] : Fin 2 → ℕ) a + (![1024, 64] : Fin 2 → ℕ) a ≤ S1024x512.size a := by
  revert h; decide

theorem qInb (h : Fin 8) : ∀ a, (![128 * h.val, 0] : Fin 2 → ℕ) a + (![128, 1024] : Fin 2 → ℕ) a ≤ S1024x1024.size a := by
  revert h; decide

theorem kInb (i : grid0.Coords) (h : Fin 8) :
    ∀ a, (![lastOff i, 128 * h.val] : Fin 2 → ℕ) a + (![1024, 128] : Fin 2 → ℕ) a ≤ S2048x1024.size a := by
  rw [lastOff_eq]
  have H : ∀ (n : Fin 2) (h : Fin 8) a, (![1024 * n.val, 128 * h.val] : Fin 2 → ℕ) a + (![1024, 128] : Fin 2 → ℕ) a ≤ S2048x1024.size a := by
    decide
  exact H (i 1) h

theorem vInb (i : grid0.Coords) (h : Fin 8) :
    ∀ a, (![64 * h.val, lastOff i] : Fin 2 → ℕ) a + (![64, 1024] : Fin 2 → ℕ) a ≤ S512x2048.size a := by
  rw [lastOff_eq]
  have H : ∀ (n : Fin 2) (h : Fin 8) a, (![64 * h.val, 1024 * n.val] : Fin 2 → ℕ) a + (![64, 1024] : Fin 2 → ℕ) a ≤ S512x2048.size a := by
    decide
  exact H (i 1) h

/-- The kernel's loads of a head's queries, last keys and last values. -/
def ldQ (arg2 : Memref sig .tc .vmem S1024x1024 .bf16) (harg2 : arg2.IsWhole) (x0 : Vec F S1024x1024 .bf16) (h : Fin 8) : Vec F S128x1024 .bf16 :=
  View.readAt (Elt F) arg2.view (Rect.unit (s := S1024x1024) ![128 * h.val, 0] ![128, 1024] (qInb h)).toLoadRect (harg2.unread x0)
def ldK (i : grid0.Coords) (arg3 : Memref sig .tc .vmem S2048x1024 .bf16) (harg3 : arg3.IsWhole) (x1 : Vec F S2048x1024 .bf16) (h : Fin 8) : Vec F S1024x128 .bf16 :=
  View.readAt (Elt F) arg3.view (Rect.unit (s := S2048x1024) ![lastOff i, 128 * h.val] ![1024, 128] (kInb i h)).toLoadRect (harg3.unread x1)
def ldV (i : grid0.Coords) (arg4 : Memref sig .tc .vmem S512x2048 .bf16) (harg4 : arg4.IsWhole) (x2 : Vec F S512x2048 .bf16) (h : Fin 8) : Vec F S64x1024 .bf16 :=
  View.readAt (Elt F) arg4.view (Rect.unit (s := S512x2048) ![64 * h.val, lastOff i] ![64, 1024] (vInb i h)).toLoadRect (harg4.unread x2)

/-- A load through a whole memref by a unit rectangle, at an index. -/
theorem read_unit {s : Shape} {e : EltTy} (arg : Memref sig .tc .vmem s e) (harg : arg.IsWhole) (x : Vec F s e) (off size : Fin s.rank → ℕ)
    (h) (y) (z : s.Idx) (hz : ∀ a, (z a).val = off a + (y a).val) :
    View.readAt (Elt F) arg.view (Rect.unit (s := s) off size h).toLoadRect (harg.unread x) y = x z := by
  rw [Memref.IsWhole.readAt_unread]
  congr 1
  funext a
  apply Fin.ext
  rw [hz]
  show off a + 1 * (y a).val = _
  omega

theorem q_read (arg2 : Memref sig .tc .vmem S1024x1024 .bf16) (harg2 : arg2.IsWhole) (x0 : Vec F S1024x1024 .bf16)
    (h : Fin 8) (off : Fin 2 → ℕ) (inb) (e0 : off 0 = 128 * h.val) (e1 : off 1 = 0) :
    (View.readAt (Elt F) arg2.view (Rect.unit (s := S1024x1024) off ![128, 1024] inb).toLoadRect (harg2.unread x0) : Vec F S128x1024 .bf16) = Qv x0 h := by
  funext y
  refine read_unit arg2 harg2 x0 off _ inb y _ fun a => ?_
  fin_cases a
  · exact congrArg (· + _) e0.symm
  · refine Eq.trans (Nat.zero_add _).symm (congrArg (· + _) e1.symm)

theorem k_read (arg3 : Memref sig .tc .vmem S2048x1024 .bf16) (harg3 : arg3.IsWhole) (x1 : Vec F S2048x1024 .bf16)
    (j : Fin 2) (h : Fin 8) (off : Fin 2 → ℕ) (inb) (e0 : off 0 = 1024 * j.val) (e1 : off 1 = 128 * h.val) :
    (View.readAt (Elt F) arg3.view (Rect.unit (s := S2048x1024) off ![1024, 128] inb).toLoadRect (harg3.unread x1) : Vec F S1024x128 .bf16) = Kv x1 j h := by
  funext y
  refine read_unit arg3 harg3 x1 off _ inb y _ fun a => ?_
  fin_cases a
  · exact congrArg (· + _) e0.symm
  · exact congrArg (· + _) e1.symm

theorem v_read (arg4 : Memref sig .tc .vmem S512x2048 .bf16) (harg4 : arg4.IsWhole) (x2 : Vec F S512x2048 .bf16)
    (j : Fin 2) (h : Fin 8) (off : Fin 2 → ℕ) (inb) (e0 : off 0 = 64 * h.val) (e1 : off 1 = 1024 * j.val) :
    (View.readAt (Elt F) arg4.view (Rect.unit (s := S512x2048) off ![64, 1024] inb).toLoadRect (harg4.unread x2) : Vec F S64x1024 .bf16) = Vv x2 j h := by
  funext y
  refine read_unit arg4 harg4 x2 off _ inb y _ fun a => ?_
  fin_cases a
  · exact congrArg (· + _) e0.symm
  · exact congrArg (· + _) e1.symm

theorem ldQ_eq (arg2 : Memref sig .tc .vmem S1024x1024 .bf16) (harg2 : arg2.IsWhole) (x0 : Vec F S1024x1024 .bf16) (h : Fin 8) :
    ldQ arg2 harg2 x0 h = Qv x0 h := q_read arg2 harg2 x0 h _ _ rfl rfl
theorem ldK_eq (i : grid0.Coords) (arg3 : Memref sig .tc .vmem S2048x1024 .bf16) (harg3 : arg3.IsWhole) (x1 : Vec F S2048x1024 .bf16) (h : Fin 8) :
    ldK i arg3 harg3 x1 h = Kv x1 (i 1) h := k_read arg3 harg3 x1 _ h _ _ (lastOff_eq i) rfl
theorem ldV_eq (i : grid0.Coords) (arg4 : Memref sig .tc .vmem S512x2048 .bf16) (harg4 : arg4.IsWhole) (x2 : Vec F S512x2048 .bf16) (h : Fin 8) :
    ldV i arg4 harg4 x2 h = Vv x2 (i 1) h := v_read arg4 harg4 x2 _ h _ _ rfl (lastOff_eq i)

/-- The state of a group before its last block: the empty start, or one whole block passed. -/
def before4 (n : ℕ) (x0 : Vec F S1024x1024 .bf16) (x1 : Vec F S2048x1024 .bf16) (x2 : Vec F S512x2048 .bf16) (h1 h2 h3 h4 : Fin 8) : Carry F :=
  if n = 0 then ini else
    pass (Qv x0 h1) (Qv x0 h2) (Qv x0 h3) (Qv x0 h4) (Kv x1 0 h1) (Kv x1 0 h2) (Kv x1 0 h3) (Kv x1 0 h4)
      (Vv x2 0 h1) (Vv x2 0 h2) (Vv x2 0 h3) (Vv x2 0 h4) ini

theorem iter1_last (i : grid0.Coords) (arg3 : Memref sig .tc .vmem S2048x1024 .bf16) (harg3 : arg3.IsWhole) (arg4 : Memref sig .tc .vmem S512x2048 .bf16) (harg4 : arg4.IsWhole)
    (x0 : Vec F S1024x1024 .bf16) (x1 : Vec F S2048x1024 .bf16) (x2 : Vec F S512x2048 .bf16) :
    iter1 (F := F) i arg3 arg4 (Qv x0 0) (Qv x0 1) (Qv x0 2) (Qv x0 3) (harg3.unread x1) (harg4.unread x2) ini (lastTrips i)
      = before4 (i 1).val x0 x1 x2 0 1 2 3 := by
  have hT : lastTrips i = (k0_t1_loop i).trips := rfl
  rcases Nat.lt_or_ge 0 (lastTrips i) with h | h
  · have h1 : lastTrips i = 1 := by have := lastTrips_eq i; have := i1_lt i; omega
    have hk : 0 < (k0_t1_loop i).trips := hT ▸ h
    rw [h1]
    have e := iter1_succ (F := F) i arg3 arg4 (Qv x0 0) (Qv x0 1) (Qv x0 2) (Qv x0 3) (harg3.unread x1) (harg4.unread x2) ini ⟨0, hk⟩
    refine e.trans ?_
    unfold R1 before4
    rw [if_neg (by rw [← lastTrips_eq i, h1]; decide)]
    rw [k_read arg3 harg3 x1 0 0 (k0_off1 i ⟨0, hk⟩) _ rfl rfl, v_read arg4 harg4 x2 0 0 (k0_off2 i ⟨0, hk⟩) _ rfl rfl]
    rw [k_read arg3 harg3 x1 0 1 (k0_off3 i ⟨0, hk⟩) _ rfl rfl, v_read arg4 harg4 x2 0 1 (k0_off4 i ⟨0, hk⟩) _ rfl rfl]
    rw [k_read arg3 harg3 x1 0 2 (k0_off5 i ⟨0, hk⟩) _ rfl rfl, v_read arg4 harg4 x2 0 2 (k0_off6 i ⟨0, hk⟩) _ rfl rfl]
    rw [k_read arg3 harg3 x1 0 3 (k0_off7 i ⟨0, hk⟩) _ rfl rfl, v_read arg4 harg4 x2 0 3 (k0_off8 i ⟨0, hk⟩) _ rfl rfl]
    rfl
  · have h0 : lastTrips i = 0 := by omega
    rw [h0]
    unfold before4
    rw [if_pos (by rw [← lastTrips_eq i, h0])]
    rfl

theorem iter3_last (i : grid0.Coords) (arg3 : Memref sig .tc .vmem S2048x1024 .bf16) (harg3 : arg3.IsWhole) (arg4 : Memref sig .tc .vmem S512x2048 .bf16) (harg4 : arg4.IsWhole)
    (x0 : Vec F S1024x1024 .bf16) (x1 : Vec F S2048x1024 .bf16) (x2 : Vec F S512x2048 .bf16) :
    iter3 (F := F) i arg3 arg4 (Qv x0 4) (Qv x0 5) (Qv x0 6) (Qv x0 7) (harg3.unread x1) (harg4.unread x2) ini (lastTrips i)
      = before4 (i 1).val x0 x1 x2 4 5 6 7 := by
  have hT : lastTrips i = (k0_t3_loop i).trips := rfl
  rcases Nat.lt_or_ge 0 (lastTrips i) with h | h
  · have h1 : lastTrips i = 1 := by have := lastTrips_eq i; have := i1_lt i; omega
    have hk : 0 < (k0_t3_loop i).trips := hT ▸ h
    rw [h1]
    have e := iter3_succ (F := F) i arg3 arg4 (Qv x0 4) (Qv x0 5) (Qv x0 6) (Qv x0 7) (harg3.unread x1) (harg4.unread x2) ini ⟨0, hk⟩
    refine e.trans ?_
    unfold R3 before4
    rw [if_neg (by rw [← lastTrips_eq i, h1]; decide)]
    rw [k_read arg3 harg3 x1 0 4 (k0_off25 i ⟨0, hk⟩) _ rfl rfl, v_read arg4 harg4 x2 0 4 (k0_off26 i ⟨0, hk⟩) _ rfl rfl]
    rw [k_read arg3 harg3 x1 0 5 (k0_off27 i ⟨0, hk⟩) _ rfl rfl, v_read arg4 harg4 x2 0 5 (k0_off28 i ⟨0, hk⟩) _ rfl rfl]
    rw [k_read arg3 harg3 x1 0 6 (k0_off29 i ⟨0, hk⟩) _ rfl rfl, v_read arg4 harg4 x2 0 6 (k0_off30 i ⟨0, hk⟩) _ rfl rfl]
    rw [k_read arg3 harg3 x1 0 7 (k0_off31 i ⟨0, hk⟩) _ rfl rfl, v_read arg4 harg4 x2 0 7 (k0_off32 i ⟨0, hk⟩) _ rfl rfl]
    rfl
  · have h0 : lastTrips i = 0 := by omega
    rw [h0]
    unfold before4
    rw [if_pos (by rw [← lastTrips_eq i, h0])]
    rfl

/-- The stores as the run found them. -/
theorem pieces_raw (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) :
    (kernelRun c i arg2 harg2 arg3 harg3 arg4 harg4 arg5 harg5 arg6 harg6 arg7 harg7 arg8 harg8 arg9 harg9 x0 x1 x2).1
      = [⟨Rect.unit ![0, 448] ![1024, 64] (outInb 7),
        fin (ldQ arg2 harg2 x0 7) (ldK i arg3 harg3 x1 7) (ldV i arg4 harg4 x2 7) (iter3 (F := F) i arg3 arg4 (ldQ arg2 harg2 x0 4) (ldQ arg2 harg2 x0 5) (ldQ arg2 harg2 x0 6) (ldQ arg2 harg2 x0 7) (harg3.unread x1) (harg4.unread x2) ini (lastTrips i)).2.2.2.2.2.2.1 (iter3 (F := F) i arg3 arg4 (ldQ arg2 harg2 x0 4) (ldQ arg2 harg2 x0 5) (ldQ arg2 harg2 x0 6) (ldQ arg2 harg2 x0 7) (harg3.unread x1) (harg4.unread x2) ini (lastTrips i)).2.2.2.2.2.2.2⟩,
      ⟨Rect.unit ![0, 384] ![1024, 64] (outInb 6),
        fin (ldQ arg2 harg2 x0 6) (ldK i arg3 harg3 x1 6) (ldV i arg4 harg4 x2 6) (iter3 (F := F) i arg3 arg4 (ldQ arg2 harg2 x0 4) (ldQ arg2 harg2 x0 5) (ldQ arg2 harg2 x0 6) (ldQ arg2 harg2 x0 7) (harg3.unread x1) (harg4.unread x2) ini (lastTrips i)).2.2.2.2.1 (iter3 (F := F) i arg3 arg4 (ldQ arg2 harg2 x0 4) (ldQ arg2 harg2 x0 5) (ldQ arg2 harg2 x0 6) (ldQ arg2 harg2 x0 7) (harg3.unread x1) (harg4.unread x2) ini (lastTrips i)).2.2.2.2.2.1⟩,
      ⟨Rect.unit ![0, 320] ![1024, 64] (outInb 5),
        fin (ldQ arg2 harg2 x0 5) (ldK i arg3 harg3 x1 5) (ldV i arg4 harg4 x2 5) (iter3 (F := F) i arg3 arg4 (ldQ arg2 harg2 x0 4) (ldQ arg2 harg2 x0 5) (ldQ arg2 harg2 x0 6) (ldQ arg2 harg2 x0 7) (harg3.unread x1) (harg4.unread x2) ini (lastTrips i)).2.2.1 (iter3 (F := F) i arg3 arg4 (ldQ arg2 harg2 x0 4) (ldQ arg2 harg2 x0 5) (ldQ arg2 harg2 x0 6) (ldQ arg2 harg2 x0 7) (harg3.unread x1) (harg4.unread x2) ini (lastTrips i)).2.2.2.1⟩,
      ⟨Rect.unit ![0, 256] ![1024, 64] (outInb 4),
        fin (ldQ arg2 harg2 x0 4) (ldK i arg3 harg3 x1 4) (ldV i arg4 harg4 x2 4) (iter3 (F := F) i arg3 arg4 (ldQ arg2 harg2 x0 4) (ldQ arg2 harg2 x0 5) (ldQ arg2 harg2 x0 6) (ldQ arg2 harg2 x0 7) (harg3.unread x1) (harg4.unread x2) ini (lastTrips i)).1 (iter3 (F := F) i arg3 arg4 (ldQ arg2 harg2 x0 4) (ldQ arg2 harg2 x0 5) (ldQ arg2 harg2 x0 6) (ldQ arg2 harg2 x0 7) (harg3.unread x1) (harg4.unread x2) ini (lastTrips i)).2.1⟩,
      ⟨Rect.unit ![0, 192] ![1024, 64] (outInb 3),
        fin (ldQ arg2 harg2 x0 3) (ldK i arg3 harg3 x1 3) (ldV i arg4 harg4 x2 3) (iter1 (F := F) i arg3 arg4 (ldQ arg2 harg2 x0 0) (ldQ arg2 harg2 x0 1) (ldQ arg2 harg2 x0 2) (ldQ arg2 harg2 x0 3) (harg3.unread x1) (harg4.unread x2) ini (lastTrips i)).2.2.2.2.2.2.1 (iter1 (F := F) i arg3 arg4 (ldQ arg2 harg2 x0 0) (ldQ arg2 harg2 x0 1) (ldQ arg2 harg2 x0 2) (ldQ arg2 harg2 x0 3) (harg3.unread x1) (harg4.unread x2) ini (lastTrips i)).2.2.2.2.2.2.2⟩,
      ⟨Rect.unit ![0, 128] ![1024, 64] (outInb 2),
        fin (ldQ arg2 harg2 x0 2) (ldK i arg3 harg3 x1 2) (ldV i arg4 harg4 x2 2) (iter1 (F := F) i arg3 arg4 (ldQ arg2 harg2 x0 0) (ldQ arg2 harg2 x0 1) (ldQ arg2 harg2 x0 2) (ldQ arg2 harg2 x0 3) (harg3.unread x1) (harg4.unread x2) ini (lastTrips i)).2.2.2.2.1 (iter1 (F := F) i arg3 arg4 (ldQ arg2 harg2 x0 0) (ldQ arg2 harg2 x0 1) (ldQ arg2 harg2 x0 2) (ldQ arg2 harg2 x0 3) (harg3.unread x1) (harg4.unread x2) ini (lastTrips i)).2.2.2.2.2.1⟩,
      ⟨Rect.unit ![0, 64] ![1024, 64] (outInb 1),
        fin (ldQ arg2 harg2 x0 1) (ldK i arg3 harg3 x1 1) (ldV i arg4 harg4 x2 1) (iter1 (F := F) i arg3 arg4 (ldQ arg2 harg2 x0 0) (ldQ arg2 harg2 x0 1) (ldQ arg2 harg2 x0 2) (ldQ arg2 harg2 x0 3) (harg3.unread x1) (harg4.unread x2) ini (lastTrips i)).2.2.1 (iter1 (F := F) i arg3 arg4 (ldQ arg2 harg2 x0 0) (ldQ arg2 harg2 x0 1) (ldQ arg2 harg2 x0 2) (ldQ arg2 harg2 x0 3) (harg3.unread x1) (harg4.unread x2) ini (lastTrips i)).2.2.2.1⟩,
      ⟨Rect.unit ![0, 0] ![1024, 64] (outInb 0),
        fin (ldQ arg2 harg2 x0 0) (ldK i arg3 harg3 x1 0) (ldV i arg4 harg4 x2 0) (iter1 (F := F) i arg3 arg4 (ldQ arg2 harg2 x0 0) (ldQ arg2 harg2 x0 1) (ldQ arg2 harg2 x0 2) (ldQ arg2 harg2 x0 3) (harg3.unread x1) (harg4.unread x2) ini (lastTrips i)).1 (iter1 (F := F) i arg3 arg4 (ldQ arg2 harg2 x0 0) (ldQ arg2 harg2 x0 1) (ldQ arg2 harg2 x0 2) (ldQ arg2 harg2 x0 3) (harg3.unread x1) (harg4.unread x2) ini (lastTrips i)).2.1⟩] := by
  unfold kernelRun
  dsimp only
  sl_unfold_words
  simp only [View.readCov_cons_toLoadRect]
  rfl

/-- The stores as functions of the blocks. -/
theorem pieces (c : Dev nD) (i : grid0.Coords) (arg2 : Memref sig .tc .vmem S1024x1024 .bf16) (harg2 : arg2.IsWhole) (arg3 : Memref sig .tc .vmem S2048x1024 .bf16) (harg3 : arg3.IsWhole) (arg4 : Memref sig .tc .vmem S512x2048 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .bf16) (x1 : Vec F S2048x1024 .bf16) (x2 : Vec F S512x2048 .bf16) :
    (kernelRun c i arg2 harg2 arg3 harg3 arg4 harg4 arg5 harg5 arg6 harg6 arg7 harg7 arg8 harg8 arg9 harg9 x0 x1 x2).1
      = [⟨Rect.unit ![0, 448] ![1024, 64] (outInb 7), headOut (i 1).val (Qv x0 7) (Kv x1 0 7) (Kv x1 (i 1) 7) (Vv x2 0 7) (Vv x2 (i 1) 7)⟩,
      ⟨Rect.unit ![0, 384] ![1024, 64] (outInb 6), headOut (i 1).val (Qv x0 6) (Kv x1 0 6) (Kv x1 (i 1) 6) (Vv x2 0 6) (Vv x2 (i 1) 6)⟩,
      ⟨Rect.unit ![0, 320] ![1024, 64] (outInb 5), headOut (i 1).val (Qv x0 5) (Kv x1 0 5) (Kv x1 (i 1) 5) (Vv x2 0 5) (Vv x2 (i 1) 5)⟩,
      ⟨Rect.unit ![0, 256] ![1024, 64] (outInb 4), headOut (i 1).val (Qv x0 4) (Kv x1 0 4) (Kv x1 (i 1) 4) (Vv x2 0 4) (Vv x2 (i 1) 4)⟩,
      ⟨Rect.unit ![0, 192] ![1024, 64] (outInb 3), headOut (i 1).val (Qv x0 3) (Kv x1 0 3) (Kv x1 (i 1) 3) (Vv x2 0 3) (Vv x2 (i 1) 3)⟩,
      ⟨Rect.unit ![0, 128] ![1024, 64] (outInb 2), headOut (i 1).val (Qv x0 2) (Kv x1 0 2) (Kv x1 (i 1) 2) (Vv x2 0 2) (Vv x2 (i 1) 2)⟩,
      ⟨Rect.unit ![0, 64] ![1024, 64] (outInb 1), headOut (i 1).val (Qv x0 1) (Kv x1 0 1) (Kv x1 (i 1) 1) (Vv x2 0 1) (Vv x2 (i 1) 1)⟩,
      ⟨Rect.unit ![0, 0] ![1024, 64] (outInb 0), headOut (i 1).val (Qv x0 0) (Kv x1 0 0) (Kv x1 (i 1) 0) (Vv x2 0 0) (Vv x2 (i 1) 0)⟩] := by
  rw [pieces_raw]
  simp only [ldQ_eq, ldK_eq, ldV_eq, iter1_last, iter3_last]
  rcases Nat.lt_or_ge 0 (i 1).val with h | h
  · simp only [before4, headOut, if_neg (show ¬ (i 1).val = 0 by omega)]; rfl
  · simp only [before4, headOut, if_pos (show (i 1).val = 0 by omega)]; rfl

end Cert.KernelIdeal.Attn

end
-- ==== Proof.Head2.lean ====
/- What a head of the attention kernel stores is its rows' softmax: the two cases of how many blocks of keys are read. -/
module

public import proofs.«01_k».proof.Proof.Pieces

@[expose] public section

set_option maxRecDepth 16384
set_option maxHeartbeats 1000000

noncomputable section

namespace Cert.KernelIdeal.Attn

open Cert.KernelIdeal.Gen
open Idealize.ShloMosaic Idealize.ShloMosaic.Tactic Cert.Softmax

/-- Row `e` of the values with their ones below. -/
def vrow (v : Vec Ideal S64x1024 .bf16) (e : Fin 80) (x : Fin 1024) : EReal :=
  if h : e.val < 64 then v (ix2 ⟨e.val, h⟩ x) else 1

theorem empty_max (r : Fin 1024) : k0_pay71 (F := Ideal) (ix2 0 r) = ⊥ := by
  show Ideal.ofBits .f32 0xFF800000#32 = ⊥
  exact Cert.Row.ninf

theorem empty_acc (e : Fin 80) (r : Fin 1024) : k0_pay72 (F := Ideal) (ix2 e r) = 0 := by
  show Ideal.ofBits .f32 0#32 = 0
  simp [Ideal.ofBits, Ideal.ieee]

theorem first_max (s : FVec Ideal S1024x1024 .f32) (r : Fin 1024) :
    stepM k0_pay71 s (ix2 0 r) = Finset.univ.sup fun x => s (ix2 x r) := by
  rw [stepM_apply, empty_max]
  exact max_eq_right bot_le

theorem first_acc (v : Vec Ideal S64x1024 .bf16) (s : FVec Ideal S1024x1024 .f32) (e : Fin 80) (r : Fin 1024) :
    stepA k0_pay71 k0_pay72 v s (ix2 e r)
      = ∑ x : Fin 1024, vrow v e x * wt (s (ix2 x r)) (Finset.univ.sup fun x => s (ix2 x r)) := by
  rw [stepA_apply, first_max, empty_acc, mul_zero, zero_add]
  rfl

theorem second_acc (v0 v : Vec Ideal S64x1024 .bf16) (s0 s : FVec Ideal S1024x1024 .f32) (e : Fin 80) (r : Fin 1024) :
    stepA (stepM k0_pay71 s0) (stepA k0_pay71 k0_pay72 v0 s0) v s (ix2 e r)
      = wt (Finset.univ.sup fun x => s0 (ix2 x r)) (max (Finset.univ.sup fun x => s0 (ix2 x r)) (Finset.univ.sup fun x => s (ix2 x r)))
          * (∑ x : Fin 1024, vrow v0 e x * wt (s0 (ix2 x r)) (Finset.univ.sup fun x => s0 (ix2 x r)))
        + ∑ x : Fin 1024, vrow v e x * wt (s (ix2 x r))
            (max (Finset.univ.sup fun x => s0 (ix2 x r)) (Finset.univ.sup fun x => s (ix2 x r))) := by
  rw [stepA_apply, stepM_apply (stepM k0_pay71 s0), first_max, first_acc]
  rfl

/-- No whole block before: the row's logits are the masked block's, then all hidden. -/
theorem headOut_zero (q : Vec Ideal S128x1024 .bf16) (k0 k : Vec Ideal S1024x128 .bf16) (v0 v : Vec Ideal S64x1024 .bf16)
    (r : Fin 1024) (d : Fin 64) (L V : Fin (1024 + 1024) → EReal) (hL : ∀ k, Logit (L k)) (hr : ∃ k, ∃ r : ℝ, L k = r)
    (h0 : ∀ x, L (Fin.castAdd 1024 x) = scoreM q k (ix2 x r)) (h1 : ∀ x, L (Fin.natAdd 1024 x) = ⊥)
    (hV : ∀ x, V (Fin.castAdd 1024 x) = v (ix2 d x)) :
    headOut 0 q k0 k v0 v (ix2 r d)
      = ∑ k, V k * Ideal.div (Ideal.exp (L k * (Real.log 2 : ℝ)
            - max ⊥ (Finset.univ.sup fun j => L j * (Real.log 2 : ℝ))))
          (∑ k', Ideal.exp (L k' * (Real.log 2 : ℝ) - max ⊥ (Finset.univ.sup fun j => L j * (Real.log 2 : ℝ)))) := by
  rw [← row L V hL hr]
  unfold headOut
  rw [if_pos rfl, fin_apply, first_acc, first_acc]
  obtain ⟨hs, hw⟩ := one_block L V h1
  obtain ⟨-, ho⟩ := one_block L (fun _ => 1) h1
  rw [← hw, ← ho, ← hs]
  simp only [h0, hV]
  congr 1
  · refine Finset.sum_congr rfl fun x _ => ?_
    unfold vrow
    rw [dif_pos (show (⟨d.val, _⟩ : Fin 80).val < 64 from d.isLt)]

/-- One whole block before, unmasked, then the masked one. -/
theorem headOut_one (q : Vec Ideal S128x1024 .bf16) (k0 k : Vec Ideal S1024x128 .bf16) (v0 v : Vec Ideal S64x1024 .bf16)
    (r : Fin 1024) (d : Fin 64) (L V : Fin (1024 + 1024) → EReal) (hL : ∀ k, Logit (L k))
    (hr : ∃ k, ∃ r : ℝ, L (Fin.castAdd 1024 k) = r)
    (h0 : ∀ x, L (Fin.castAdd 1024 x) = k0_pay5 q k0 (ix2 x r)) (h1 : ∀ x, L (Fin.natAdd 1024 x) = scoreM q k (ix2 x r))
    (hV0 : ∀ x, V (Fin.castAdd 1024 x) = v0 (ix2 d x)) (hV1 : ∀ x, V (Fin.natAdd 1024 x) = v (ix2 d x)) :
    headOut 1 q k0 k v0 v (ix2 r d)
      = ∑ k, V k * Ideal.div (Ideal.exp (L k * (Real.log 2 : ℝ)
            - max ⊥ (Finset.univ.sup fun j => L j * (Real.log 2 : ℝ))))
          (∑ k', Ideal.exp (L k' * (Real.log 2 : ℝ) - max ⊥ (Finset.univ.sup fun j => L j * (Real.log 2 : ℝ)))) := by
  rw [← row L V hL (hr.imp' (Fin.castAdd 1024) fun _ h => h)]
  unfold headOut
  rw [if_neg (by decide), fin_apply, second_acc, second_acc]
  obtain ⟨hs, hw⟩ := two_blocks L V hL hr
  obtain ⟨-, ho⟩ := two_blocks L (fun _ => 1) hL hr
  rw [← hw, ← ho, ← hs]
  simp only [h0, h1, hV0, hV1]
  have e : ∀ (v : Vec Ideal S64x1024 .bf16) x, vrow v ⟨d.val, by omega⟩ x = v (ix2 d x) := fun v x => by
    unfold vrow
    rw [dif_pos (show (⟨d.val, _⟩ : Fin 80).val < 64 from d.isLt)]
  simp only [e]
  rfl

end Cert.KernelIdeal.Attn

end
-- ==== Proof.Value.lean ====
/- The attention kernel's result array, under finite queries and keys: every row's softmax. -/
module

public import proofs.«01_k».proof.Proof.Head2
public import Idealize.ShloMosaic.Lib.Pipeline.ValueKit

@[expose] public section

set_option maxRecDepth 16384
set_option maxHeartbeats 1000000

noncomputable section

namespace Cert.KernelIdeal.Attn

open Cert.KernelIdeal.Gen
open Idealize.ShloMosaic Idealize.ShloMosaic.TcCoe Idealize.ShloMosaic.Tactic Cert.Softmax
open Idealize.SL Idealize.SL.Sem

variable (m : (ℓ : Loc nD τ sig) → Buf (Elt Ideal) ℓ)

/-- The output block as one function of the three blocks: column `64 h + d` is head `h`'s. -/
def blkOut (n : Fin 2) (x0 : Vec Ideal S1024x1024 .bf16) (x1 : Vec Ideal S2048x1024 .bf16) (x2 : Vec Ideal S512x2048 .bf16) :
    Vec Ideal S1024x512 .bf16 := fun y =>
  have hy : (y 1).val < 512 := (y 1).isLt
  headOut n.val (Qv x0 ⟨(y 1).val / 64, by omega⟩) (Kv x1 0 ⟨(y 1).val / 64, by omega⟩) (Kv x1 n ⟨(y 1).val / 64, by omega⟩)
    (Vv x2 0 ⟨(y 1).val / 64, by omega⟩) (Vv x2 n ⟨(y 1).val / 64, by omega⟩) (ix2 (y 0) ⟨(y 1).val % 64, by omega⟩)

/-- A head's piece is the block's part at its columns. -/
theorem piece_eq (n : Fin 2) (x0 : Vec Ideal S1024x1024 .bf16) (x1 : Vec Ideal S2048x1024 .bf16) (x2 : Vec Ideal S512x2048 .bf16)
    (h : Fin 8) (off : Fin 2 → ℕ) (inb) (e0 : off 0 = 0) (e1 : off 1 = 64 * h.val) (x : S1024x64.Idx) :
    headOut n.val (Qv x0 h) (Kv x1 0 h) (Kv x1 n h) (Vv x2 0 h) (Vv x2 n h) x
      = blkOut n x0 x1 x2 ((Rect.unit (s := S1024x512) off ![1024, 64] inb).emb x) := by
  have hx : (x 1).val < 64 := (x 1).isLt
  have c1 : ((Rect.unit (s := S1024x512) off ![1024, 64] inb).emb x 1).val = off 1 + 1 * (x 1).val := rfl
  have c0 : ((Rect.unit (s := S1024x512) off ![1024, 64] inb).emb x 0).val = off 0 + 1 * (x 0).val := rfl
  unfold blkOut
  dsimp only
  have eh : (⟨((Rect.unit (s := S1024x512) off ![1024, 64] inb).emb x 1).val / 64, by omega⟩ : Fin 8) = h := by
    apply Fin.ext
    show ((Rect.unit (s := S1024x512) off ![1024, 64] inb).emb x 1).val / 64 = h.val
    rw [c1, e1]; omega
  rw [eh]
  congr 1
  funext a
  fin_cases a
  · apply Fin.ext
    show (x 0).val = ((Rect.unit (s := S1024x512) off ![1024, 64] inb).emb x 0).val
    rw [c0, e0]; omega
  · apply Fin.ext
    show (x 1).val = ((Rect.unit (s := S1024x512) off ![1024, 64] inb).emb x 1).val % 64
    rw [c1, e1]; omega

/-- What the body leaves in the output block. -/
theorem outsAt_eq (c : Dev nD) (t : Fin cfg0.N) :
    outsAt0 m c t = blkOut (grid0.coords t 1) (iblk m c 0 t) (iblk m c 1 t) (iblk m c 2 t) := by
  funext y
  unfold outsAt0 outBlk
  have hcov := outBlk_cover (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) y
  rw [View.read_writes_junk_eq_canon]
  refine View.canon_apply_of_pieces _ _ ?_ y hcov
  rw [pieces]
  intro p hp
  simp only [List.mem_cons, List.not_mem_nil, or_false] at hp
  rcases hp with rfl | rfl | rfl | rfl | rfl | rfl | rfl | rfl
  · exact fun x => piece_eq _ _ _ _ 7 _ (outInb 7) rfl rfl x
  · exact fun x => piece_eq _ _ _ _ 6 _ (outInb 6) rfl rfl x
  · exact fun x => piece_eq _ _ _ _ 5 _ (outInb 5) rfl rfl x
  · exact fun x => piece_eq _ _ _ _ 4 _ (outInb 4) rfl rfl x
  · exact fun x => piece_eq _ _ _ _ 3 _ (outInb 3) rfl rfl x
  · exact fun x => piece_eq _ _ _ _ 2 _ (outInb 2) rfl rfl x
  · exact fun x => piece_eq _ _ _ _ 1 _ (outInb 1) rfl rfl x
  · exact fun x => piece_eq _ _ _ _ 0 _ (outInb 0) rfl rfl x

theorem index0 : ∀ t : Fin cfg0.N, win0_0.index t = ![0, t.val] := (by decide +kernel : ∀ t : Fin grid0.N, _)
theorem index1 : ∀ t : Fin cfg0.N, win0_1.index t = ![t.val / 2, 0] := (by decide +kernel : ∀ t : Fin grid0.N, _)
theorem index2 : ∀ t : Fin cfg0.N, win0_2.index t = ![0, t.val / 2] := (by decide +kernel : ∀ t : Fin grid0.N, _)
theorem index3 : ∀ t : Fin cfg0.N, win0_3.index t = ![t.val, 0] := (by decide +kernel : ∀ t : Fin grid0.N, _)
theorem coord1 : ∀ t : Fin cfg0.N, (grid0.coords t 1).val = t.val % 2 := (by decide +kernel : ∀ t : Fin grid0.N, _)

/-- The result array. -/
def result (Q : Vec Ideal S1024x32768 .bf16) (K : Vec Ideal S32768x1024 .bf16) (V : Vec Ideal S512x32768 .bf16) : Vec Ideal S32768x512 .bf16 :=
  fun y => Cert.Row.out Q K V ⟨(y 0).val / 2048, by have : (y 0).val < 32768 := (y 0).isLt; omega⟩
    ⟨(y 1).val / 64, by have : (y 1).val < 512 := (y 1).isLt; omega⟩
    ⟨(y 0).val % 2048, by omega⟩ (y 1)

/-- The block of queries at an index, of keys, and of values. -/
theorem iblk0_apply (c : Dev nD) (t : Fin cfg0.N) (a b : Fin 1024) :
    iblk m c 0 t (ix2 a b) = m ((c : Thread nD τ).loc main_arg0) (ix2 a ⟨t.val * 1024 + b.val, by have : t.val < 32 := t.isLt; omega⟩) := by
  have : t.val < 32 := t.isLt
  rw [← V_main_arg0 m c]
  blk_simp [iblk]
  blk_ext [index0]

theorem iblk1_apply (c : Dev nD) (t : Fin cfg0.N) (a : Fin 2048) (b : Fin 1024) :
    iblk m c 1 t (ix2 a b) = m ((c : Thread nD τ).loc main_arg1) (ix2 ⟨t.val / 2 * 2048 + a.val, by have : t.val < 32 := t.isLt; omega⟩ b) := by
  have : t.val < 32 := t.isLt
  rw [← V_main_arg1 m c]
  blk_simp [iblk]
  blk_ext [index1]

theorem iblk2_apply (c : Dev nD) (t : Fin cfg0.N) (a : Fin 512) (b : Fin 2048) :
    iblk m c 2 t (ix2 a b) = m ((c : Thread nD τ).loc main_arg2) (ix2 a ⟨t.val / 2 * 2048 + b.val, by have : t.val < 32 := t.isLt; omega⟩) := by
  have : t.val < 32 := t.isLt
  rw [← V_main_arg2 m c]
  blk_simp [iblk]
  blk_ext [index2]

/-- One term of a score: key `x` of block `j` against query `r` of the point's block. -/
theorem term_eq (c : Dev nD) (t : Fin cfg0.N) (h : Fin 8) (j : Fin 2) (x r : Fin 1024) (z : Fin 128) (b : Fin 16) (q k : Fin 2048)
    (hb : b.val = t.val / 2) (hq : q.val = t.val % 2 * 1024 + r.val) (hk : k.val = 1024 * j.val + x.val) :
    Kv (iblk m c 1 t) j h (ix2 x z) * Qv (iblk m c 0 t) h (ix2 z r)
      = @HMul.hMul EReal EReal EReal _
          (m ((c : Thread nD τ).loc main_arg1) (ix2 ⟨b.val * 2048 + k.val, by omega⟩ ⟨h.val * 128 + z.val, by omega⟩))
          (m ((c : Thread nD τ).loc main_arg0) (ix2 ⟨h.val * 128 + z.val, by omega⟩ ⟨b.val * 2048 + q.val, by omega⟩)) := by
  have e1 : Kv (iblk m c 1 t) j h (ix2 x z)
      = m ((c : Thread nD τ).loc main_arg1) (ix2 ⟨b.val * 2048 + k.val, by omega⟩ ⟨h.val * 128 + z.val, by omega⟩) := by
    refine (iblk1_apply m c t ⟨1024 * j.val + x.val, by omega⟩ ⟨128 * h.val + z.val, by omega⟩).trans (congrArg _ ?_)
    congr 1 <;> apply Fin.ext <;> dsimp only <;> omega
  have e0 : Qv (iblk m c 0 t) h (ix2 z r)
      = m ((c : Thread nD τ).loc main_arg0) (ix2 ⟨h.val * 128 + z.val, by omega⟩ ⟨b.val * 2048 + q.val, by omega⟩) := by
    refine (iblk0_apply m c t ⟨128 * h.val + z.val, by omega⟩ r).trans (congrArg _ ?_)
    congr 1 <;> apply Fin.ext <;> dsimp only <;> omega
  rw [e1, e0]

/-- One value. -/
theorem value_eq (c : Dev nD) (t : Fin cfg0.N) (h : Fin 8) (j : Fin 2) (x : Fin 1024) (d : Fin 64) (b : Fin 16) (k : Fin 2048) (e : Fin 512)
    (hb : b.val = t.val / 2) (hk : k.val = 1024 * j.val + x.val) (he : e.val = 64 * h.val + d.val) :
    m ((c : Thread nD τ).loc main_arg2) (ix2 e ⟨b.val * 2048 + k.val, by omega⟩) = Vv (iblk m c 2 t) j h (ix2 d x) := by
  refine Eq.symm ((iblk2_apply m c t ⟨64 * h.val + d.val, by omega⟩ ⟨1024 * j.val + x.val, by omega⟩).trans (congrArg _ ?_))
  congr 1 <;> apply Fin.ext <;> dsimp only <;> omega

/-- The logits of the last block are the kernel's masked scores, -/
theorem last_eq (c : Dev nD) (t : Fin cfg0.N) (h : Fin 8) (j : Fin 2) (x r : Fin 1024) (b : Fin 16) (q k : Fin 2048)
    (hb : b.val = t.val / 2) (hj : j.val = t.val % 2) (hq : q.val = t.val % 2 * 1024 + r.val) (hk : k.val = 1024 * j.val + x.val) :
    Cert.Row.logit (m ((c : Thread nD τ).loc main_arg0)) (m ((c : Thread nD τ).loc main_arg1)) b h q k
      = scoreM (Qv (iblk m c 0 t) h) (Kv (iblk m c 1 t) j h) (ix2 x r) := by
  rw [scoreM_apply]
  unfold Cert.Row.logit
  by_cases hm : x.val / 64 ≤ r.val / 64
  · rw [if_pos hm, if_pos (by omega)]
    exact Finset.sum_congr rfl fun z _ => (term_eq m c t h j x r z b q k hb hq hk).symm
  · rw [if_neg hm, if_neg (by omega)]

/-- and those of a block before it the unmasked ones. -/
theorem first_eq (c : Dev nD) (t : Fin cfg0.N) (h : Fin 8) (j : Fin 2) (x r : Fin 1024) (b : Fin 16) (q k : Fin 2048)
    (hb : b.val = t.val / 2) (hj : j.val < t.val % 2) (hq : q.val = t.val % 2 * 1024 + r.val) (hk : k.val = 1024 * j.val + x.val) :
    Cert.Row.logit (m ((c : Thread nD τ).loc main_arg0)) (m ((c : Thread nD τ).loc main_arg1)) b h q k
      = k0_pay5 (Qv (iblk m c 0 t) h) (Kv (iblk m c 1 t) j h) (ix2 x r) := by
  rw [score_apply]
  unfold Cert.Row.logit
  rw [if_pos (by omega)]
  exact Finset.sum_congr rfl fun z _ => (term_eq m c t h j x r z b q k hb hq hk).symm

/-- An element of the block the body leaves is its row's softmax. -/
theorem block_row (hQ : ∀ (c : Dev nD) i, ∃ r : ℝ, m ((c : Thread nD τ).loc main_arg0) i = (r : EReal))
    (hK : ∀ (c : Dev nD) i, ∃ r : ℝ, m ((c : Thread nD τ).loc main_arg1) i = (r : EReal))
    (c : Dev nD) (t : Fin cfg0.N) (h : Fin 8) (r : Fin 1024) (d : Fin 64) (b : Fin 16) (q : Fin 2048) (e : Fin 512)
    (hb : b.val = t.val / 2) (hq : q.val = t.val % 2 * 1024 + r.val) (he : e.val = 64 * h.val + d.val) :
    headOut (grid0.coords t 1).val (Qv (iblk m c 0 t) h) (Kv (iblk m c 1 t) 0 h) (Kv (iblk m c 1 t) (grid0.coords t 1) h)
        (Vv (iblk m c 2 t) 0 h) (Vv (iblk m c 2 t) (grid0.coords t 1) h) (ix2 r d)
      = Cert.Row.out (m ((c : Thread nD τ).loc main_arg0)) (m ((c : Thread nD τ).loc main_arg1)) (m ((c : Thread nD τ).loc main_arg2)) b h q e := by
  have hL := Cert.Row.logit_logit _ _ (hQ c) (hK c) b h q
  rcases Nat.lt_or_ge 0 (t.val % 2) with hn | hn
  · have h1 : (grid0.coords t 1).val = 1 := by rw [coord1]; omega
    have h1' : (grid0.coords t 1) = (1 : Fin 2) := Fin.ext h1
    rw [h1, h1']
    refine headOut_one _ _ _ _ _ r d (fun k : Fin 2048 => Cert.Row.logit (m ((c : Thread nD τ).loc main_arg0)) (m ((c : Thread nD τ).loc main_arg1)) b h q k)
      (fun k : Fin 2048 => m ((c : Thread nD τ).loc main_arg2) (ix2 e ⟨b.val * 2048 + k.val, by omega⟩)) hL ?_ ?_ ?_ ?_ ?_
    · exact ⟨0, Cert.Row.logit_real _ _ (hQ c) (hK c) b h q _ (by simp)⟩
    · exact fun x => first_eq m c t h 0 x r b q _ hb hn hq (by simp)
    · exact fun x => last_eq m c t h 1 x r b q _ hb (by show 1 = _; omega) hq (by show 1024 + x.val = 1024 * 1 + x.val; omega)
    · exact fun x => value_eq m c t h 0 x d b _ e hb (by simp) he
    · exact fun x => value_eq m c t h 1 x d b _ e hb (by show 1024 + x.val = 1024 * 1 + x.val; omega) he
  · have h0 : (grid0.coords t 1).val = 0 := by rw [coord1]; omega
    have h0' : (grid0.coords t 1) = (0 : Fin 2) := Fin.ext h0
    rw [h0, h0']
    refine headOut_zero _ _ _ _ _ r d (fun k : Fin 2048 => Cert.Row.logit (m ((c : Thread nD τ).loc main_arg0)) (m ((c : Thread nD τ).loc main_arg1)) b h q k)
      (fun k : Fin 2048 => m ((c : Thread nD τ).loc main_arg2) (ix2 e ⟨b.val * 2048 + k.val, by omega⟩)) hL ?_ ?_ ?_ ?_
    · exact ⟨(0 : Fin 2048), Cert.Row.logit_real _ _ (hQ c) (hK c) b h q _ (by simp)⟩
    · exact fun x => last_eq m c t h 0 x r b q _ hb (by show 0 = _; omega) hq (by simp)
    · intro x
      show Cert.Row.logit _ _ b h q ⟨1024 + x.val, by omega⟩ = ⊥
      unfold Cert.Row.logit
      rw [if_neg (by dsimp only; omega)]
    · exact fun x => value_eq m c t h 0 x d b _ e hb (by simp) he

/-- What the body leaves, at an index of the block placed in the array. -/
theorem point_eq (hQ : ∀ (c : Dev nD) i, ∃ r : ℝ, m ((c : Thread nD τ).loc main_arg0) i = (r : EReal))
    (hK : ∀ (c : Dev nD) i, ∃ r : ℝ, m ((c : Thread nD τ).loc main_arg1) i = (r : EReal)) (c : Dev nD) (t : Fin cfg0.N)
    (y : S1024x512.Idx) (i : S32768x512.Idx) (e0 : (i 0).val = t.val * 1024 + (y 0).val) (e1 : (i 1).val = (y 1).val) :
    outsAt0 m c t y
      = result (m ((c : Thread nD τ).loc main_arg0)) (m ((c : Thread nD τ).loc main_arg1)) (m ((c : Thread nD τ).loc main_arg2)) i := by
  rw [outsAt_eq]
  have ht : t.val < 32 := t.isLt
  have y0 : (y 0).val < 1024 := (y 0).isLt
  have y1 : (y 1).val < 512 := (y 1).isLt
  have i0 : (i 0).val < 32768 := (i 0).isLt
  have i1 : (i 1).val < 512 := (i 1).isLt
  unfold blkOut result
  have eh : (⟨(i 1).val / 64, by omega⟩ : Fin 8) = ⟨(y 1).val / 64, by omega⟩ := Fin.ext (by dsimp only; omega)
  rw [eh]
  exact block_row m hQ hK c t ⟨(y 1).val / 64, by omega⟩ (y 0) ⟨(y 1).val % 64, by omega⟩ ⟨(i 0).val / 2048, by omega⟩
    ⟨(i 0).val % 2048, by omega⟩ (i 1) (by dsimp only; omega) (by dsimp only; omega) (by dsimp only; omega)

/-- The output array after the run. -/
theorem final (hQ : ∀ (c : Dev nD) i, ∃ r : ℝ, m ((c : Thread nD τ).loc main_arg0) i = (r : EReal))
    (hK : ∀ (c : Dev nD) i, ∃ r : ℝ, m ((c : Thread nD τ).loc main_arg1) i = (r : EReal)) (c : Dev nD) :
    (dats m 0 c).arrAt 3 cfg0.N
      = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point_eq m hQ hK c t y _ (by blk_simp [index3]) (by blk_simp [index3])

end Cert.KernelIdeal.Attn

end
-- ==== Proof.Reference.lean ====
/- The reference's result, element by element. -/
module

public import proofs.«01_k».proof.Proof.Gen.ReferenceIdeal.Run
public import Idealize.ShloMosaic.Lib.Pointwise
public import proofs.«01_k».proof.Proof.Row

@[expose] public section

set_option maxRecDepth 16384
set_option maxHeartbeats 1000000

noncomputable section

namespace Cert.ReferenceIdeal.Attn

open Cert.ReferenceIdeal Cert.ReferenceIdeal.Gen Facts
open Idealize.ShloMosaic Idealize.ShloMosaic.TcCoe Idealize.ShloMosaic.Tactic Idealize.SL.Sem

/-- The chunk of 64 positions each position lies in, as the reference computes it. -/
def refChunk : IVec S2048 32 :=
  (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))

/-- The masked logits. -/
def refScore (Q : FVec Ideal S1024x32768 .bf16) (K : FVec Ideal S32768x1024 .bf16) : FVec Ideal S16x8x2048x2048 .f32 :=
  (select (broadcastInDim S16x8x2048x2048 ![0, 1, 2, 3] bcast_S1x1x2048x2048_S16x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 refChunk)) (broadcastInDim S2048x2048 ![0, 1] bcast_S2048x1_S2048x2048_0_1 (broadcastInDim S2048x1 ![0] bcast_S2048_S2048x1_0 refChunk))))) (mulf (Host.dotGeneral dot_S8x128x16x2048_S16x2048x8x128_S16x8x2048x2048_1_3_3_1_20_02 none (shapeCast _ (extf .f32 Q bitsLt_bf16_f32) shapeCasts_S1024x32768_S8x128x16x2048) (shapeCast _ (extf .f32 K bitsLt_bf16_f32) shapeCasts_S32768x1024_S16x2048x8x128)) (broadcastInDim S16x8x2048x2048 ![] bcast_S_S16x8x2048x2048 (Host.log (constant S_ .f32 0x40000000#32)))) (broadcastInDim S16x8x2048x2048 ![] bcast_S_S16x8x2048x2048 (id (constant S_ .f32 0xFF800000#32))))

/-- The maximum of each row. -/
def refMax (s : FVec Ideal S16x8x2048x2048 .f32) : FVec Ideal S16x8x2048 .f32 :=
  Host.reduce FloatOps.maximumf s (constant S_ .f32 0xFF800000#32) reducesTo_S16x8x2048x2048_S16x8x2048_d3 h_S_

/-- The row maximum as the softmax takes it: not below minus infinity. -/
def refTop (s : FVec Ideal S16x8x2048x2048 .f32) : FVec Ideal S16x8x2048 .f32 :=
  maximumf (broadcastInDim S16x8x2048 ![] bcast_S_S16x8x2048 (constant S_ .f32 0xFF800000#32)) (refMax s)

/-- The exponentials of the logits less their row's maximum. -/
def refExp (s : FVec Ideal S16x8x2048x2048 .f32) : FVec Ideal S16x8x2048x2048 .f32 :=
  (Host.exp (subf s (broadcastInDim S16x8x2048x2048 ![0, 1, 2, 3] bcast_S16x8x2048x1_S16x8x2048x2048_0_1_2_3 (broadcastInDim S16x8x2048x1 ![0, 1, 2] bcast_S16x8x2048_S16x8x2048x1_0_1_2 (refTop s)))))

/-- The softmax of each row. -/
def refSoft (s : FVec Ideal S16x8x2048x2048 .f32) : FVec Ideal S16x8x2048x2048 .f32 :=
  (Host.divf (refExp s) (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd (refExp s) (constant S_ .f32 0x00000000#32) reducesTo_S16x8x2048x2048_S16x8x2048_d3 h_S_))))

/-- The reference's result. -/
def refOut (Q : FVec Ideal S1024x32768 .bf16) (K : FVec Ideal S32768x1024 .bf16) (V : FVec Ideal S512x32768 .bf16) : FVec Ideal S32768x512 .bf16 :=
  truncf .bf16 (shapeCast _ (transpose S16x2048x8x64 [0, 3, 1, 2] (Host.dotGeneral dot_S8x64x16x2048_S16x8x2048x2048_S16x8x64x2048_3_3_1_2_20_01 none (shapeCast _ (extf .f32 V bitsLt_bf16_f32) shapeCasts_S512x32768_S8x64x16x2048) (refSoft (refScore Q K))) transposes_S16x8x64x2048_S16x2048x8x64_0_3_1_2) shapeCasts_S16x2048x8x64_S32768x512) bitsLt_bf16_f32

/-- The run's result term is that function of the arguments. -/
theorem res_eq (m : (ℓ : Loc nD τ sig) → Buf (Elt Ideal) ℓ) (c : Dev nD) :
    Value.res_main_v33 m c = refOut (m ((c.tc : Thread nD τ).loc main_arg0)) (m ((c.tc : Thread nD τ).loc main_arg1))
      (m ((c.tc : Thread nD τ).loc main_arg2)) := by
  unfold Value.res_main_v33; rfl

/-- The chunk number is the position's quotient by 64. -/
theorem refChunk_apply (i : Fin 2048) : refChunk (ix1 i) = BitVec.ofNat 32 (i.val / 64) := by
  pointwise [refChunk]
  revert i
  decide +kernel

/-- The row maximum is the supremum. -/
theorem refMax_apply (s : FVec Ideal S16x8x2048x2048 .f32) (b : Fin 16) (h : Fin 8) (q : Fin 2048) :
    refMax s (ix3 b h q) = Finset.univ.sup fun k => s (ix4 b h q k) := by
  unfold refMax
  rw [Host.reduce_eq_fold, Shape.ReducesTo.fold_fiber_r4_a3]
  show Finset.univ.fold max (Ideal.ofBits .f32 0xFF800000#32) _ = _
  rw [Cert.Row.ninf]
  rfl

theorem refTop_apply (s : FVec Ideal S16x8x2048x2048 .f32) (b : Fin 16) (h : Fin 8) (q : Fin 2048) :
    refTop s (ix3 b h q) = max ⊥ (Finset.univ.sup fun k => s (ix4 b h q k)) := by
  unfold refTop
  rw [maximumf_apply, refMax_apply]
  show max (Ideal.ofBits .f32 0xFF800000#32) _ = _
  rw [Cert.Row.ninf]

theorem refExp_apply (s : FVec Ideal S16x8x2048x2048 .f32) (b : Fin 16) (h : Fin 8) (q k : Fin 2048) :
    refExp s (ix4 b h q k) = Ideal.exp (s (ix4 b h q k) - max ⊥ (Finset.univ.sup fun j => s (ix4 b h q j))) := by
  rw [← refTop_apply]
  pointwise [refExp]

theorem refSoft_apply (s : FVec Ideal S16x8x2048x2048 .f32) (b : Fin 16) (h : Fin 8) (q k : Fin 2048) :
    refSoft s (ix4 b h q k) = Ideal.div (refExp s (ix4 b h q k)) (∑ x, refExp s (ix4 b h q x)) := by
  pointwise [refSoft]

/-- The logarithm of two. -/
theorem log_two : Ideal.log (Ideal.ofBits .f32 0x40000000#32) = ((Real.log 2 : ℝ) : EReal) := by
  rw [Cert.Row.two]
  show (if (2 : ℝ) ≤ 0 then ⊥ else ((Real.log 2 : ℝ) : EReal)) = _
  rw [if_neg (by norm_num)]

theorem refScore_apply (Q : FVec Ideal S1024x32768 .bf16) (K : FVec Ideal S32768x1024 .bf16) (b : Fin 16) (h : Fin 8) (q k : Fin 2048) :
    refScore Q K (ix4 b h q k) = Cert.Row.logit Q K b h q k * ((Real.log 2 : ℝ) : EReal) := by
  rw [← log_two]
  pointwise [refScore]
  rw [refChunk_apply, refChunk_apply, Cert.Row.sle_chunk]
  unfold Cert.Row.logit
  by_cases h : k.val / 64 ≤ q.val / 64
  · rw [if_pos h, if_pos h]
    refine congrArg (· * _) (Finset.sum_congr rfl fun x _ => mul_comm _ _)
  · rw [if_neg h, if_neg h, log_two, EReal.bot_mul_coe_of_pos (Real.log_pos (by norm_num))]
    exact Cert.Row.ninf

theorem refOut_apply (Q : FVec Ideal S1024x32768 .bf16) (K : FVec Ideal S32768x1024 .bf16) (V : FVec Ideal S512x32768 .bf16) (r : Fin 32768) (e : Fin 512) :
    refOut Q K V (ix2 r e) = ∑ x : Fin 2048, V (ix2 e ⟨r.val / 2048 * 2048 + x.val, by omega⟩)
      * refSoft (refScore Q K) (ix4 ⟨r.val / 2048, by omega⟩ ⟨e.val / 64, by omega⟩ ⟨r.val % 2048, by omega⟩ x) := by
  pointwise [refOut]

/-- An element of the reference's result is its row's softmax. -/
theorem refOut_row (Q : FVec Ideal S1024x32768 .bf16) (K : FVec Ideal S32768x1024 .bf16) (V : FVec Ideal S512x32768 .bf16) (r : Fin 32768) (e : Fin 512) :
    refOut Q K V (ix2 r e) = Cert.Row.out Q K V ⟨r.val / 2048, by omega⟩ ⟨e.val / 64, by omega⟩ ⟨r.val % 2048, by omega⟩ e := by
  rw [refOut_apply]
  simp only [refSoft_apply, refExp_apply, refScore_apply]
  rfl

end Cert.ReferenceIdeal.Attn

end
-- ==== Proof.Finite.lean ====
/- The precondition, read: every query and every key is a real number. -/
module

public import proofs.«01_k».proof.Pre_finite_scores
public import Idealize.ShloMosaic.Lib.ReduceAll
public import Idealize.ShloMosaic.Lib.Affine
public import Idealize.ShloMosaic.Lib.Pointwise

@[expose] public section

set_option maxRecDepth 16384

noncomputable section

namespace Cert.Pre_finite_scores

open Idealize.ShloMosaic Idealize.ShloMosaic.Tactic

/-- The shape facts the predicate states. -/
theorem facts : Facts where
  bitsLt_bf16_f32 := by decide
  bcast_S_S1024x32768 := by decide
  reducesTo_S1024x32768_S_d0_1 := by decide
  h_S_ := by decide
  bcast_S_S32768x1024 := by decide
  reducesTo_S32768x1024_S_d0_1 := by decide

instance : Subsingleton S_.Idx := ⟨fun a b => funext fun i => i.elim0⟩

theorem inf_word : Ideal.ofBits .f32 0x7F800000#32 = ⊤ := by simp [Ideal.ofBits, Ideal.ieee]

/-- A value whose magnitude is below infinity is a real. -/
theorem real_of_lt {x : EReal} (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

variable [Facts]
open Facts

/-- Under the precondition the queries and the keys are reals. -/
theorem reals (x : FVec Ideal S1024x32768 .bf16) (y : FVec Ideal S32768x1024 .bf16) (z : FVec Ideal S512x32768 .bf16)
    (h : fn x y z = fun _ => 1#1) :
    (∀ i : S1024x32768.Idx, ∃ r : ℝ, x i = (r : EReal)) ∧ ∀ i : S32768x1024.Idx, ∃ r : ℝ, y i = (r : EReal) := by
  have h0 := congrFun h (fun a => a.elim0)
  dsimp only [fn] at h0
  obtain ⟨hx, hy⟩ := IntOp.andi_eq_one.1 h0
  constructor
  · intro i
    have e := Host.reduce_andi_all _ _ _ _ _ hx i
    refine real_of_lt ?_
    rw [← inf_word]
    exact e
  · intro i
    have e := Host.reduce_andi_all _ _ _ _ _ hy i
    refine real_of_lt ?_
    rw [← inf_word]
    exact e

end Cert.Pre_finite_scores

end
-- ==== Proof.Slots.lean ====
/- The experts' kernel: the rings its weights come through, and what their slots hold. -/
module

public import Idealize.ShloMosaic.Lib.VecWindow
import Idealize.ShloMosaic.Lib.ViewIndex
public import Idealize.ShloMosaic.Lib.WholeRead
public import Idealize.ShloMosaic.Lib.Tactic
import proofs.«01_k».proof.Proof.Gen.Kernel2Ideal
public import proofs.«01_k».proof.Proof.Gen.Kernel2Ideal.Skeleton
public import proofs.«01_k».proof.Proof.Gen.Kernel2Ideal.Launch

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

theorem inbU1 : ∀ a, (![1, 0, 0] : Fin 3 → ℕ) a + S1x1024x2048.size a ≤ S2x1024x2048.size a := by decide
theorem inbD1 : ∀ a, (![1, 0, 0] : Fin 3 → ℕ) a + S1x1024x1024.size a ≤ S2x1024x1024.size a := by decide

/-- The two slots of the first weight's ring. -/
abbrev slotU0 : Memref sig .tc .vmem S1024x2048 .f32 :=
  ((Memref.whole cc0_scratch0).slice (Rect.unit (s := S2x1024x2048) ![0, 0, 0] S1x1024x2048.size inb_S2x1024x2048_S1x1024x2048_0_0_0) (fun _ => rfl)).squeeze S1024x2048 squeezes_S1x1024x2048_S1024x2048
abbrev slotU1 : Memref sig .tc .vmem S1024x2048 .f32 :=
  ((Memref.whole cc0_scratch0).slice (Rect.unit (s := S2x1024x2048) ![1, 0, 0] S1x1024x2048.size inbU1) (fun _ => rfl)).squeeze S1024x2048 squeezes_S1x1024x2048_S1024x2048
/-- The two slots of the second weight's ring. -/
abbrev slotD0 : Memref sig .tc .vmem S1024x1024 .f32 :=
  ((Memref.whole cc0_scratch1).slice (Rect.unit (s := S2x1024x1024) ![0, 0, 0] S1x1024x1024.size inb_S2x1024x1024_S1x1024x1024_0_0_0) (fun _ => rfl)).squeeze S1024x1024 squeezes_S1x1024x1024_S1024x1024
abbrev slotD1 : Memref sig .tc .vmem S1024x1024 .f32 :=
  ((Memref.whole cc0_scratch1).slice (Rect.unit (s := S2x1024x1024) ![1, 0, 0] S1x1024x1024.size inbD1) (fun _ => rfl)).squeeze S1024x1024 squeezes_S1x1024x1024_S1024x1024

/-- The weights of the expert whose offsets are `o`, in the operands. -/
abbrev srcU (o : Fin 3 → ℕ) (h : ∀ a, o a + S1x1024x2048.size a ≤ S32x1024x2048.size a) : Memref sig .tc .hbm S1024x2048 .f32 :=
  ((Memref.whole main_arg4).slice (Rect.unit (s := S32x1024x2048) o S1x1024x2048.size h) (fun _ => rfl)).squeeze S1024x2048 squeezes_S1x1024x2048_S1024x2048
abbrev srcD (o : Fin 3 → ℕ) (h : ∀ a, o a + S1x1024x1024.size a ≤ S32x1024x1024.size a) : Memref sig .tc .hbm S1024x1024 .f32 :=
  ((Memref.whole main_arg6).slice (Rect.unit (s := S32x1024x1024) o S1x1024x1024.size h) (fun _ => rfl)).squeeze S1024x1024 squeezes_S1x1024x1024_S1024x1024

/-- The semaphores of the two rings' slots. -/
abbrev cellU0 : SemLoc sig := SemLoc.dma ((cc0_scratch5.slice (Rect.unit (s := S2x2) ![0, 0] S1x1.size inb_S2x2_S1x1_0_0)).squeeze S_ squeezes_S1x1_S_).sem
abbrev cellD0 : SemLoc sig := SemLoc.dma ((cc0_scratch5.slice (Rect.unit (s := S2x2) ![0, 1] S1x1.size inb_S2x2_S1x1_0_1)).squeeze S_ squeezes_S1x1_S_).sem
abbrev cellU1 : SemLoc sig := SemLoc.dma ((cc0_scratch5.slice (Rect.unit (s := S2x2) ![1, 0] S1x1.size (by decide))).squeeze S_ squeezes_S1x1_S_).sem
abbrev cellD1 : SemLoc sig := SemLoc.dma ((cc0_scratch5.slice (Rect.unit (s := S2x2) ![1, 1] S1x1.size (by decide))).squeeze S_ squeezes_S1x1_S_).sem

abbrev tabB : Memref sig .tc .smem S288 .i32 := Memref.whole main_arg0
abbrev tabN : Memref sig .tc .smem S1 .i32 := Memref.whole main_arg1
abbrev tabX : Memref sig .tc .smem S32 .i32 := Memref.whole main_arg2

/-- A copy of a weight on its way into a slot. -/
abbrev flightU (c : Dev nD) (slot : Memref sig .tc .vmem S1024x2048 .f32) (cell : SemLoc sig) (src : Memref sig .tc .hbm S1024x2048 .f32) (q : PosShare TreeShare)
    (f : Buf (Elt F) (slot.view.loc (c : Thread nD τ))) (w : Buf (Elt F) (src.view.loc (c : Thread nD τ))) : sProp 𝕄 :=
  Transfers.Flight (countersEmb (U := UR sig nD τ × Counters)) (c : Thread nD τ) cell () 262144
    iprop((slot.view.loc (c : Thread nD τ) ↦[slot.view.set]{fullShare} slot.view.writes (Elt F) f [⟨Rect.whole S1024x2048, ReadAs.same.apply (src.view.read (Elt F) w)⟩])
      ∗ (src.view.loc (c : Thread nD τ) ↦[src.view.set]{q} w))
/-- A copy of a weight on its way into a slot. -/
abbrev flightD (c : Dev nD) (slot : Memref sig .tc .vmem S1024x1024 .f32) (cell : SemLoc sig) (src : Memref sig .tc .hbm S1024x1024 .f32) (q : PosShare TreeShare)
    (f : Buf (Elt F) (slot.view.loc (c : Thread nD τ))) (w : Buf (Elt F) (src.view.loc (c : Thread nD τ))) : sProp 𝕄 :=
  Transfers.Flight (countersEmb (U := UR sig nD τ × Counters)) (c : Thread nD τ) cell () 131072
    iprop((slot.view.loc (c : Thread nD τ) ↦[slot.view.set]{fullShare} slot.view.writes (Elt F) f [⟨Rect.whole S1024x1024, ReadAs.same.apply (src.view.read (Elt F) w)⟩])
      ∗ (src.view.loc (c : Thread nD τ) ↦[src.view.set]{q} w))

/-- The four rows of the packed block that each row of the unpacked one is made of. -/
abbrev row0 (x : Vec F S2048x128 .i32) : Vec F S512x128 .i32 := fun j => x ((⟨![0, 0], S512x128.size, ![4, 1], inb_S2048x128_S512x128_0_0_s_4_1⟩ : LoadRect S2048x128).idx j)
abbrev row1 (x : Vec F S2048x128 .i32) : Vec F S512x128 .i32 := fun j => x ((⟨![1, 0], S512x128.size, ![4, 1], inb_S2048x128_S512x128_1_0_s_4_1⟩ : LoadRect S2048x128).idx j)
abbrev row2 (x : Vec F S2048x128 .i32) : Vec F S512x128 .i32 := fun j => x ((⟨![2, 0], S512x128.size, ![4, 1], inb_S2048x128_S512x128_2_0_s_4_1⟩ : LoadRect S2048x128).idx j)
abbrev row3 (x : Vec F S2048x128 .i32) : Vec F S512x128 .i32 := fun j => x ((⟨![3, 0], S512x128.size, ![4, 1], inb_S2048x128_S512x128_3_0_s_4_1⟩ : LoadRect S2048x128).idx j)

/-- The first product, of a packed block and an expert's first weight. -/
def upOf (x : Vec F S2048x128 .i32) (w : Vec F S1024x2048 .bf16) : FVec F S512x2048 .f32 := k0_pay7 (row0 x) (row1 x) (row2 x) (row3 x) w

theorem up_eq {x : Vec F S2048x128 .i32} {w : Vec F S1024x2048 .bf16} {a b c d : Vec F S512x128 .i32} {w' : Vec F S1024x2048 .bf16}
    (ha : a = row0 x) (hb : b = row1 x) (hc : c = row2 x) (hd : d = row3 x) (hw : w' = w) : k0_pay7 a b c d w' = upOf x w := by
  subst ha hb hc hd hw; rfl

/-- A weight in the narrower format, as the kernel keeps it. -/
def castU (x : Vec F S1024x2048 .f32) : Vec F S1024x2048 .bf16 := k0_pay5 (shapeCast (s := S1024x2048) S1x1024x2048 x (by decide))
def castD (x : Vec F S1024x1024 .f32) : Vec F S1024x1024 .bf16 := k0_pay6 (shapeCast (s := S1024x1024) S1x1024x1024 x (by decide))

/-- A window read back after a copy that landed whole in the view a reshape of it is. -/
theorem landed {κ : Kind} {sp : Space} {s : Shape} {e : EltTy} (v : View sig κ sp s e) (R : Rect s) (s' : Shape) (h : s'.numel = R.shape.numel)
    (h' : R.shape.numel = s'.numel) (f : v.ty.Contents (Elt F)) (x : s'.Idx → Elt F e) :
    v.readAt (Elt F) R.toLoadRect (((v.slice R).reshape s' h).writes (Elt F) f [⟨Rect.whole s', x⟩]) = fun j => x (Shape.reshapeEquiv h' j) := by
  funext j
  rw [← View.write_univ_eq_writes_whole]
  obtain ⟨k, rfl⟩ := (Shape.reshapeEquiv h).surjective j
  have e1 : Shape.reshapeEquiv h' (Shape.reshapeEquiv h k) = k := by
    rw [Shape.reshapeEquiv_reshapeEquiv, Shape.reshapeEquiv_self]
  rw [e1]
  exact View.read_write_reshape (v := v.slice R) h f x k

theorem landedU0 (f : slotU0.view.ty.Contents (Elt F)) (x : Vec F S1024x2048 .f32)
    (h : ∀ a, (![0, 0, 0] : Fin 3 → ℕ) a + S1x1024x2048.size a ≤ S2x1024x2048.size a) :
    View.readAt (Elt F) (Memref.whole cc0_scratch0 : Memref sig .tc .vmem S2x1024x2048 .f32).view (Rect.unit (s := S2x1024x2048) ![0, 0, 0] S1x1024x2048.size h).toLoadRect
      (slotU0.view.writes (Elt F) f [⟨Rect.whole S1024x2048, x⟩]) = shapeCast (s := S1024x2048) S1x1024x2048 x (by decide) :=
  landed (Memref.whole cc0_scratch0 : Memref sig .tc .vmem S2x1024x2048 .f32).view (Rect.unit (s := S2x1024x2048) ![0, 0, 0] S1x1024x2048.size h) S1024x2048 (show S1024x2048.numel = S1x1024x2048.numel by decide) (show S1x1024x2048.numel = S1024x2048.numel by decide) f x
theorem landedU1 (f : slotU1.view.ty.Contents (Elt F)) (x : Vec F S1024x2048 .f32)
    (h : ∀ a, (![1, 0, 0] : Fin 3 → ℕ) a + S1x1024x2048.size a ≤ S2x1024x2048.size a) :
    View.readAt (Elt F) (Memref.whole cc0_scratch0 : Memref sig .tc .vmem S2x1024x2048 .f32).view (Rect.unit (s := S2x1024x2048) ![1, 0, 0] S1x1024x2048.size h).toLoadRect
      (slotU1.view.writes (Elt F) f [⟨Rect.whole S1024x2048, x⟩]) = shapeCast (s := S1024x2048) S1x1024x2048 x (by decide) :=
  landed (Memref.whole cc0_scratch0 : Memref sig .tc .vmem S2x1024x2048 .f32).view (Rect.unit (s := S2x1024x2048) ![1, 0, 0] S1x1024x2048.size h) S1024x2048 (show S1024x2048.numel = S1x1024x2048.numel by decide) (show S1x1024x2048.numel = S1024x2048.numel by decide) f x
theorem landedD0 (f : slotD0.view.ty.Contents (Elt F)) (x : Vec F S1024x1024 .f32)
    (h : ∀ a, (![0, 0, 0] : Fin 3 → ℕ) a + S1x1024x1024.size a ≤ S2x1024x1024.size a) :
    View.readAt (Elt F) (Memref.whole cc0_scratch1 : Memref sig .tc .vmem S2x1024x1024 .f32).view (Rect.unit (s := S2x1024x1024) ![0, 0, 0] S1x1024x1024.size h).toLoadRect
      (slotD0.view.writes (Elt F) f [⟨Rect.whole S1024x1024, x⟩]) = shapeCast (s := S1024x1024) S1x1024x1024 x (by decide) :=
  landed (Memref.whole cc0_scratch1 : Memref sig .tc .vmem S2x1024x1024 .f32).view (Rect.unit (s := S2x1024x1024) ![0, 0, 0] S1x1024x1024.size h) S1024x1024 (show S1024x1024.numel = S1x1024x1024.numel by decide) (show S1x1024x1024.numel = S1024x1024.numel by decide) f x
theorem landedD1 (f : slotD1.view.ty.Contents (Elt F)) (x : Vec F S1024x1024 .f32)
    (h : ∀ a, (![1, 0, 0] : Fin 3 → ℕ) a + S1x1024x1024.size a ≤ S2x1024x1024.size a) :
    View.readAt (Elt F) (Memref.whole cc0_scratch1 : Memref sig .tc .vmem S2x1024x1024 .f32).view (Rect.unit (s := S2x1024x1024) ![1, 0, 0] S1x1024x1024.size h).toLoadRect
      (slotD1.view.writes (Elt F) f [⟨Rect.whole S1024x1024, x⟩]) = shapeCast (s := S1024x1024) S1x1024x1024 x (by decide) :=
  landed (Memref.whole cc0_scratch1 : Memref sig .tc .vmem S2x1024x1024 .f32).view (Rect.unit (s := S2x1024x1024) ![1, 0, 0] S1x1024x1024.size h) S1024x1024 (show S1024x1024.numel = S1x1024x1024.numel by decide) (show S1x1024x1024.numel = S1024x1024.numel by decide) f x

/-- What the narrowed weights' scratch holds after such a copy is narrowed into it. -/
theorem keptU {v : Vec F S1x1024x2048 .f32} {x : Vec F S1024x2048 .f32} (h : v = shapeCast (s := S1024x2048) S1x1024x2048 x (by decide))
    (g : (Memref.whole cc0_scratch2 : Memref sig .tc .vmem S1024x2048 .bf16).view.ty.Contents (Elt F)) :
    (Memref.whole cc0_scratch2 : Memref sig .tc .vmem S1024x2048 .bf16).view.read (Elt F)
      ((Memref.whole cc0_scratch2 : Memref sig .tc .vmem S1024x2048 .bf16).view.writes (Elt F) g [⟨Rect.unit (s := S1024x2048) ![0, 0] S1024x2048.size inb_S1024x2048_S1024x2048_0_0, k0_pay5 v⟩]) = castU x := by
  subst h
  exact View.read_writes_full _ g _ _ []
theorem keptD {v : Vec F S1x1024x1024 .f32} {x : Vec F S1024x1024 .f32} (h : v = shapeCast (s := S1024x1024) S1x1024x1024 x (by decide))
    (g : (Memref.whole cc0_scratch3 : Memref sig .tc .vmem S1024x1024 .bf16).view.ty.Contents (Elt F)) :
    (Memref.whole cc0_scratch3 : Memref sig .tc .vmem S1024x1024 .bf16).view.read (Elt F)
      ((Memref.whole cc0_scratch3 : Memref sig .tc .vmem S1024x1024 .bf16).view.writes (Elt F) g [⟨Rect.unit (s := S1024x1024) ![0, 0] S1024x1024.size inb_S1024x1024_S1024x1024_0_0, k0_pay6 v⟩]) = castD x := by
  subst h
  exact View.read_writes_full _ g _ _ []
theorem readU {v : Vec F S1x1024x2048 .f32} {x : Vec F S1024x2048 .f32} (h : v = shapeCast (s := S1024x2048) S1x1024x2048 x (by decide))
    (g : (Memref.whole cc0_scratch2 : Memref sig .tc .vmem S1024x2048 .bf16).view.ty.Contents (Elt F)) :
    (Memref.whole cc0_scratch2 : Memref sig .tc .vmem S1024x2048 .bf16).view.readAt (Elt F) (Rect.unit (s := S1024x2048) ![0, 0] S1024x2048.size inb_S1024x2048_S1024x2048_0_0).toLoadRect
      ((Memref.whole cc0_scratch2 : Memref sig .tc .vmem S1024x2048 .bf16).view.writes (Elt F) g [⟨Rect.unit (s := S1024x2048) ![0, 0] S1024x2048.size inb_S1024x2048_S1024x2048_0_0, k0_pay5 v⟩]) = castU x := by
  subst h
  exact View.readAt_writes_full _ g _ _ _ []

theorem readU' (g : (Memref.whole cc0_scratch2 : Memref sig .tc .vmem S1024x2048 .bf16).view.ty.Contents (Elt F)) (y : Vec F S1024x2048 .bf16)
    (h : (Memref.whole cc0_scratch2 : Memref sig .tc .vmem S1024x2048 .bf16).view.read (Elt F) g = y) :
    (Memref.whole cc0_scratch2 : Memref sig .tc .vmem S1024x2048 .bf16).view.readAt (Elt F) (Rect.unit (s := S1024x2048) ![0, 0] S1024x2048.size inb_S1024x2048_S1024x2048_0_0).toLoadRect g = y := by
  subst h
  exact View.readAt_full _ g _

theorem owns_of_read (c : Dev nD) {sp : Space} {sh : Shape} {e : EltTy} (m : Memref sig .tc sp sh e) (f : m.view.ty.Contents (Elt F)) (X : sh.Idx → Elt F e) (h : m.view.read (Elt F) f = X) :
    (m.view.loc (c : Thread nD τ) ↦[m.view.set]{fullShare} f : sProp 𝕄) ⊢ owns (c : Thread nD τ) m fullShare X := by
  subst h
  exact owns_intro (c : Thread nD τ) m fullShare f

theorem readC {v : Vec F S1x1024x2048 .f32} {x : Vec F S1024x2048 .f32} (h : v = shapeCast (s := S1024x2048) S1x1024x2048 x (by decide)) :
    (Memref.whole cc0_scratch2 : Memref sig .tc .vmem S1024x2048 .bf16).view.readCov [⟨Rect.unit (s := S1024x2048) ![0, 0] S1024x2048.size inb_S1024x2048_S1024x2048_0_0, k0_pay5 v⟩]
      (Rect.unit (s := S1024x2048) ![0, 0] S1024x2048.size inb_S1024x2048_S1024x2048_0_0).toLoadRect = castU x := by
  subst h
  exact View.readCov_full _ _ _ _ []

end Cert.Kernel2Ideal.Ffn
-- ==== Proof.Turns.lean ====
/- The experts' kernel: how its body takes up the weights, in each state its rings can be in. -/
module

public import proofs.«01_k».proof.Proof.Slots

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

set_option maxHeartbeats 4000000 in
theorem same (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : ¬ k0_cond3 i = 1#1) (h4 : ¬ (Scalar.cmpi .ne (Scalar.extui (Scalar.andi (Scalar.cmpi .sgt (BitVec.ofNat 32 (i 0).val) 0#32) (Scalar.cmpi .ne e p)) : BitVec 32) 0#32 = 1#1)) (h5 : ¬ k0_cond5 i e p = 1#1)
    (y2 : Vec F S1024x2048 .bf16)
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ ((Memref.whole cc0_scratch2 : Memref sig .tc .vmem S1024x2048 .bf16).view.loc (c : Thread nD τ) ↦[(Memref.whole cc0_scratch2 : Memref sig .tc .vmem S1024x2048 .bf16).view.set]{fullShare} (Memref.isWhole_whole cc0_scratch2).unread y2)
      ∗ (∀ v, ⌜v = upOf x4 y2⌝ ∗ (tabB.view.loc (c : Thread nD τ) ↦[tabB.view.set]{fullShare.right} TB)
        ∗ (arg4.view.loc (c : Thread nD τ) ↦[arg4.view.set]{fullShare} harg4.unread x4)
        ∗ ((Memref.whole cc0_scratch2 : Memref sig .tc .vmem S1024x2048 .bf16).view.loc (c : Thread nD τ) ↦[(Memref.whole cc0_scratch2 : Memref sig .tc .vmem S1024x2048 .bf16).view.set]{fullShare} (Memref.isWhole_whole cc0_scratch2).unread y2) -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  subst he hp
  iintro ⟨HB, H4, HG2, Hk⟩
  sl_exec
  sl_step
  iapply Hk
  isplitr
  · ipureintro
    exact up_eq (funext fun j => harg4.readAt_unread x4 _ j) (funext fun j => harg4.readAt_unread x4 _ j) (funext fun j => harg4.readAt_unread x4 _ j) (funext fun j => harg4.readAt_unread x4 _ j) (readU' _ y2 ((Memref.isWhole_whole cc0_scratch2).read_unread y2))
  isplitl [HB]
  · iexact HB
  isplitl [H4]
  · iexact H4
  iexact HG2

set_option maxHeartbeats 4000000 in
theorem first_next (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : k0_cond3 i = 1#1) (h4 : ¬ (Scalar.cmpi .ne (Scalar.extui (Scalar.andi (Scalar.cmpi .sgt (BitVec.ofNat 32 (i 0).val) 0#32) (Scalar.cmpi .ne e p)) : BitVec 32) 0#32 = 1#1)) (h5 : k0_cond5 i e p = 1#1)
    (TX : Buf (Elt F) (tabX.view.loc (c : Thread nD τ))) (n : Elt F .i32) (W : Waits sig Unit)
    (hn : tabX.view.readAt (Elt F) (Rect.unit (s := S32) (k0_off12 e) S1.size hx).toLoadRect TX (Shape.Idx.first (s := S1) (by decide)) = n)
    (h6 : k0_cond6 n = 1#1)
    (hu' : ∀ a, (![n.toNat, 0, 0] : Fin 3 → ℕ) a + S1x1024x2048.size a ≤ S32x1024x2048.size a) (hd' : ∀ a, (![n.toNat, 0, 0] : Fin 3 → ℕ) a + S1x1024x1024.size a ≤ S32x1024x1024.size a)
    (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ)))
    (fu0 : Buf (Elt F) (slotU0.view.loc (c : Thread nD τ))) (fu1 : Buf (Elt F) (slotU1.view.loc (c : Thread nD τ))) (fd0 : Buf (Elt F) (slotD0.view.loc (c : Thread nD τ))) (fd1 : Buf (Elt F) (slotD1.view.loc (c : Thread nD τ)))
    (fs : Buf (Elt F) ((Memref.whole cc0_scratch4 : Memref sig .tc .smem S1 .i32).view.loc (c : Thread nD τ)))
    (g2 : Buf (Elt F) ((Memref.whole cc0_scratch2 : Memref sig .tc .vmem S1024x2048 .bf16).view.loc (c : Thread nD τ))) (g3 : Buf (Elt F) ((Memref.whole cc0_scratch3 : Memref sig .tc .vmem S1024x1024 .bf16).view.loc (c : Thread nD τ)))
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ (tabX.view.loc (c : Thread nD τ) ↦[tabX.view.set]{fullShare.right} TX)
      ∗ ((Memref.whole cc0_scratch4 : Memref sig .tc .smem S1 .i32).view.loc (c : Thread nD τ) ↦[(Memref.whole cc0_scratch4 : Memref sig .tc .smem S1 .i32).view.set]{fullShare} fs)
      ∗ (slotU0.view.loc (c : Thread nD τ) ↦[slotU0.view.set]{fullShare} fu0)
      ∗ (slotD0.view.loc (c : Thread nD τ) ↦[slotD0.view.set]{fullShare} fd0)
      ∗ semVal ((c : Thread nD τ), cellU0) 0
      ∗ semVal ((c : Thread nD τ), cellD0) 0
      ∗ ((srcU ![e.toNat, 0, 0] hu).view.loc (c : Thread nD τ) ↦[(srcU ![e.toNat, 0, 0] hu).view.set]{fullShare.left} wu)
      ∗ ((srcD ![e.toNat, 0, 0] hd).view.loc (c : Thread nD τ) ↦[(srcD ![e.toNat, 0, 0] hd).view.set]{fullShare.left} wd)
      ∗ (slotU1.view.loc (c : Thread nD τ) ↦[slotU1.view.set]{fullShare} fu1)
      ∗ (slotD1.view.loc (c : Thread nD τ) ↦[slotD1.view.set]{fullShare} fd1)
      ∗ semVal ((c : Thread nD τ), cellU1) 0
      ∗ semVal ((c : Thread nD τ), cellD1) 0
      ∗ ((srcU ![n.toNat, 0, 0] hu').view.loc (c : Thread nD τ) ↦[(srcU ![n.toNat, 0, 0] hu').view.set]{fullShare.right} wu)
      ∗ ((srcD ![n.toNat, 0, 0] hd').view.loc (c : Thread nD τ) ↦[(srcD ![n.toNat, 0, 0] hd').view.set]{fullShare.right} wd)
      ∗ ((Memref.whole cc0_scratch2 : Memref sig .tc .vmem S1024x2048 .bf16).view.loc (c : Thread nD τ) ↦[(Memref.whole cc0_scratch2 : Memref sig .tc .vmem S1024x2048 .bf16).view.set]{fullShare} g2)
      ∗ ((Memref.whole cc0_scratch3 : Memref sig .tc .vmem S1024x1024 .bf16).view.loc (c : Thread nD τ) ↦[(Memref.whole cc0_scratch3 : Memref sig .tc .vmem S1024x1024 .bf16).view.set]{fullShare} g3)
      ∗ owes (c : Thread nD τ) 0 W
      ∗ (∀ v, ⌜v = upOf x4 (castU ((srcU ![e.toNat, 0, 0] hu).view.read (Elt F) wu))⌝ ∗ (tabB.view.loc (c : Thread nD τ) ↦[tabB.view.set]{fullShare.right} TB)
        ∗ (arg4.view.loc (c : Thread nD τ) ↦[arg4.view.set]{fullShare} harg4.unread x4)
        ∗ (tabX.view.loc (c : Thread nD τ) ↦[tabX.view.set]{fullShare.right} TX)
        ∗ (∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩]))
        ∗ (∃ fu0 : Buf (Elt F) (slotU0.view.loc (c : Thread nD τ)), (slotU0.view.loc (c : Thread nD τ) ↦[slotU0.view.set]{fullShare} fu0))
        ∗ (∃ fd0 : Buf (Elt F) (slotD0.view.loc (c : Thread nD τ)), (slotD0.view.loc (c : Thread nD τ) ↦[slotD0.view.set]{fullShare} fd0))
        ∗ semVal ((c : Thread nD τ), cellU0) 0
        ∗ semVal ((c : Thread nD τ), cellD0) 0
        ∗ ((srcU ![e.toNat, 0, 0] hu).view.loc (c : Thread nD τ) ↦[(srcU ![e.toNat, 0, 0] hu).view.set]{fullShare.left} wu)
        ∗ ((srcD ![e.toNat, 0, 0] hd).view.loc (c : Thread nD τ) ↦[(srcD ![e.toNat, 0, 0] hd).view.set]{fullShare.left} wd)
        ∗ (∃ fu1 : Buf (Elt F) (slotU1.view.loc (c : Thread nD τ)), flightU c slotU1 cellU1 (srcU ![n.toNat, 0, 0] hu') fullShare.right fu1 wu)
        ∗ (∃ fd1 : Buf (Elt F) (slotD1.view.loc (c : Thread nD τ)), flightD c slotD1 cellD1 (srcD ![n.toNat, 0, 0] hd') fullShare.right fd1 wd)
        ∗ owns (c : Thread nD τ) (Memref.whole cc0_scratch2 : Memref sig .tc .vmem S1024x2048 .bf16) fullShare (castU ((srcU ![e.toNat, 0, 0] hu).view.read (Elt F) wu))
        ∗ owns (c : Thread nD τ) (Memref.whole cc0_scratch3 : Memref sig .tc .vmem S1024x1024 .bf16) fullShare (castD ((srcD ![e.toNat, 0, 0] hd).view.read (Elt F) wd))
        ∗ (∃ W', owes (c : Thread nD τ) 0 W') -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  have hc2 : k0_chk2 i v4 e p 0#32 := ⟨fun _ _ => by decide, fun _ _ => by decide, fun _ _ => by decide, fun _ _ => by decide, fun _ _ => by decide, fun _ _ => by decide⟩
  have hc4 : k0_chk4 i v4 e p 0#32 n := ⟨fun _ _ _ => by decide, fun _ _ _ => by decide, fun _ _ _ => hu', fun _ _ _ => by decide, fun _ _ _ => by decide, fun _ _ _ => hd'⟩
  subst hn
  subst he hp
  iintro ⟨HB, H4, HT, HS, HsU0, HsD0, HcU0, HcD0, HwU, HwD, HsU1, HsD1, HcU1, HcD1, HvU, HvD, HG2, HG3, HO, Hk⟩
  sl_exec
  sl_step
  iapply Hk
  isplitr
  · ipureintro
    refine up_eq (funext fun j => harg4.readAt_unread x4 _ j) (funext fun j => harg4.readAt_unread x4 _ j) (funext fun j => harg4.readAt_unread x4 _ j) (funext fun j => harg4.readAt_unread x4 _ j) ?_
    try delta first_next.sl.v41
    try delta first_next.sl.HG2_1
    try delta first_next.sl.HG3_1
    try delta first_next.sl.v104
    try delta first_next.sl.v111
    try delta first_next.sl.dma4
    try delta first_next.sl.dma4_1
    exact readC (landedU0 _ _ _)
  isplitl [HB]
  · iexact HB
  isplitl [H4]
  · iexact H4
  isplitl [HT]
  · iexact HT
  isplitl [HS]
  · iexists _
    iexact HS
  isplitl [HsU0]
  · iexists _
    iexact HsU0
  isplitl [HsD0]
  · iexists _
    iexact HsD0
  isplitl [HcU0]
  · iexact HcU0
  isplitl [HcD0]
  · iexact HcD0
  isplitl [HwU]
  · iexact HwU
  isplitl [HwD]
  · iexact HwD
  isplitl [HcU1]
  · iexists _
    iexact HcU1
  isplitl [HcD1]
  · iexists _
    iexact HcD1
  isplitl [HG2]
  · refine owns_of_read c _ _ _ ?_
    try delta first_next.sl.v41
    try delta first_next.sl.HG2_1
    try delta first_next.sl.HG3_1
    try delta first_next.sl.v104
    try delta first_next.sl.v111
    try delta first_next.sl.dma4
    try delta first_next.sl.dma4_1
    exact keptU (landedU0 _ _ _) _
  isplitl [HG3]
  · refine owns_of_read c _ _ _ ?_
    try delta first_next.sl.v41
    try delta first_next.sl.HG2_1
    try delta first_next.sl.HG3_1
    try delta first_next.sl.v104
    try delta first_next.sl.v111
    try delta first_next.sl.dma4
    try delta first_next.sl.dma4_1
    exact keptD (landedD0 _ _ _) _
  iexists _
  iexact HO

set_option maxHeartbeats 4000000 in
theorem first_last (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : k0_cond3 i = 1#1) (h4 : ¬ (Scalar.cmpi .ne (Scalar.extui (Scalar.andi (Scalar.cmpi .sgt (BitVec.ofNat 32 (i 0).val) 0#32) (Scalar.cmpi .ne e p)) : BitVec 32) 0#32 = 1#1)) (h5 : k0_cond5 i e p = 1#1)
    (TX : Buf (Elt F) (tabX.view.loc (c : Thread nD τ))) (n : Elt F .i32) (W : Waits sig Unit)
    (hn : tabX.view.readAt (Elt F) (Rect.unit (s := S32) (k0_off12 e) S1.size hx).toLoadRect TX (Shape.Idx.first (s := S1) (by decide)) = n)
    (h6 : ¬ k0_cond6 n = 1#1)
    (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ)))
    (fu0 : Buf (Elt F) (slotU0.view.loc (c : Thread nD τ))) (fu1 : Buf (Elt F) (slotU1.view.loc (c : Thread nD τ))) (fd0 : Buf (Elt F) (slotD0.view.loc (c : Thread nD τ))) (fd1 : Buf (Elt F) (slotD1.view.loc (c : Thread nD τ)))
    (fs : Buf (Elt F) ((Memref.whole cc0_scratch4 : Memref sig .tc .smem S1 .i32).view.loc (c : Thread nD τ)))
    (g2 : Buf (Elt F) ((Memref.whole cc0_scratch2 : Memref sig .tc .vmem S1024x2048 .bf16).view.loc (c : Thread nD τ))) (g3 : Buf (Elt F) ((Memref.whole cc0_scratch3 : Memref sig .tc .vmem S1024x1024 .bf16).view.loc (c : Thread nD τ)))
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ (tabX.view.loc (c : Thread nD τ) ↦[tabX.view.set]{fullShare.right} TX)
      ∗ ((Memref.whole cc0_scratch4 : Memref sig .tc .smem S1 .i32).view.loc (c : Thread nD τ) ↦[(Memref.whole cc0_scratch4 : Memref sig .tc .smem S1 .i32).view.set]{fullShare} fs)
      ∗ (slotU0.view.loc (c : Thread nD τ) ↦[slotU0.view.set]{fullShare} fu0)
      ∗ (slotD0.view.loc (c : Thread nD τ) ↦[slotD0.view.set]{fullShare} fd0)
      ∗ semVal ((c : Thread nD τ), cellU0) 0
      ∗ semVal ((c : Thread nD τ), cellD0) 0
      ∗ ((srcU ![e.toNat, 0, 0] hu).view.loc (c : Thread nD τ) ↦[(srcU ![e.toNat, 0, 0] hu).view.set]{fullShare.left} wu)
      ∗ ((srcD ![e.toNat, 0, 0] hd).view.loc (c : Thread nD τ) ↦[(srcD ![e.toNat, 0, 0] hd).view.set]{fullShare.left} wd)
      ∗ ((Memref.whole cc0_scratch2 : Memref sig .tc .vmem S1024x2048 .bf16).view.loc (c : Thread nD τ) ↦[(Memref.whole cc0_scratch2 : Memref sig .tc .vmem S1024x2048 .bf16).view.set]{fullShare} g2)
      ∗ ((Memref.whole cc0_scratch3 : Memref sig .tc .vmem S1024x1024 .bf16).view.loc (c : Thread nD τ) ↦[(Memref.whole cc0_scratch3 : Memref sig .tc .vmem S1024x1024 .bf16).view.set]{fullShare} g3)
      ∗ owes (c : Thread nD τ) 0 W
      ∗ (∀ v, ⌜v = upOf x4 (castU ((srcU ![e.toNat, 0, 0] hu).view.read (Elt F) wu))⌝ ∗ (tabB.view.loc (c : Thread nD τ) ↦[tabB.view.set]{fullShare.right} TB)
        ∗ (arg4.view.loc (c : Thread nD τ) ↦[arg4.view.set]{fullShare} harg4.unread x4)
        ∗ (tabX.view.loc (c : Thread nD τ) ↦[tabX.view.set]{fullShare.right} TX)
        ∗ (∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩]))
        ∗ (∃ fu0 : Buf (Elt F) (slotU0.view.loc (c : Thread nD τ)), (slotU0.view.loc (c : Thread nD τ) ↦[slotU0.view.set]{fullShare} fu0))
        ∗ (∃ fd0 : Buf (Elt F) (slotD0.view.loc (c : Thread nD τ)), (slotD0.view.loc (c : Thread nD τ) ↦[slotD0.view.set]{fullShare} fd0))
        ∗ semVal ((c : Thread nD τ), cellU0) 0
        ∗ semVal ((c : Thread nD τ), cellD0) 0
        ∗ ((srcU ![e.toNat, 0, 0] hu).view.loc (c : Thread nD τ) ↦[(srcU ![e.toNat, 0, 0] hu).view.set]{fullShare.left} wu)
        ∗ ((srcD ![e.toNat, 0, 0] hd).view.loc (c : Thread nD τ) ↦[(srcD ![e.toNat, 0, 0] hd).view.set]{fullShare.left} wd)
        ∗ owns (c : Thread nD τ) (Memref.whole cc0_scratch2 : Memref sig .tc .vmem S1024x2048 .bf16) fullShare (castU ((srcU ![e.toNat, 0, 0] hu).view.read (Elt F) wu))
        ∗ owns (c : Thread nD τ) (Memref.whole cc0_scratch3 : Memref sig .tc .vmem S1024x1024 .bf16) fullShare (castD ((srcD ![e.toNat, 0, 0] hd).view.read (Elt F) wd))
        ∗ (∃ W', owes (c : Thread nD τ) 0 W') -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  have hc2 : k0_chk2 i v4 e p 0#32 := ⟨fun _ _ => by decide, fun _ _ => by decide, fun _ _ => by decide, fun _ _ => by decide, fun _ _ => by decide, fun _ _ => by decide⟩
  have hc4 : k0_chk4 i v4 e p 0#32 n := ⟨fun _ _ h => absurd h h6, fun _ _ h => absurd h h6, fun _ _ h => absurd h h6, fun _ _ h => absurd h h6, fun _ _ h => absurd h h6, fun _ _ h => absurd h h6⟩
  subst hn
  subst he hp
  iintro ⟨HB, H4, HT, HS, HsU0, HsD0, HcU0, HcD0, HwU, HwD, HG2, HG3, HO, Hk⟩
  sl_exec
  sl_step
  iapply Hk
  isplitr
  · ipureintro
    refine up_eq (funext fun j => harg4.readAt_unread x4 _ j) (funext fun j => harg4.readAt_unread x4 _ j) (funext fun j => harg4.readAt_unread x4 _ j) (funext fun j => harg4.readAt_unread x4 _ j) ?_
    try delta first_last.sl.v41
    try delta first_last.sl.HG2_1
    try delta first_last.sl.HG3_1
    try delta first_last.sl.v104
    try delta first_last.sl.v111
    try delta first_last.sl.dma4
    try delta first_last.sl.dma4_1
    exact readC (landedU0 _ _ _)
  isplitl [HB]
  · iexact HB
  isplitl [H4]
  · iexact H4
  isplitl [HT]
  · iexact HT
  isplitl [HS]
  · iexists _
    iexact HS
  isplitl [HsU0]
  · iexists _
    iexact HsU0
  isplitl [HsD0]
  · iexists _
    iexact HsD0
  isplitl [HcU0]
  · iexact HcU0
  isplitl [HcD0]
  · iexact HcD0
  isplitl [HwU]
  · iexact HwU
  isplitl [HwD]
  · iexact HwD
  isplitl [HG2]
  · refine owns_of_read c _ _ _ ?_
    try delta first_last.sl.v41
    try delta first_last.sl.HG2_1
    try delta first_last.sl.HG3_1
    try delta first_last.sl.v104
    try delta first_last.sl.v111
    try delta first_last.sl.dma4
    try delta first_last.sl.dma4_1
    exact keptU (landedU0 _ _ _) _
  isplitl [HG3]
  · refine owns_of_read c _ _ _ ?_
    try delta first_last.sl.v41
    try delta first_last.sl.HG2_1
    try delta first_last.sl.HG3_1
    try delta first_last.sl.v104
    try delta first_last.sl.v111
    try delta first_last.sl.dma4
    try delta first_last.sl.dma4_1
    exact keptD (landedD0 _ _ _) _
  iexists _
  iexact HO

set_option maxHeartbeats 4000000 in
theorem turn0_next (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : ¬ k0_cond3 i = 1#1) (h4 : (Scalar.cmpi .ne (Scalar.extui (Scalar.andi (Scalar.cmpi .sgt (BitVec.ofNat 32 (i 0).val) 0#32) (Scalar.cmpi .ne e p)) : BitVec 32) 0#32 = 1#1)) (h5 : k0_cond5 i e p = 1#1)
    (TX : Buf (Elt F) (tabX.view.loc (c : Thread nD τ))) (n : Elt F .i32) (W : Waits sig Unit)
    (hn : tabX.view.readAt (Elt F) (Rect.unit (s := S32) (k0_off12 e) S1.size hx).toLoadRect TX (Shape.Idx.first (s := S1) (by decide)) = n)
    (h6 : k0_cond6 n = 1#1)
    (hu' : ∀ a, (![n.toNat, 0, 0] : Fin 3 → ℕ) a + S1x1024x2048.size a ≤ S32x1024x2048.size a) (hd' : ∀ a, (![n.toNat, 0, 0] : Fin 3 → ℕ) a + S1x1024x1024.size a ≤ S32x1024x1024.size a)
    (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ)))
    (fu0 : Buf (Elt F) (slotU0.view.loc (c : Thread nD τ))) (fu1 : Buf (Elt F) (slotU1.view.loc (c : Thread nD τ))) (fd0 : Buf (Elt F) (slotD0.view.loc (c : Thread nD τ))) (fd1 : Buf (Elt F) (slotD1.view.loc (c : Thread nD τ)))
    (fs : Buf (Elt F) ((Memref.whole cc0_scratch4 : Memref sig .tc .smem S1 .i32).view.loc (c : Thread nD τ)))
    (g2 : Buf (Elt F) ((Memref.whole cc0_scratch2 : Memref sig .tc .vmem S1024x2048 .bf16).view.loc (c : Thread nD τ))) (g3 : Buf (Elt F) ((Memref.whole cc0_scratch3 : Memref sig .tc .vmem S1024x1024 .bf16).view.loc (c : Thread nD τ)))
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ (tabX.view.loc (c : Thread nD τ) ↦[tabX.view.set]{fullShare.right} TX)
      ∗ ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 1#32⟩])
      ∗ flightU c slotU0 cellU0 (srcU ![e.toNat, 0, 0] hu) fullShare.left fu0 wu
      ∗ flightD c slotD0 cellD0 (srcD ![e.toNat, 0, 0] hd) fullShare.left fd0 wd
      ∗ (slotU1.view.loc (c : Thread nD τ) ↦[slotU1.view.set]{fullShare} fu1)
      ∗ (slotD1.view.loc (c : Thread nD τ) ↦[slotD1.view.set]{fullShare} fd1)
      ∗ semVal ((c : Thread nD τ), cellU1) 0
      ∗ semVal ((c : Thread nD τ), cellD1) 0
      ∗ ((srcU ![n.toNat, 0, 0] hu').view.loc (c : Thread nD τ) ↦[(srcU ![n.toNat, 0, 0] hu').view.set]{fullShare.right} wu)
      ∗ ((srcD ![n.toNat, 0, 0] hd').view.loc (c : Thread nD τ) ↦[(srcD ![n.toNat, 0, 0] hd').view.set]{fullShare.right} wd)
      ∗ ((Memref.whole cc0_scratch2 : Memref sig .tc .vmem S1024x2048 .bf16).view.loc (c : Thread nD τ) ↦[(Memref.whole cc0_scratch2 : Memref sig .tc .vmem S1024x2048 .bf16).view.set]{fullShare} g2)
      ∗ ((Memref.whole cc0_scratch3 : Memref sig .tc .vmem S1024x1024 .bf16).view.loc (c : Thread nD τ) ↦[(Memref.whole cc0_scratch3 : Memref sig .tc .vmem S1024x1024 .bf16).view.set]{fullShare} g3)
      ∗ owes (c : Thread nD τ) 0 W
      ∗ (∀ v, ⌜v = upOf x4 (castU ((srcU ![e.toNat, 0, 0] hu).view.read (Elt F) wu))⌝ ∗ (tabB.view.loc (c : Thread nD τ) ↦[tabB.view.set]{fullShare.right} TB)
        ∗ (arg4.view.loc (c : Thread nD τ) ↦[arg4.view.set]{fullShare} harg4.unread x4)
        ∗ (tabX.view.loc (c : Thread nD τ) ↦[tabX.view.set]{fullShare.right} TX)
        ∗ (∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩]))
        ∗ (∃ fu0 : Buf (Elt F) (slotU0.view.loc (c : Thread nD τ)), (slotU0.view.loc (c : Thread nD τ) ↦[slotU0.view.set]{fullShare} fu0))
        ∗ (∃ fd0 : Buf (Elt F) (slotD0.view.loc (c : Thread nD τ)), (slotD0.view.loc (c : Thread nD τ) ↦[slotD0.view.set]{fullShare} fd0))
        ∗ semVal ((c : Thread nD τ), cellU0) 0
        ∗ semVal ((c : Thread nD τ), cellD0) 0
        ∗ ((srcU ![e.toNat, 0, 0] hu).view.loc (c : Thread nD τ) ↦[(srcU ![e.toNat, 0, 0] hu).view.set]{fullShare.left} wu)
        ∗ ((srcD ![e.toNat, 0, 0] hd).view.loc (c : Thread nD τ) ↦[(srcD ![e.toNat, 0, 0] hd).view.set]{fullShare.left} wd)
        ∗ (∃ fu1 : Buf (Elt F) (slotU1.view.loc (c : Thread nD τ)), flightU c slotU1 cellU1 (srcU ![n.toNat, 0, 0] hu') fullShare.right fu1 wu)
        ∗ (∃ fd1 : Buf (Elt F) (slotD1.view.loc (c : Thread nD τ)), flightD c slotD1 cellD1 (srcD ![n.toNat, 0, 0] hd') fullShare.right fd1 wd)
        ∗ owns (c : Thread nD τ) (Memref.whole cc0_scratch2 : Memref sig .tc .vmem S1024x2048 .bf16) fullShare (castU ((srcU ![e.toNat, 0, 0] hu).view.read (Elt F) wu))
        ∗ owns (c : Thread nD τ) (Memref.whole cc0_scratch3 : Memref sig .tc .vmem S1024x1024 .bf16) fullShare (castD ((srcD ![e.toNat, 0, 0] hd).view.read (Elt F) wd))
        ∗ (∃ W', owes (c : Thread nD τ) 0 W') -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  have hc2 : k0_chk2 i v4 e p 0#32 := ⟨fun _ _ => by decide, fun _ _ => by decide, fun _ _ => by decide, fun _ _ => by decide, fun _ _ => by decide, fun _ _ => by decide⟩
  have hc4 : k0_chk4 i v4 e p 0#32 n := ⟨fun _ _ _ => by decide, fun _ _ _ => by decide, fun _ _ _ => hu', fun _ _ _ => by decide, fun _ _ _ => by decide, fun _ _ _ => hd'⟩
  subst hn
  subst he hp
  iintro ⟨HB, H4, HT, HS, HU0, HD0, HsU1, HsD1, HcU1, HcD1, HvU, HvD, HG2, HG3, HO, Hk⟩
  sl_exec
  sl_step
  iapply Hk
  isplitr
  · ipureintro
    refine up_eq (funext fun j => harg4.readAt_unread x4 _ j) (funext fun j => harg4.readAt_unread x4 _ j) (funext fun j => harg4.readAt_unread x4 _ j) (funext fun j => harg4.readAt_unread x4 _ j) ?_
    try delta turn0_next.sl.v41
    try delta turn0_next.sl.HG2_1
    try delta turn0_next.sl.HG3_1
    try delta turn0_next.sl.v104
    try delta turn0_next.sl.v111
    try delta turn0_next.sl.dma4
    try delta turn0_next.sl.dma4_1
    exact readC (landedU0 _ _ _)
  isplitl [HB]
  · iexact HB
  isplitl [H4]
  · iexact H4
  isplitl [HT]
  · iexact HT
  isplitl [HS]
  · iexists _
    iexact HS
  isplitl [HU0_dst]
  · iexists _
    iexact HU0_dst
  isplitl [HD0_dst]
  · iexists _
    iexact HD0_dst
  isplitl [HU0]
  · iexact HU0
  isplitl [HD0]
  · iexact HD0
  isplitl [HU0_src]
  · iexact HU0_src
  isplitl [HD0_src]
  · iexact HD0_src
  isplitl [HcU1]
  · iexists _
    iexact HcU1
  isplitl [HcD1]
  · iexists _
    iexact HcD1
  isplitl [HG2]
  · refine owns_of_read c _ _ _ ?_
    try delta turn0_next.sl.v41
    try delta turn0_next.sl.HG2_1
    try delta turn0_next.sl.HG3_1
    try delta turn0_next.sl.v104
    try delta turn0_next.sl.v111
    try delta turn0_next.sl.dma4
    try delta turn0_next.sl.dma4_1
    exact keptU (landedU0 _ _ _) _
  isplitl [HG3]
  · refine owns_of_read c _ _ _ ?_
    try delta turn0_next.sl.v41
    try delta turn0_next.sl.HG2_1
    try delta turn0_next.sl.HG3_1
    try delta turn0_next.sl.v104
    try delta turn0_next.sl.v111
    try delta turn0_next.sl.dma4
    try delta turn0_next.sl.dma4_1
    exact keptD (landedD0 _ _ _) _
  iexists _
  iexact HO

set_option maxHeartbeats 4000000 in
theorem turn0_last (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : ¬ k0_cond3 i = 1#1) (h4 : (Scalar.cmpi .ne (Scalar.extui (Scalar.andi (Scalar.cmpi .sgt (BitVec.ofNat 32 (i 0).val) 0#32) (Scalar.cmpi .ne e p)) : BitVec 32) 0#32 = 1#1)) (h5 : k0_cond5 i e p = 1#1)
    (TX : Buf (Elt F) (tabX.view.loc (c : Thread nD τ))) (n : Elt F .i32) (W : Waits sig Unit)
    (hn : tabX.view.readAt (Elt F) (Rect.unit (s := S32) (k0_off12 e) S1.size hx).toLoadRect TX (Shape.Idx.first (s := S1) (by decide)) = n)
    (h6 : ¬ k0_cond6 n = 1#1)
    (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ)))
    (fu0 : Buf (Elt F) (slotU0.view.loc (c : Thread nD τ))) (fu1 : Buf (Elt F) (slotU1.view.loc (c : Thread nD τ))) (fd0 : Buf (Elt F) (slotD0.view.loc (c : Thread nD τ))) (fd1 : Buf (Elt F) (slotD1.view.loc (c : Thread nD τ)))
    (fs : Buf (Elt F) ((Memref.whole cc0_scratch4 : Memref sig .tc .smem S1 .i32).view.loc (c : Thread nD τ)))
    (g2 : Buf (Elt F) ((Memref.whole cc0_scratch2 : Memref sig .tc .vmem S1024x2048 .bf16).view.loc (c : Thread nD τ))) (g3 : Buf (Elt F) ((Memref.whole cc0_scratch3 : Memref sig .tc .vmem S1024x1024 .bf16).view.loc (c : Thread nD τ)))
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ (tabX.view.loc (c : Thread nD τ) ↦[tabX.view.set]{fullShare.right} TX)
      ∗ ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 1#32⟩])
      ∗ flightU c slotU0 cellU0 (srcU ![e.toNat, 0, 0] hu) fullShare.left fu0 wu
      ∗ flightD c slotD0 cellD0 (srcD ![e.toNat, 0, 0] hd) fullShare.left fd0 wd
      ∗ ((Memref.whole cc0_scratch2 : Memref sig .tc .vmem S1024x2048 .bf16).view.loc (c : Thread nD τ) ↦[(Memref.whole cc0_scratch2 : Memref sig .tc .vmem S1024x2048 .bf16).view.set]{fullShare} g2)
      ∗ ((Memref.whole cc0_scratch3 : Memref sig .tc .vmem S1024x1024 .bf16).view.loc (c : Thread nD τ) ↦[(Memref.whole cc0_scratch3 : Memref sig .tc .vmem S1024x1024 .bf16).view.set]{fullShare} g3)
      ∗ owes (c : Thread nD τ) 0 W
      ∗ (∀ v, ⌜v = upOf x4 (castU ((srcU ![e.toNat, 0, 0] hu).view.read (Elt F) wu))⌝ ∗ (tabB.view.loc (c : Thread nD τ) ↦[tabB.view.set]{fullShare.right} TB)
        ∗ (arg4.view.loc (c : Thread nD τ) ↦[arg4.view.set]{fullShare} harg4.unread x4)
        ∗ (tabX.view.loc (c : Thread nD τ) ↦[tabX.view.set]{fullShare.right} TX)
        ∗ (∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩]))
        ∗ (∃ fu0 : Buf (Elt F) (slotU0.view.loc (c : Thread nD τ)), (slotU0.view.loc (c : Thread nD τ) ↦[slotU0.view.set]{fullShare} fu0))
        ∗ (∃ fd0 : Buf (Elt F) (slotD0.view.loc (c : Thread nD τ)), (slotD0.view.loc (c : Thread nD τ) ↦[slotD0.view.set]{fullShare} fd0))
        ∗ semVal ((c : Thread nD τ), cellU0) 0
        ∗ semVal ((c : Thread nD τ), cellD0) 0
        ∗ ((srcU ![e.toNat, 0, 0] hu).view.loc (c : Thread nD τ) ↦[(srcU ![e.toNat, 0, 0] hu).view.set]{fullShare.left} wu)
        ∗ ((srcD ![e.toNat, 0, 0] hd).view.loc (c : Thread nD τ) ↦[(srcD ![e.toNat, 0, 0] hd).view.set]{fullShare.left} wd)
        ∗ owns (c : Thread nD τ) (Memref.whole cc0_scratch2 : Memref sig .tc .vmem S1024x2048 .bf16) fullShare (castU ((srcU ![e.toNat, 0, 0] hu).view.read (Elt F) wu))
        ∗ owns (c : Thread nD τ) (Memref.whole cc0_scratch3 : Memref sig .tc .vmem S1024x1024 .bf16) fullShare (castD ((srcD ![e.toNat, 0, 0] hd).view.read (Elt F) wd))
        ∗ (∃ W', owes (c : Thread nD τ) 0 W') -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  have hc2 : k0_chk2 i v4 e p 0#32 := ⟨fun _ _ => by decide, fun _ _ => by decide, fun _ _ => by decide, fun _ _ => by decide, fun _ _ => by decide, fun _ _ => by decide⟩
  have hc4 : k0_chk4 i v4 e p 0#32 n := ⟨fun _ _ h => absurd h h6, fun _ _ h => absurd h h6, fun _ _ h => absurd h h6, fun _ _ h => absurd h h6, fun _ _ h => absurd h h6, fun _ _ h => absurd h h6⟩
  subst hn
  subst he hp
  iintro ⟨HB, H4, HT, HS, HU0, HD0, HG2, HG3, HO, Hk⟩
  sl_exec
  sl_step
  iapply Hk
  isplitr
  · ipureintro
    refine up_eq (funext fun j => harg4.readAt_unread x4 _ j) (funext fun j => harg4.readAt_unread x4 _ j) (funext fun j => harg4.readAt_unread x4 _ j) (funext fun j => harg4.readAt_unread x4 _ j) ?_
    try delta turn0_last.sl.v41
    try delta turn0_last.sl.HG2_1
    try delta turn0_last.sl.HG3_1
    try delta turn0_last.sl.v104
    try delta turn0_last.sl.v111
    try delta turn0_last.sl.dma4
    try delta turn0_last.sl.dma4_1
    exact readC (landedU0 _ _ _)
  isplitl [HB]
  · iexact HB
  isplitl [H4]
  · iexact H4
  isplitl [HT]
  · iexact HT
  isplitl [HS]
  · iexists _
    iexact HS
  isplitl [HU0_dst]
  · iexists _
    iexact HU0_dst
  isplitl [HD0_dst]
  · iexists _
    iexact HD0_dst
  isplitl [HU0]
  · iexact HU0
  isplitl [HD0]
  · iexact HD0
  isplitl [HU0_src]
  · iexact HU0_src
  isplitl [HD0_src]
  · iexact HD0_src
  isplitl [HG2]
  · refine owns_of_read c _ _ _ ?_
    try delta turn0_last.sl.v41
    try delta turn0_last.sl.HG2_1
    try delta turn0_last.sl.HG3_1
    try delta turn0_last.sl.v104
    try delta turn0_last.sl.v111
    try delta turn0_last.sl.dma4
    try delta turn0_last.sl.dma4_1
    exact keptU (landedU0 _ _ _) _
  isplitl [HG3]
  · refine owns_of_read c _ _ _ ?_
    try delta turn0_last.sl.v41
    try delta turn0_last.sl.HG2_1
    try delta turn0_last.sl.HG3_1
    try delta turn0_last.sl.v104
    try delta turn0_last.sl.v111
    try delta turn0_last.sl.dma4
    try delta turn0_last.sl.dma4_1
    exact keptD (landedD0 _ _ _) _
  iexists _
  iexact HO

set_option maxHeartbeats 4000000 in
theorem turn1_next (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : ¬ k0_cond3 i = 1#1) (h4 : (Scalar.cmpi .ne (Scalar.extui (Scalar.andi (Scalar.cmpi .sgt (BitVec.ofNat 32 (i 0).val) 0#32) (Scalar.cmpi .ne e p)) : BitVec 32) 0#32 = 1#1)) (h5 : k0_cond5 i e p = 1#1)
    (TX : Buf (Elt F) (tabX.view.loc (c : Thread nD τ))) (n : Elt F .i32) (W : Waits sig Unit)
    (hn : tabX.view.readAt (Elt F) (Rect.unit (s := S32) (k0_off12 e) S1.size hx).toLoadRect TX (Shape.Idx.first (s := S1) (by decide)) = n)
    (h6 : k0_cond6 n = 1#1)
    (hu' : ∀ a, (![n.toNat, 0, 0] : Fin 3 → ℕ) a + S1x1024x2048.size a ≤ S32x1024x2048.size a) (hd' : ∀ a, (![n.toNat, 0, 0] : Fin 3 → ℕ) a + S1x1024x1024.size a ≤ S32x1024x1024.size a)
    (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ)))
    (fu0 : Buf (Elt F) (slotU0.view.loc (c : Thread nD τ))) (fu1 : Buf (Elt F) (slotU1.view.loc (c : Thread nD τ))) (fd0 : Buf (Elt F) (slotD0.view.loc (c : Thread nD τ))) (fd1 : Buf (Elt F) (slotD1.view.loc (c : Thread nD τ)))
    (fs : Buf (Elt F) ((Memref.whole cc0_scratch4 : Memref sig .tc .smem S1 .i32).view.loc (c : Thread nD τ)))
    (g2 : Buf (Elt F) ((Memref.whole cc0_scratch2 : Memref sig .tc .vmem S1024x2048 .bf16).view.loc (c : Thread nD τ))) (g3 : Buf (Elt F) ((Memref.whole cc0_scratch3 : Memref sig .tc .vmem S1024x1024 .bf16).view.loc (c : Thread nD τ)))
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ (tabX.view.loc (c : Thread nD τ) ↦[tabX.view.set]{fullShare.right} TX)
      ∗ ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩])
      ∗ flightU c slotU1 cellU1 (srcU ![e.toNat, 0, 0] hu) fullShare.right fu1 wu
      ∗ flightD c slotD1 cellD1 (srcD ![e.toNat, 0, 0] hd) fullShare.right fd1 wd
      ∗ (slotU0.view.loc (c : Thread nD τ) ↦[slotU0.view.set]{fullShare} fu0)
      ∗ (slotD0.view.loc (c : Thread nD τ) ↦[slotD0.view.set]{fullShare} fd0)
      ∗ semVal ((c : Thread nD τ), cellU0) 0
      ∗ semVal ((c : Thread nD τ), cellD0) 0
      ∗ ((srcU ![n.toNat, 0, 0] hu').view.loc (c : Thread nD τ) ↦[(srcU ![n.toNat, 0, 0] hu').view.set]{fullShare.left} wu)
      ∗ ((srcD ![n.toNat, 0, 0] hd').view.loc (c : Thread nD τ) ↦[(srcD ![n.toNat, 0, 0] hd').view.set]{fullShare.left} wd)
      ∗ ((Memref.whole cc0_scratch2 : Memref sig .tc .vmem S1024x2048 .bf16).view.loc (c : Thread nD τ) ↦[(Memref.whole cc0_scratch2 : Memref sig .tc .vmem S1024x2048 .bf16).view.set]{fullShare} g2)
      ∗ ((Memref.whole cc0_scratch3 : Memref sig .tc .vmem S1024x1024 .bf16).view.loc (c : Thread nD τ) ↦[(Memref.whole cc0_scratch3 : Memref sig .tc .vmem S1024x1024 .bf16).view.set]{fullShare} g3)
      ∗ owes (c : Thread nD τ) 0 W
      ∗ (∀ v, ⌜v = upOf x4 (castU ((srcU ![e.toNat, 0, 0] hu).view.read (Elt F) wu))⌝ ∗ (tabB.view.loc (c : Thread nD τ) ↦[tabB.view.set]{fullShare.right} TB)
        ∗ (arg4.view.loc (c : Thread nD τ) ↦[arg4.view.set]{fullShare} harg4.unread x4)
        ∗ (tabX.view.loc (c : Thread nD τ) ↦[tabX.view.set]{fullShare.right} TX)
        ∗ (∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 1#32⟩]))
        ∗ (∃ fu1 : Buf (Elt F) (slotU1.view.loc (c : Thread nD τ)), (slotU1.view.loc (c : Thread nD τ) ↦[slotU1.view.set]{fullShare} fu1))
        ∗ (∃ fd1 : Buf (Elt F) (slotD1.view.loc (c : Thread nD τ)), (slotD1.view.loc (c : Thread nD τ) ↦[slotD1.view.set]{fullShare} fd1))
        ∗ semVal ((c : Thread nD τ), cellU1) 0
        ∗ semVal ((c : Thread nD τ), cellD1) 0
        ∗ ((srcU ![e.toNat, 0, 0] hu).view.loc (c : Thread nD τ) ↦[(srcU ![e.toNat, 0, 0] hu).view.set]{fullShare.right} wu)
        ∗ ((srcD ![e.toNat, 0, 0] hd).view.loc (c : Thread nD τ) ↦[(srcD ![e.toNat, 0, 0] hd).view.set]{fullShare.right} wd)
        ∗ (∃ fu0 : Buf (Elt F) (slotU0.view.loc (c : Thread nD τ)), flightU c slotU0 cellU0 (srcU ![n.toNat, 0, 0] hu') fullShare.left fu0 wu)
        ∗ (∃ fd0 : Buf (Elt F) (slotD0.view.loc (c : Thread nD τ)), flightD c slotD0 cellD0 (srcD ![n.toNat, 0, 0] hd') fullShare.left fd0 wd)
        ∗ owns (c : Thread nD τ) (Memref.whole cc0_scratch2 : Memref sig .tc .vmem S1024x2048 .bf16) fullShare (castU ((srcU ![e.toNat, 0, 0] hu).view.read (Elt F) wu))
        ∗ owns (c : Thread nD τ) (Memref.whole cc0_scratch3 : Memref sig .tc .vmem S1024x1024 .bf16) fullShare (castD ((srcD ![e.toNat, 0, 0] hd).view.read (Elt F) wd))
        ∗ (∃ W', owes (c : Thread nD τ) 0 W') -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  have hc2 : k0_chk2 i v4 e p 1#32 := ⟨fun _ _ => by decide, fun _ _ => by decide, fun _ _ => by decide, fun _ _ => by decide, fun _ _ => by decide, fun _ _ => by decide⟩
  have hc4 : k0_chk4 i v4 e p 1#32 n := ⟨fun _ _ _ => by decide, fun _ _ _ => by decide, fun _ _ _ => hu', fun _ _ _ => by decide, fun _ _ _ => by decide, fun _ _ _ => hd'⟩
  subst hn
  subst he hp
  iintro ⟨HB, H4, HT, HS, HU1, HD1, HsU0, HsD0, HcU0, HcD0, HvU, HvD, HG2, HG3, HO, Hk⟩
  sl_exec
  sl_step
  iapply Hk
  isplitr
  · ipureintro
    refine up_eq (funext fun j => harg4.readAt_unread x4 _ j) (funext fun j => harg4.readAt_unread x4 _ j) (funext fun j => harg4.readAt_unread x4 _ j) (funext fun j => harg4.readAt_unread x4 _ j) ?_
    try delta turn1_next.sl.v41
    try delta turn1_next.sl.HG2_1
    try delta turn1_next.sl.HG3_1
    try delta turn1_next.sl.v104
    try delta turn1_next.sl.v111
    try delta turn1_next.sl.dma4
    try delta turn1_next.sl.dma4_1
    exact readC (landedU1 _ _ _)
  isplitl [HB]
  · iexact HB
  isplitl [H4]
  · iexact H4
  isplitl [HT]
  · iexact HT
  isplitl [HS]
  · iexists _
    iexact HS
  isplitl [HU1_dst]
  · iexists _
    iexact HU1_dst
  isplitl [HD1_dst]
  · iexists _
    iexact HD1_dst
  isplitl [HU1]
  · iexact HU1
  isplitl [HD1]
  · iexact HD1
  isplitl [HU1_src]
  · iexact HU1_src
  isplitl [HD1_src]
  · iexact HD1_src
  isplitl [HcU0]
  · iexists _
    iexact HcU0
  isplitl [HcD0]
  · iexists _
    iexact HcD0
  isplitl [HG2]
  · refine owns_of_read c _ _ _ ?_
    try delta turn1_next.sl.v41
    try delta turn1_next.sl.HG2_1
    try delta turn1_next.sl.HG3_1
    try delta turn1_next.sl.v104
    try delta turn1_next.sl.v111
    try delta turn1_next.sl.dma4
    try delta turn1_next.sl.dma4_1
    exact keptU (landedU1 _ _ _) _
  isplitl [HG3]
  · refine owns_of_read c _ _ _ ?_
    try delta turn1_next.sl.v41
    try delta turn1_next.sl.HG2_1
    try delta turn1_next.sl.HG3_1
    try delta turn1_next.sl.v104
    try delta turn1_next.sl.v111
    try delta turn1_next.sl.dma4
    try delta turn1_next.sl.dma4_1
    exact keptD (landedD1 _ _ _) _
  iexists _
  iexact HO

set_option maxHeartbeats 4000000 in
theorem turn1_last (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : Elt F .i32) (h2 : k0_cond2 i v4 = 1#1) (x4 : Vec F S2048x128 .i32)
    (TB : Buf (Elt F) (tabB.view.loc (c : Thread nD τ))) (e p : Elt F .i32)
    (he : tabB.view.readAt (Elt F) (Rect.unit (s := S288) (k0_off2 i) S1.size (k0_off2_inb i)).toLoadRect TB (Shape.Idx.first (s := S1) (by decide)) = e)
    (hp : tabB.view.readAt (Elt F) (Rect.unit (s := S288) (k0_off3 i) S1.size (k0_off3_inb i)).toLoadRect TB (Shape.Idx.first (s := S1) (by decide)) = p)
    (hu : ∀ a, (![e.toNat, 0, 0] : Fin 3 → ℕ) a + S1x1024x2048.size a ≤ S32x1024x2048.size a) (hd : ∀ a, (![e.toNat, 0, 0] : Fin 3 → ℕ) a + S1x1024x1024.size a ≤ S32x1024x1024.size a)
    (hx : ∀ a, (k0_off12 e) a + S1.size a ≤ S32.size a)
    (h3 : ¬ k0_cond3 i = 1#1) (h4 : (Scalar.cmpi .ne (Scalar.extui (Scalar.andi (Scalar.cmpi .sgt (BitVec.ofNat 32 (i 0).val) 0#32) (Scalar.cmpi .ne e p)) : BitVec 32) 0#32 = 1#1)) (h5 : k0_cond5 i e p = 1#1)
    (TX : Buf (Elt F) (tabX.view.loc (c : Thread nD τ))) (n : Elt F .i32) (W : Waits sig Unit)
    (hn : tabX.view.readAt (Elt F) (Rect.unit (s := S32) (k0_off12 e) S1.size hx).toLoadRect TX (Shape.Idx.first (s := S1) (by decide)) = n)
    (h6 : ¬ k0_cond6 n = 1#1)
    (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ)))
    (fu0 : Buf (Elt F) (slotU0.view.loc (c : Thread nD τ))) (fu1 : Buf (Elt F) (slotU1.view.loc (c : Thread nD τ))) (fd0 : Buf (Elt F) (slotD0.view.loc (c : Thread nD τ))) (fd1 : Buf (Elt F) (slotD1.view.loc (c : Thread nD τ)))
    (fs : Buf (Elt F) ((Memref.whole cc0_scratch4 : Memref sig .tc .smem S1 .i32).view.loc (c : Thread nD τ)))
    (g2 : Buf (Elt F) ((Memref.whole cc0_scratch2 : Memref sig .tc .vmem S1024x2048 .bf16).view.loc (c : Thread nD τ))) (g3 : Buf (Elt F) ((Memref.whole cc0_scratch3 : Memref sig .tc .vmem S1024x1024 .bf16).view.loc (c : Thread nD τ)))
    (K : FVec F S512x2048 .f32 → sProp 𝕄) :
    iprop((tabB.view.loc (c : Thread nD τ) ↦[tabB.view.set]{fullShare.right} TB)
      ∗ (arg4.view.loc (c : Thread nD τ) ↦[arg4.view.set]{fullShare} harg4.unread x4)
      ∗ (tabX.view.loc (c : Thread nD τ) ↦[tabX.view.set]{fullShare.right} TX)
      ∗ ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩])
      ∗ flightU c slotU1 cellU1 (srcU ![e.toNat, 0, 0] hu) fullShare.right fu1 wu
      ∗ flightD c slotD1 cellD1 (srcD ![e.toNat, 0, 0] hd) fullShare.right fd1 wd
      ∗ ((Memref.whole cc0_scratch2 : Memref sig .tc .vmem S1024x2048 .bf16).view.loc (c : Thread nD τ) ↦[(Memref.whole cc0_scratch2 : Memref sig .tc .vmem S1024x2048 .bf16).view.set]{fullShare} g2)
      ∗ ((Memref.whole cc0_scratch3 : Memref sig .tc .vmem S1024x1024 .bf16).view.loc (c : Thread nD τ) ↦[(Memref.whole cc0_scratch3 : Memref sig .tc .vmem S1024x1024 .bf16).view.set]{fullShare} g3)
      ∗ owes (c : Thread nD τ) 0 W
      ∗ (∀ v, ⌜v = upOf x4 (castU ((srcU ![e.toNat, 0, 0] hu).view.read (Elt F) wu))⌝ ∗ (tabB.view.loc (c : Thread nD τ) ↦[tabB.view.set]{fullShare.right} TB)
        ∗ (arg4.view.loc (c : Thread nD τ) ↦[arg4.view.set]{fullShare} harg4.unread x4)
        ∗ (tabX.view.loc (c : Thread nD τ) ↦[tabX.view.set]{fullShare.right} TX)
        ∗ (∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 1#32⟩]))
        ∗ (∃ fu1 : Buf (Elt F) (slotU1.view.loc (c : Thread nD τ)), (slotU1.view.loc (c : Thread nD τ) ↦[slotU1.view.set]{fullShare} fu1))
        ∗ (∃ fd1 : Buf (Elt F) (slotD1.view.loc (c : Thread nD τ)), (slotD1.view.loc (c : Thread nD τ) ↦[slotD1.view.set]{fullShare} fd1))
        ∗ semVal ((c : Thread nD τ), cellU1) 0
        ∗ semVal ((c : Thread nD τ), cellD1) 0
        ∗ ((srcU ![e.toNat, 0, 0] hu).view.loc (c : Thread nD τ) ↦[(srcU ![e.toNat, 0, 0] hu).view.set]{fullShare.right} wu)
        ∗ ((srcD ![e.toNat, 0, 0] hd).view.loc (c : Thread nD τ) ↦[(srcD ![e.toNat, 0, 0] hd).view.set]{fullShare.right} wd)
        ∗ owns (c : Thread nD τ) (Memref.whole cc0_scratch2 : Memref sig .tc .vmem S1024x2048 .bf16) fullShare (castU ((srcU ![e.toNat, 0, 0] hu).view.read (Elt F) wu))
        ∗ owns (c : Thread nD τ) (Memref.whole cc0_scratch3 : Memref sig .tc .vmem S1024x1024 .bf16) fullShare (castD ((srcD ![e.toNat, 0, 0] hd).view.read (Elt F) wd))
        ∗ (∃ W', owes (c : Thread nD τ) 0 W') -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [k0_part2_eq_skeleton]; unfold k0_part2_skel
  have hc1 : k0_chk1 i v4 e := ⟨fun _ _ => hu, fun _ _ => hd⟩
  have hc3 : k0_chk3 i v4 e p := ⟨fun _ _ => hu, fun _ _ => hd, fun _ _ => hx⟩
  have hc2 : k0_chk2 i v4 e p 1#32 := ⟨fun _ _ => by decide, fun _ _ => by decide, fun _ _ => by decide, fun _ _ => by decide, fun _ _ => by decide, fun _ _ => by decide⟩
  have hc4 : k0_chk4 i v4 e p 1#32 n := ⟨fun _ _ h => absurd h h6, fun _ _ h => absurd h h6, fun _ _ h => absurd h h6, fun _ _ h => absurd h h6, fun _ _ h => absurd h h6, fun _ _ h => absurd h h6⟩
  subst hn
  subst he hp
  iintro ⟨HB, H4, HT, HS, HU1, HD1, HG2, HG3, HO, Hk⟩
  sl_exec
  sl_step
  iapply Hk
  isplitr
  · ipureintro
    refine up_eq (funext fun j => harg4.readAt_unread x4 _ j) (funext fun j => harg4.readAt_unread x4 _ j) (funext fun j => harg4.readAt_unread x4 _ j) (funext fun j => harg4.readAt_unread x4 _ j) ?_
    try delta turn1_last.sl.v41
    try delta turn1_last.sl.HG2_1
    try delta turn1_last.sl.HG3_1
    try delta turn1_last.sl.v104
    try delta turn1_last.sl.v111
    try delta turn1_last.sl.dma4
    try delta turn1_last.sl.dma4_1
    exact readC (landedU1 _ _ _)
  isplitl [HB]
  · iexact HB
  isplitl [H4]
  · iexact H4
  isplitl [HT]
  · iexact HT
  isplitl [HS]
  · iexists _
    iexact HS
  isplitl [HU1_dst]
  · iexists _
    iexact HU1_dst
  isplitl [HD1_dst]
  · iexists _
    iexact HD1_dst
  isplitl [HU1]
  · iexact HU1
  isplitl [HD1]
  · iexact HD1
  isplitl [HU1_src]
  · iexact HU1_src
  isplitl [HD1_src]
  · iexact HD1_src
  isplitl [HG2]
  · refine owns_of_read c _ _ _ ?_
    try delta turn1_last.sl.v41
    try delta turn1_last.sl.HG2_1
    try delta turn1_last.sl.HG3_1
    try delta turn1_last.sl.v104
    try delta turn1_last.sl.v111
    try delta turn1_last.sl.dma4
    try delta turn1_last.sl.dma4_1
    exact keptU (landedU1 _ _ _) _
  isplitl [HG3]
  · refine owns_of_read c _ _ _ ?_
    try delta turn1_last.sl.v41
    try delta turn1_last.sl.HG2_1
    try delta turn1_last.sl.HG3_1
    try delta turn1_last.sl.v104
    try delta turn1_last.sl.v111
    try delta turn1_last.sl.dma4
    try delta turn1_last.sl.dma4_1
    exact keptD (landedD1 _ _ _) _
  iexists _
  iexact HO

end Cert.Kernel2Ideal.Ffn
-- ==== Proof.Words.lean ====
/- The experts' kernel: what its words decide, and what the routing's tables are asked for. -/
module

public import Idealize.ShloMosaic.Lib.WordCmp
public import proofs.«01_k».proof.Proof.Slots

@[expose] public section

namespace Cert.Kernel2Ideal.Ffn

open Cert.Kernel2Ideal.Gen
open Idealize.ShloMosaic Idealize.ShloMosaic.TcCoe

theorem bit_ne (b : BitVec 1) : Scalar.cmpi .ne (Scalar.extui b : BitVec 32) 0#32 = b := by revert b; decide

theorem bit_iff (p : Prop) [Decidable p] : BitVec.ofBool (decide p) = 1#1 ↔ p := by
  by_cases h : p <;> simp [h]

theorem point_lt (i : grid0.Coords) : (i 0).val < 288 := (i 0).isLt

theorem point_toNat (i : grid0.Coords) : (BitVec.ofNat 32 (i 0).val).toNat = (i 0).val := by
  have := point_lt i
  rw [BitVec.toNat_ofNat]; omega

theorem eq_bit (x y : BitVec 32) : Scalar.cmpi .eq x y = 1#1 ↔ x = y := by
  rw [show Scalar.cmpi .eq x y = BitVec.ofBool (decide (x = y)) from WordCmp.cmpi_eq_eq x y, bit_iff]
theorem ne_bit (x y : BitVec 32) : Scalar.cmpi .ne x y = 1#1 ↔ x ≠ y := by
  rw [show Scalar.cmpi .ne x y = BitVec.ofBool (decide (x ≠ y)) from WordCmp.cmpi_ne_eq x y, bit_iff]

theorem point_zero (i : grid0.Coords) : BitVec.ofNat 32 (i 0).val = 0#32 ↔ (i 0).val = 0 := by
  rw [← BitVec.toNat_inj, point_toNat]; rfl

theorem cond3_iff (i : grid0.Coords) : k0_cond3 i = 1#1 ↔ (i 0).val = 0 := by
  show Scalar.cmpi .ne (Scalar.extui (Scalar.cmpi .eq (BitVec.ofNat 32 (i 0).val) 0#32) : BitVec 32) 0#32 = 1#1 ↔ _
  rw [bit_ne, eq_bit, point_zero]

theorem or_bit (a b : BitVec 1) : Scalar.ori a b = 1#1 ↔ a = 1#1 ∨ b = 1#1 := by revert a b; decide
theorem and_bit (a b : BitVec 1) : Scalar.andi a b = 1#1 ↔ a = 1#1 ∧ b = 1#1 := by revert a b; decide

theorem cond5_iff (i : grid0.Coords) (e p : BitVec 32) : k0_cond5 i e p = 1#1 ↔ (i 0).val = 0 ∨ e ≠ p := by
  show Scalar.cmpi .ne (Scalar.extui (Scalar.ori (Scalar.cmpi .eq (BitVec.ofNat 32 (i 0).val) 0#32) (Scalar.cmpi .ne e p)) : BitVec 32) 0#32 = 1#1 ↔ _
  rw [bit_ne, or_bit, eq_bit, ne_bit, point_zero]

theorem sgt_bit (i : grid0.Coords) : Scalar.cmpi .sgt (BitVec.ofNat 32 (i 0).val) 0#32 = 1#1 ↔ 0 < (i 0).val := by
  have := point_lt i
  rw [show Scalar.cmpi .sgt (BitVec.ofNat 32 (i 0).val) 0#32 = BitVec.ofBool (decide ((0#32).toInt < (BitVec.ofNat 32 (i 0).val).toInt)) from WordCmp.cmpi_sgt_eq _ _, bit_iff,
    WordCmp.toInt_eq_toNat_of_lt_half (x := BitVec.ofNat 32 (i 0).val) (by rw [point_toNat]; omega), point_toNat]
  simp

theorem cond4_iff (i : grid0.Coords) (e p : BitVec 32) :
    (Scalar.cmpi .ne (Scalar.extui (Scalar.andi (Scalar.cmpi .sgt (BitVec.ofNat 32 (i 0).val) 0#32) (Scalar.cmpi .ne e p)) : BitVec 32) 0#32 = 1#1) ↔ 0 < (i 0).val ∧ e ≠ p := by
  rw [bit_ne, and_bit, sgt_bit, ne_bit]

theorem cond6_iff (n : BitVec 32) : k0_cond6 n = 1#1 ↔ n.toNat < 2 ^ 31 := by
  show Scalar.cmpi .ne (Scalar.extui (Scalar.cmpi .sge n 0#32) : BitVec 32) 0#32 = 1#1 ↔ _
  rw [bit_ne, show Scalar.cmpi .sge n 0#32 = BitVec.ofBool (decide (n.toNat < 2 ^ (32 - 1))) from WordCmp.cmpi_sge_zero n, bit_iff]

theorem cond1_iff (i : grid0.Coords) (u : BitVec 32) (hu : u.toNat ≤ 288) : k0_cond1 i u = 1#1 ↔ u.toNat ≤ (i 0).val := by
  have := point_lt i
  show Scalar.cmpi .ne (Scalar.extui (Scalar.cmpi .sge (BitVec.ofNat 32 (i 0).val) u) : BitVec 32) 0#32 = 1#1 ↔ _
  rw [bit_ne, show Scalar.cmpi .sge (BitVec.ofNat 32 (i 0).val) u = BitVec.ofBool (decide (u.toInt ≤ (BitVec.ofNat 32 (i 0).val).toInt)) from WordCmp.cmpi_sge_eq _ _, bit_iff,
    WordCmp.toInt_eq_toNat_of_lt_half (x := BitVec.ofNat 32 (i 0).val) (by rw [point_toNat]; omega), WordCmp.toInt_eq_toNat_of_lt_half (x := u) (by omega), point_toNat]
  omega

theorem cond2_iff (i : grid0.Coords) (u : BitVec 32) (hu : u.toNat ≤ 288) : k0_cond2 i u = 1#1 ↔ (i 0).val < u.toNat := by
  have := point_lt i
  show Scalar.cmpi .ne (Scalar.extui (Scalar.cmpi .slt (BitVec.ofNat 32 (i 0).val) u) : BitVec 32) 0#32 = 1#1 ↔ _
  rw [bit_ne, show Scalar.cmpi .slt (BitVec.ofNat 32 (i 0).val) u = BitVec.ofBool (decide ((BitVec.ofNat 32 (i 0).val).toInt < u.toInt)) from WordCmp.cmpi_slt_eq _ _, bit_iff,
    WordCmp.toInt_eq_toNat_of_lt_half (x := BitVec.ofNat 32 (i 0).val) (by rw [point_toNat]; omega), WordCmp.toInt_eq_toNat_of_lt_half (x := u) (by omega), point_toNat]
  omega

/-- Place `k` of a table. -/
abbrev at288 (k : ℕ) : S288.Idx := fun | ⟨0, _⟩ => ⟨min k 287, show min k 287 < 288 by omega⟩
abbrev at32 (k : ℕ) : S32.Idx := fun | ⟨0, _⟩ => ⟨min k 31, show min k 31 < 32 by omega⟩
abbrev at1 : S1.Idx := fun | ⟨0, _⟩ => ⟨0, show 0 < 1 by omega⟩

variable {F : FTy → Type} [FloatOps F]

/-- What the routing's tables are: the blocks' experts, the number of blocks used, each expert's successor. -/
structure Routed (TB : S288.Idx → BitVec 32) (TN : S1.Idx → BitVec 32) (TX : S32.Idx → BitVec 32) : Prop where
  pos : 1 ≤ (TN at1).toNat
  le : (TN at1).toNat ≤ 288
  lt : ∀ k, (TB (at288 k)).toNat < 32
  fol : ∀ k, (TX (at32 k)).toNat < 32 ∨ 2 ^ 31 ≤ (TX (at32 k)).toNat
  last : ∀ k, k + 1 = (TN at1).toNat → 2 ^ 31 ≤ (TX (at32 (TB (at288 k)).toNat)).toNat
  step : ∀ k, k + 1 < (TN at1).toNat → TB (at288 (k + 1)) = TB (at288 k) ∨ TX (at32 (TB (at288 k)).toNat) = TB (at288 (k + 1))

theorem offU {e : BitVec 32} (h : e.toNat < 32) : ∀ a, (![e.toNat, 0, 0] : Fin 3 → ℕ) a + S1x1024x2048.size a ≤ S32x1024x2048.size a := by
  intro a
  match a with
  | ⟨0, _⟩ => show e.toNat + 1 ≤ 32; omega
  | ⟨1, _⟩ => show 0 + 1024 ≤ 1024; omega
  | ⟨2, _⟩ => show 0 + 2048 ≤ 2048; omega
theorem offD {e : BitVec 32} (h : e.toNat < 32) : ∀ a, (![e.toNat, 0, 0] : Fin 3 → ℕ) a + S1x1024x1024.size a ≤ S32x1024x1024.size a := by
  intro a
  match a with
  | ⟨0, _⟩ => show e.toNat + 1 ≤ 32; omega
  | ⟨1, _⟩ => show 0 + 1024 ≤ 1024; omega
  | ⟨2, _⟩ => show 0 + 1024 ≤ 1024; omega
theorem offX {e : BitVec 32} (h : e.toNat < 32) : ∀ a, (k0_off12 e) a + S1.size a ≤ S32.size a := by
  intro a
  match a with
  | ⟨0, _⟩ => show e.toNat + 1 ≤ 32; omega

theorem read_block (i : grid0.Coords) (TB : S288.Idx → BitVec 32) :
    tabB.view.readAt (Elt F) (Rect.unit (s := S288) (k0_off2 i) S1.size (k0_off2_inb i)).toLoadRect TB (Shape.Idx.first (s := S1) (by decide)) = TB (at288 (i 0).val) := by
  have := point_lt i
  show TB _ = _
  refine congrArg TB (funext fun a => Fin.ext ?_)
  match a with
  | ⟨0, _⟩ =>
    show (BitVec.ofNat 32 (i 0).val).toNat + 1 * 0 = min (i 0).val 287
    rw [point_toNat]; omega

theorem read_before (i : grid0.Coords) (TB : S288.Idx → BitVec 32) :
    tabB.view.readAt (Elt F) (Rect.unit (s := S288) (k0_off3 i) S1.size (k0_off3_inb i)).toLoadRect TB (Shape.Idx.first (s := S1) (by decide)) = TB (at288 ((i 0).val - 1)) := by
  have := point_lt i
  show TB _ = _
  refine congrArg TB (funext fun a => Fin.ext ?_)
  match a with
  | ⟨0, _⟩ =>
    show (Scalar.maxsi (Scalar.subi (BitVec.ofNat 32 (i 0).val) 1#32) 0#32).toNat + 1 * 0 = min ((i 0).val - 1) 287
    have key : ∀ k : Fin 288, (Scalar.maxsi (Scalar.subi (BitVec.ofNat 32 k.val) 1#32) 0#32).toNat + 1 * 0 = min (k.val - 1) 287 := by decide +kernel
    exact key ⟨(i 0).val, this⟩

theorem read_next {e : BitVec 32} (h : e.toNat < 32) (TX : S32.Idx → BitVec 32) :
    tabX.view.readAt (Elt F) (Rect.unit (s := S32) (k0_off12 e) S1.size (offX h)).toLoadRect TX (Shape.Idx.first (s := S1) (by decide)) = TX (at32 e.toNat) := by
  show TX _ = _
  refine congrArg TX (funext fun a => Fin.ext ?_)
  match a with
  | ⟨0, _⟩ => show e.toNat + 1 * 0 = min e.toNat 31; omega

theorem read_used (TN : S1.Idx → BitVec 32) :
    tabN.view.readAt (Elt F) (Rect.unit (s := S1) ![0] S1.size inb_S1_S1_0).toLoadRect TN (Shape.Idx.first (s := S1) (by decide)) = TN at1 := by
  show TN _ = _
  refine congrArg TN (funext fun a => Fin.ext ?_)
  match a with
  | ⟨0, _⟩ => rfl

end Cert.Kernel2Ideal.Ffn
-- ==== Proof.State.lean ====
/- The experts' kernel: what its rings hold between the blocks. -/
module

public import proofs.«01_k».proof.Proof.Slots
public import proofs.«01_k».proof.Proof.Turns
public import proofs.«01_k».proof.Proof.Words

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- Slot 0 of the two rings with nothing under way, and its share of the weights. -/
noncomputable def spare0 (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) : sProp 𝕄 :=
  iprop((∃ fu0 : Buf (Elt F) (slotU0.view.loc (c : Thread nD τ)), (slotU0.view.loc (c : Thread nD τ) ↦[slotU0.view.set]{fullShare} fu0)) ∗ (∃ fd0 : Buf (Elt F) (slotD0.view.loc (c : Thread nD τ)), (slotD0.view.loc (c : Thread nD τ) ↦[slotD0.view.set]{fullShare} fd0)) ∗ semVal ((c : Thread nD τ), cellU0) 0 ∗ semVal ((c : Thread nD τ), cellD0) 0 ∗ ((Memref.whole main_arg4 : Memref sig .tc .hbm S32x1024x2048 .f32).view.loc (c : Thread nD τ) ↦{fullShare.left} wu) ∗ ((Memref.whole main_arg6 : Memref sig .tc .hbm S32x1024x1024 .f32).view.loc (c : Thread nD τ) ↦{fullShare.left} wd))

/-- Slot 0 of the two rings with the weights of expert `n` on their way. -/
noncomputable def coming0 (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (n : BitVec 32) (h : n.toNat < 32) : sProp 𝕄 :=
  iprop((∃ fu0 : Buf (Elt F) (slotU0.view.loc (c : Thread nD τ)), flightU c slotU0 cellU0 (srcU ![n.toNat, 0, 0] (offU h)) fullShare.left fu0 wu) ∗ (∃ fd0 : Buf (Elt F) (slotD0.view.loc (c : Thread nD τ)), flightD c slotD0 cellD0 (srcD ![n.toNat, 0, 0] (offD h)) fullShare.left fd0 wd) ∗ ((Memref.whole main_arg4 : Memref sig .tc .hbm S32x1024x2048 .f32).view.loc (c : Thread nD τ) ↦[Finset.univ \ (srcU ![n.toNat, 0, 0] (offU h)).view.set]{fullShare.left} wu) ∗ ((Memref.whole main_arg6 : Memref sig .tc .hbm S32x1024x1024 .f32).view.loc (c : Thread nD τ) ↦[Finset.univ \ (srcD ![n.toNat, 0, 0] (offD h)).view.set]{fullShare.left} wd))

/-- What slot 0 holds when `n` is the expert to come, or there is none. -/
noncomputable def toward0 (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (n : BitVec 32) : sProp 𝕄 :=
  if h : n.toNat < 32 then coming0 c wu wd n h else spare0 c wu wd

/-- Slot 1 of the two rings with nothing under way, and its share of the weights. -/
noncomputable def spare1 (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) : sProp 𝕄 :=
  iprop((∃ fu1 : Buf (Elt F) (slotU1.view.loc (c : Thread nD τ)), (slotU1.view.loc (c : Thread nD τ) ↦[slotU1.view.set]{fullShare} fu1)) ∗ (∃ fd1 : Buf (Elt F) (slotD1.view.loc (c : Thread nD τ)), (slotD1.view.loc (c : Thread nD τ) ↦[slotD1.view.set]{fullShare} fd1)) ∗ semVal ((c : Thread nD τ), cellU1) 0 ∗ semVal ((c : Thread nD τ), cellD1) 0 ∗ ((Memref.whole main_arg4 : Memref sig .tc .hbm S32x1024x2048 .f32).view.loc (c : Thread nD τ) ↦{fullShare.right} wu) ∗ ((Memref.whole main_arg6 : Memref sig .tc .hbm S32x1024x1024 .f32).view.loc (c : Thread nD τ) ↦{fullShare.right} wd))

/-- Slot 1 of the two rings with the weights of expert `n` on their way. -/
noncomputable def coming1 (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (n : BitVec 32) (h : n.toNat < 32) : sProp 𝕄 :=
  iprop((∃ fu1 : Buf (Elt F) (slotU1.view.loc (c : Thread nD τ)), flightU c slotU1 cellU1 (srcU ![n.toNat, 0, 0] (offU h)) fullShare.right fu1 wu) ∗ (∃ fd1 : Buf (Elt F) (slotD1.view.loc (c : Thread nD τ)), flightD c slotD1 cellD1 (srcD ![n.toNat, 0, 0] (offD h)) fullShare.right fd1 wd) ∗ ((Memref.whole main_arg4 : Memref sig .tc .hbm S32x1024x2048 .f32).view.loc (c : Thread nD τ) ↦[Finset.univ \ (srcU ![n.toNat, 0, 0] (offU h)).view.set]{fullShare.right} wu) ∗ ((Memref.whole main_arg6 : Memref sig .tc .hbm S32x1024x1024 .f32).view.loc (c : Thread nD τ) ↦[Finset.univ \ (srcD ![n.toNat, 0, 0] (offD h)).view.set]{fullShare.right} wd))

/-- What slot 1 holds when `n` is the expert to come, or there is none. -/
noncomputable def toward1 (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (n : BitVec 32) : sProp 𝕄 :=
  if h : n.toNat < 32 then coming1 c wu wd n h else spare1 c wu wd

/-- The rings after a block, `n` the expert to come. -/
noncomputable def mid (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (n : BitVec 32) : sProp 𝕄 :=
  iprop(((∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 0#32⟩])) ∗ spare0 c wu wd ∗ toward1 c wu wd n) ∨ ((∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} (Memref.whole cc0_scratch4 : Memref sig .tc .smem S1 .i32).view.writes (Elt F) fs [⟨Rect.unit ![0] S1.size inb_S1_S1_0, fun _ => 1#32⟩])) ∗ spare1 c wu wd ∗ toward0 c wu wd n))

/-- The rings before the first block and after the last. -/
noncomputable def rings (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) : sProp 𝕄 :=
  iprop((∃ fs : Buf (Elt F) ((Memref.whole cc0_scratch4 : Memref sig .tc .smem S1 .i32).view.loc (c : Thread nD τ)), ((Memref.whole cc0_scratch4 : Memref sig .tc .smem S1 .i32).view.loc (c : Thread nD τ) ↦[(Memref.whole cc0_scratch4 : Memref sig .tc .smem S1 .i32).view.set]{fullShare} fs)) ∗ spare0 c wu wd ∗ spare1 c wu wd)

noncomputable def any2 (c : Dev nD) : sProp 𝕄 := iprop(∃ g2 : Buf (Elt F) ((Memref.whole cc0_scratch2 : Memref sig .tc .vmem S1024x2048 .bf16).view.loc (c : Thread nD τ)), ((Memref.whole cc0_scratch2 : Memref sig .tc .vmem S1024x2048 .bf16).view.loc (c : Thread nD τ) ↦[(Memref.whole cc0_scratch2 : Memref sig .tc .vmem S1024x2048 .bf16).view.set]{fullShare} g2))
noncomputable def any3 (c : Dev nD) : sProp 𝕄 := iprop(∃ g3 : Buf (Elt F) ((Memref.whole cc0_scratch3 : Memref sig .tc .vmem S1024x1024 .bf16).view.loc (c : Thread nD τ)), ((Memref.whole cc0_scratch3 : Memref sig .tc .vmem S1024x1024 .bf16).view.loc (c : Thread nD τ) ↦[(Memref.whole cc0_scratch3 : Memref sig .tc .vmem S1024x1024 .bf16).view.set]{fullShare} g3))

/-- An expert's weights as the kernel keeps them. -/
noncomputable def upW (c : Dev nD) (wu : Buf (Elt F) ((Memref.whole main_arg4 : Memref sig .tc .hbm S32x1024x2048 .f32).view.loc (c : Thread nD τ))) (e : BitVec 32) (h : e.toNat < 32) : Vec F S1024x2048 .bf16 := castU ((srcU ![e.toNat, 0, 0] (offU h)).view.read (Elt F) wu)
noncomputable def downW (c : Dev nD) (wd : Buf (Elt F) ((Memref.whole main_arg6 : Memref sig .tc .hbm S32x1024x1024 .f32).view.loc (c : Thread nD τ))) (e : BitVec 32) (h : e.toNat < 32) : Vec F S1024x1024 .bf16 := castD ((srcD ![e.toNat, 0, 0] (offD h)).view.read (Elt F) wd)

theorem splitU (c : Dev nD) (o : Fin 3 → ℕ) (h : ∀ a, o a + S1x1024x2048.size a ≤ S32x1024x2048.size a) (q : PosShare TreeShare) (wu : Buf (Elt F) ((Memref.whole main_arg4 : Memref sig .tc .hbm S32x1024x2048 .f32).view.loc (c : Thread nD τ))) :
    (((Memref.whole main_arg4 : Memref sig .tc .hbm S32x1024x2048 .f32).view.loc (c : Thread nD τ) ↦{q} wu) : sProp 𝕄) ⊣⊢ iprop(((srcU o h).view.loc (c : Thread nD τ) ↦[(srcU o h).view.set]{q} wu) ∗ ((Memref.whole main_arg4 : Memref sig .tc .hbm S32x1024x2048 .f32).view.loc (c : Thread nD τ) ↦[Finset.univ \ (srcU o h).view.set]{q} wu)) :=
  pointsTo_split_subset (Finset.subset_univ _)

theorem takeU (c : Dev nD) (o : Fin 3 → ℕ) (h : ∀ a, o a + S1x1024x2048.size a ≤ S32x1024x2048.size a) (q : PosShare TreeShare) (wu : Buf (Elt F) ((Memref.whole main_arg4 : Memref sig .tc .hbm S32x1024x2048 .f32).view.loc (c : Thread nD τ))) (K : sProp 𝕄) :
    (((Memref.whole main_arg4 : Memref sig .tc .hbm S32x1024x2048 .f32).view.loc (c : Thread nD τ) ↦{q} wu) : sProp 𝕄) ⊢ iprop(((((srcU o h).view.loc (c : Thread nD τ) ↦[(srcU o h).view.set]{q} wu) ∗ ((Memref.whole main_arg4 : Memref sig .tc .hbm S32x1024x2048 .f32).view.loc (c : Thread nD τ) ↦[Finset.univ \ (srcU o h).view.set]{q} wu)) -∗ K) -∗ K) := by
  refine (splitU c o h q wu).1.trans ?_
  iintro H Hk; iapply Hk; iexact H

theorem giveU (c : Dev nD) (o : Fin 3 → ℕ) (h : ∀ a, o a + S1x1024x2048.size a ≤ S32x1024x2048.size a) (q : PosShare TreeShare) (wu : Buf (Elt F) ((Memref.whole main_arg4 : Memref sig .tc .hbm S32x1024x2048 .f32).view.loc (c : Thread nD τ))) (K : sProp 𝕄) :
    iprop(((srcU o h).view.loc (c : Thread nD τ) ↦[(srcU o h).view.set]{q} wu) ∗ ((Memref.whole main_arg4 : Memref sig .tc .hbm S32x1024x2048 .f32).view.loc (c : Thread nD τ) ↦[Finset.univ \ (srcU o h).view.set]{q} wu)) ⊢ iprop((((Memref.whole main_arg4 : Memref sig .tc .hbm S32x1024x2048 .f32).view.loc (c : Thread nD τ) ↦{q} wu) -∗ K) -∗ K) := by
  refine (splitU c o h q wu).2.trans ?_
  iintro H Hk; iapply Hk; iexact H

theorem splitD (c : Dev nD) (o : Fin 3 → ℕ) (h : ∀ a, o a + S1x1024x1024.size a ≤ S32x1024x1024.size a) (q : PosShare TreeShare) (wd : Buf (Elt F) ((Memref.whole main_arg6 : Memref sig .tc .hbm S32x1024x1024 .f32).view.loc (c : Thread nD τ))) :
    (((Memref.whole main_arg6 : Memref sig .tc .hbm S32x1024x1024 .f32).view.loc (c : Thread nD τ) ↦{q} wd) : sProp 𝕄) ⊣⊢ iprop(((srcD o h).view.loc (c : Thread nD τ) ↦[(srcD o h).view.set]{q} wd) ∗ ((Memref.whole main_arg6 : Memref sig .tc .hbm S32x1024x1024 .f32).view.loc (c : Thread nD τ) ↦[Finset.univ \ (srcD o h).view.set]{q} wd)) :=
  pointsTo_split_subset (Finset.subset_univ _)

theorem takeD (c : Dev nD) (o : Fin 3 → ℕ) (h : ∀ a, o a + S1x1024x1024.size a ≤ S32x1024x1024.size a) (q : PosShare TreeShare) (wd : Buf (Elt F) ((Memref.whole main_arg6 : Memref sig .tc .hbm S32x1024x1024 .f32).view.loc (c : Thread nD τ))) (K : sProp 𝕄) :
    (((Memref.whole main_arg6 : Memref sig .tc .hbm S32x1024x1024 .f32).view.loc (c : Thread nD τ) ↦{q} wd) : sProp 𝕄) ⊢ iprop(((((srcD o h).view.loc (c : Thread nD τ) ↦[(srcD o h).view.set]{q} wd) ∗ ((Memref.whole main_arg6 : Memref sig .tc .hbm S32x1024x1024 .f32).view.loc (c : Thread nD τ) ↦[Finset.univ \ (srcD o h).view.set]{q} wd)) -∗ K) -∗ K) := by
  refine (splitD c o h q wd).1.trans ?_
  iintro H Hk; iapply Hk; iexact H

theorem giveD (c : Dev nD) (o : Fin 3 → ℕ) (h : ∀ a, o a + S1x1024x1024.size a ≤ S32x1024x1024.size a) (q : PosShare TreeShare) (wd : Buf (Elt F) ((Memref.whole main_arg6 : Memref sig .tc .hbm S32x1024x1024 .f32).view.loc (c : Thread nD τ))) (K : sProp 𝕄) :
    iprop(((srcD o h).view.loc (c : Thread nD τ) ↦[(srcD o h).view.set]{q} wd) ∗ ((Memref.whole main_arg6 : Memref sig .tc .hbm S32x1024x1024 .f32).view.loc (c : Thread nD τ) ↦[Finset.univ \ (srcD o h).view.set]{q} wd)) ⊢ iprop((((Memref.whole main_arg6 : Memref sig .tc .hbm S32x1024x1024 .f32).view.loc (c : Thread nD τ) ↦{q} wd) -∗ K) -∗ K) := by
  refine (splitD c o h q wd).2.trans ?_
  iintro H Hk; iapply Hk; iexact H

theorem owns_unread (c : Dev nD) {sp : Space} {sh : Shape} {el : EltTy} (m : Memref sig .tc sp sh el) (hm : m.IsWhole) (X : sh.Idx → Elt F el) :
    (owns (c : Thread nD τ) m fullShare X : sProp 𝕄) = (m.view.loc (c : Thread nD τ) ↦[m.view.set]{fullShare} hm.unread X) := by
  unfold owns
  have h₁ : iprop(∃ f, ⌜m.view.read (Elt F) f = X⌝ ∗ (m.view.loc (c : Thread nD τ) ↦[m.view.set]{fullShare} f)) ⊢ (m.view.loc (c : Thread nD τ) ↦[m.view.set]{fullShare} hm.unread X : sProp 𝕄) := by
    iintro ⟨%f, %hf, H⟩
    rw [hm.eq_unread hf]
    iexact H
  have h₂ : (m.view.loc (c : Thread nD τ) ↦[m.view.set]{fullShare} hm.unread X : sProp 𝕄) ⊢ iprop(∃ f, ⌜m.view.read (Elt F) f = X⌝ ∗ (m.view.loc (c : Thread nD τ) ↦[m.view.set]{fullShare} f)) := by
    iintro H
    iexists _
    isplitr
    swap
    · iexact H
    · ipureintro; exact hm.read_unread X
  exact BI.equiv_iff.mp ⟨h₁, h₂⟩

set_option maxHeartbeats 2000000 in
/-- The weights at the first block. -/
theorem part_first (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : BitVec 32) (h2 : k0_cond2 i v4 = 1#1) (x4 : Vec F S2048x128 .i32) (h0 : (i 0).val = 0)
    (TB : S288.Idx → BitVec 32) (TX : S32.Idx → BitVec 32) (e p n : BitVec 32)
    (he : TB (at288 (i 0).val) = e) (hp : TB (at288 ((i 0).val - 1)) = p) (hlt : e.toNat < 32) (hn : TX (at32 e.toNat) = n) (hfol : n.toNat < 32 ∨ 2 ^ 31 ≤ n.toNat)
    (W : Waits sig Unit) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (K : FVec F S512x2048 .f32 → sProp 𝕄) :
    iprop(((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ rings c wu wd ∗ any2 c ∗ any3 c ∗ owes (c : Thread nD τ) 0 W) ∗ (∀ v, ⌜v = upOf x4 (upW c wu e hlt)⌝ ∗ ((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd n ∗ owns (c : Thread nD τ) (Memref.whole cc0_scratch2 : Memref sig .tc .vmem S1024x2048 .bf16) fullShare (upW c wu e hlt) ∗ (∃ W', owes (c : Thread nD τ) 0 W')) ∗ owns (c : Thread nD τ) (Memref.whole cc0_scratch3 : Memref sig .tc .vmem S1024x1024 .bf16) fullShare (downW c wd e hlt) -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  unfold mid rings any2 any3
  rcases hfol with h | h
  · rw [show toward1 c wu wd n = coming1 c wu wd n h from dif_pos h]
    unfold coming1
    unfold spare0
    try unfold spare1
    iintro ⟨⟨HB, H4, HT, ⟨⟨%fs, HS⟩, ⟨⟨%fu0, HsU0⟩, ⟨%fd0, HsD0⟩, HcU0, HcD0, HfU0, HfD0⟩, ⟨⟨%fu1, HsU1⟩, ⟨%fd1, HsD1⟩, HcU1, HcD1, HfU1, HfD1⟩⟩, ⟨%g2, HG2⟩, ⟨%g3, HG3⟩, HO⟩, Hk⟩
    iapply (takeU c ![e.toNat, 0, 0] (offU hlt) fullShare.left wu _) $$ HfU0; iintro ⟨HpU0, HrU0⟩
    iapply (takeD c ![e.toNat, 0, 0] (offD hlt) fullShare.left wd _) $$ HfD0; iintro ⟨HpD0, HrD0⟩
    iapply (takeU c ![n.toNat, 0, 0] (offU h) fullShare.right wu _) $$ HfU1; iintro ⟨HpU1, HrU1⟩
    iapply (takeD c ![n.toNat, 0, 0] (offD h) fullShare.right wd _) $$ HfD1; iintro ⟨HpD1, HrD1⟩
    iapply (first_next c i arg4 harg4 arg5 harg5 arg6 harg6 arg9 harg9 v4 h2 x4 TB e p ((read_block i TB).trans he) ((read_before i TB).trans hp) (offU hlt) (offD hlt) (offX hlt) ((cond3_iff i).2 h0) (fun hh => absurd ((cond4_iff i e p).1 hh).1 (by omega)) ((cond5_iff i e p).2 (Or.inl h0)) TX n W ((read_next hlt TX).trans hn) ((cond6_iff n).2 (by omega)) (offU h) (offD h) wu wd fu0 fu1 fd0 fd1 fs g2 g3 K)
    isplitl [HB]; · iexact HB
    isplitl [H4]; · iexact H4
    isplitl [HT]; · iexact HT
    isplitl [HS]; · iexact HS
    isplitl [HsU0]; · iexact HsU0
    isplitl [HsD0]; · iexact HsD0
    isplitl [HcU0]; · iexact HcU0
    isplitl [HcD0]; · iexact HcD0
    isplitl [HpU0]; · iexact HpU0
    isplitl [HpD0]; · iexact HpD0
    isplitl [HsU1]; · iexact HsU1
    isplitl [HsD1]; · iexact HsD1
    isplitl [HcU1]; · iexact HcU1
    isplitl [HcD1]; · iexact HcD1
    isplitl [HpU1]; · iexact HpU1
    isplitl [HpD1]; · iexact HpD1
    isplitl [HG2]; · iexact HG2
    isplitl [HG3]; · iexact HG3
    isplitl [HO]; · iexact HO
    iintro %v ⟨%hv, HB, H4, HT, HS, HsU0, HsD0, HcU0, HcD0, HpU0, HpD0, HlU1, HlD1, HG2, HG3, HO⟩
    iapply (giveU c ![e.toNat, 0, 0] (offU hlt) fullShare.left wu _) $$ [HpU0 HrU0]
    · isplitl [HpU0]; · iexact HpU0
      iexact HrU0
    iintro HfU0
    iapply (giveD c ![e.toNat, 0, 0] (offD hlt) fullShare.left wd _) $$ [HpD0 HrD0]
    · isplitl [HpD0]; · iexact HpD0
      iexact HrD0
    iintro HfD0
    iapply Hk
    isplitr; · ipureintro; exact hv
    isplitr [HG3]
    swap; · iexact HG3
    isplitl [HB]; · iexact HB
    isplitl [H4]; · iexact H4
    isplitl [HT]; · iexact HT
    isplitr [HG2 HO]
    swap
    · isplitl [HG2]; · iexact HG2
      iexact HO
    ileft
    isplitl [HS]; · iexact HS
    isplitl [HsU0 HsD0 HcU0 HcD0 HfU0 HfD0]
    · isplitl [HsU0]; · iexact HsU0
      isplitl [HsD0]; · iexact HsD0
      isplitl [HcU0]; · iexact HcU0
      isplitl [HcD0]; · iexact HcD0
      isplitl [HfU0]; · iexact HfU0
      iexact HfD0
    isplitl [HlU1]; · iexact HlU1
    isplitl [HlD1]; · iexact HlD1
    isplitl [HrU1]; · iexact HrU1
    iexact HrD1
  · rw [show toward1 c wu wd n = spare1 c wu wd from dif_neg (by omega)]
    try unfold spare1
    unfold spare0
    try unfold spare1
    iintro ⟨⟨HB, H4, HT, ⟨⟨%fs, HS⟩, ⟨⟨%fu0, HsU0⟩, ⟨%fd0, HsD0⟩, HcU0, HcD0, HfU0, HfD0⟩, ⟨⟨%fu1, HsU1⟩, ⟨%fd1, HsD1⟩, HcU1, HcD1, HfU1, HfD1⟩⟩, ⟨%g2, HG2⟩, ⟨%g3, HG3⟩, HO⟩, Hk⟩
    iapply (takeU c ![e.toNat, 0, 0] (offU hlt) fullShare.left wu _) $$ HfU0; iintro ⟨HpU0, HrU0⟩
    iapply (takeD c ![e.toNat, 0, 0] (offD hlt) fullShare.left wd _) $$ HfD0; iintro ⟨HpD0, HrD0⟩
    iapply (first_last c i arg4 harg4 arg5 harg5 arg6 harg6 arg9 harg9 v4 h2 x4 TB e p ((read_block i TB).trans he) ((read_before i TB).trans hp) (offU hlt) (offD hlt) (offX hlt) ((cond3_iff i).2 h0) (fun hh => absurd ((cond4_iff i e p).1 hh).1 (by omega)) ((cond5_iff i e p).2 (Or.inl h0)) TX n W ((read_next hlt TX).trans hn) (fun hh => absurd ((cond6_iff n).1 hh) (by omega)) wu wd fu0 fu1 fd0 fd1 fs g2 g3 K)
    isplitl [HB]; · iexact HB
    isplitl [H4]; · iexact H4
    isplitl [HT]; · iexact HT
    isplitl [HS]; · iexact HS
    isplitl [HsU0]; · iexact HsU0
    isplitl [HsD0]; · iexact HsD0
    isplitl [HcU0]; · iexact HcU0
    isplitl [HcD0]; · iexact HcD0
    isplitl [HpU0]; · iexact HpU0
    isplitl [HpD0]; · iexact HpD0
    isplitl [HG2]; · iexact HG2
    isplitl [HG3]; · iexact HG3
    isplitl [HO]; · iexact HO
    iintro %v ⟨%hv, HB, H4, HT, HS, HsU0, HsD0, HcU0, HcD0, HpU0, HpD0, HG2, HG3, HO⟩
    iapply (giveU c ![e.toNat, 0, 0] (offU hlt) fullShare.left wu _) $$ [HpU0 HrU0]
    · isplitl [HpU0]; · iexact HpU0
      iexact HrU0
    iintro HfU0
    iapply (giveD c ![e.toNat, 0, 0] (offD hlt) fullShare.left wd _) $$ [HpD0 HrD0]
    · isplitl [HpD0]; · iexact HpD0
      iexact HrD0
    iintro HfD0
    iapply Hk
    isplitr; · ipureintro; exact hv
    isplitr [HG3]
    swap; · iexact HG3
    isplitl [HB]; · iexact HB
    isplitl [H4]; · iexact H4
    isplitl [HT]; · iexact HT
    isplitr [HG2 HO]
    swap
    · isplitl [HG2]; · iexact HG2
      iexact HO
    ileft
    isplitl [HS]; · iexact HS
    isplitl [HsU0 HsD0 HcU0 HcD0 HfU0 HfD0]
    · isplitl [HsU0]; · iexact HsU0
      isplitl [HsD0]; · iexact HsD0
      isplitl [HcU0]; · iexact HcU0
      isplitl [HcD0]; · iexact HcD0
      isplitl [HfU0]; · iexact HfU0
      iexact HfD0
    isplitl [HsU1]; · iexists _; iexact HsU1
    isplitl [HsD1]; · iexists _; iexact HsD1
    isplitl [HcU1]; · iexact HcU1
    isplitl [HcD1]; · iexact HcD1
    isplitl [HfU1]; · iexact HfU1
    iexact HfD1

set_option maxHeartbeats 2000000 in
/-- The weights at a block whose expert is not that of the block before it. -/
theorem part_turn (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : BitVec 32) (h2 : k0_cond2 i v4 = 1#1) (x4 : Vec F S2048x128 .i32) (h0 : 0 < (i 0).val)
    (TB : S288.Idx → BitVec 32) (TX : S32.Idx → BitVec 32) (e p n : BitVec 32)
    (he : TB (at288 (i 0).val) = e) (hp : TB (at288 ((i 0).val - 1)) = p) (hlt : e.toNat < 32) (hn : TX (at32 e.toNat) = n) (hfol : n.toNat < 32 ∨ 2 ^ 31 ≤ n.toNat)
    (W : Waits sig Unit) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (K : FVec F S512x2048 .f32 → sProp 𝕄) (hne : e ≠ p) :
    iprop(((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd e ∗ any2 c ∗ any3 c ∗ owes (c : Thread nD τ) 0 W) ∗ (∀ v, ⌜v = upOf x4 (upW c wu e hlt)⌝ ∗ ((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd n ∗ owns (c : Thread nD τ) (Memref.whole cc0_scratch2 : Memref sig .tc .vmem S1024x2048 .bf16) fullShare (upW c wu e hlt) ∗ (∃ W', owes (c : Thread nD τ) 0 W')) ∗ owns (c : Thread nD τ) (Memref.whole cc0_scratch3 : Memref sig .tc .vmem S1024x1024 .bf16) fullShare (downW c wd e hlt) -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  unfold mid any2 any3
  rw [show toward0 c wu wd e = coming0 c wu wd e hlt from dif_pos hlt, show toward1 c wu wd e = coming1 c wu wd e hlt from dif_pos hlt]
  rcases hfol with h | h
  · rw [show toward0 c wu wd n = coming0 c wu wd n h from dif_pos h, show toward1 c wu wd n = coming1 c wu wd n h from dif_pos h]
    unfold coming0 coming1 spare0 spare1
    iintro ⟨⟨HB, H4, HT, (⟨⟨%fs, HS⟩, ⟨⟨%fu0, HsU0⟩, ⟨%fd0, HsD0⟩, HcU0, HcD0, HfU0, HfD0⟩, ⟨⟨%fu1, HlU1⟩, ⟨%fd1, HlD1⟩, HrU1, HrD1⟩⟩ | ⟨⟨%fs, HS⟩, ⟨⟨%fu1, HsU1⟩, ⟨%fd1, HsD1⟩, HcU1, HcD1, HfU1, HfD1⟩, ⟨⟨%fu0, HlU0⟩, ⟨%fd0, HlD0⟩, HrU0, HrD0⟩⟩), ⟨%g2, HG2⟩, ⟨%g3, HG3⟩, HO⟩, Hk⟩
    · iapply (takeU c ![n.toNat, 0, 0] (offU h) fullShare.left wu _) $$ HfU0; iintro ⟨HpU0, HrU0⟩
      iapply (takeD c ![n.toNat, 0, 0] (offD h) fullShare.left wd _) $$ HfD0; iintro ⟨HpD0, HrD0⟩
      iapply (turn1_next c i arg4 harg4 arg5 harg5 arg6 harg6 arg9 harg9 v4 h2 x4 TB e p ((read_block i TB).trans he) ((read_before i TB).trans hp) (offU hlt) (offD hlt) (offX hlt) (fun hh => absurd ((cond3_iff i).1 hh) (by omega)) ((cond4_iff i e p).2 ⟨h0, hne⟩) ((cond5_iff i e p).2 (Or.inr hne)) TX n W ((read_next hlt TX).trans hn) ((cond6_iff n).2 (by omega)) (offU h) (offD h) wu wd fu0 fu1 fd0 fd1 fs g2 g3 K)
      isplitl [HB]; · iexact HB
      isplitl [H4]; · iexact H4
      isplitl [HT]; · iexact HT
      isplitl [HS]; · iexact HS
      isplitl [HlU1]; · iexact HlU1
      isplitl [HlD1]; · iexact HlD1
      isplitl [HsU0]; · iexact HsU0
      isplitl [HsD0]; · iexact HsD0
      isplitl [HcU0]; · iexact HcU0
      isplitl [HcD0]; · iexact HcD0
      isplitl [HpU0]; · iexact HpU0
      isplitl [HpD0]; · iexact HpD0
      isplitl [HG2]; · iexact HG2
      isplitl [HG3]; · iexact HG3
      isplitl [HO]; · iexact HO
      iintro %v ⟨%hv, HB, H4, HT, HS, HsU1, HsD1, HcU1, HcD1, HpU1, HpD1, HlU0, HlD0, HG2, HG3, HO⟩
      iapply (giveU c ![e.toNat, 0, 0] (offU hlt) fullShare.right wu _) $$ [HpU1 HrU1]
      · isplitl [HpU1]; · iexact HpU1
        iexact HrU1
      iintro HfU1
      iapply (giveD c ![e.toNat, 0, 0] (offD hlt) fullShare.right wd _) $$ [HpD1 HrD1]
      · isplitl [HpD1]; · iexact HpD1
        iexact HrD1
      iintro HfD1
      iapply Hk
      isplitr; · ipureintro; exact hv
      isplitr [HG3]
      swap; · iexact HG3
      isplitl [HB]; · iexact HB
      isplitl [H4]; · iexact H4
      isplitl [HT]; · iexact HT
      isplitr [HG2 HO]
      swap
      · isplitl [HG2]; · iexact HG2
        iexact HO
      iright
      isplitl [HS]; · iexact HS
      isplitl [HsU1 HsD1 HcU1 HcD1 HfU1 HfD1]
      · isplitl [HsU1]; · iexact HsU1
        isplitl [HsD1]; · iexact HsD1
        isplitl [HcU1]; · iexact HcU1
        isplitl [HcD1]; · iexact HcD1
        isplitl [HfU1]; · iexact HfU1
        iexact HfD1
      isplitl [HlU0]; · iexact HlU0
      isplitl [HlD0]; · iexact HlD0
      isplitl [HrU0]; · iexact HrU0
      iexact HrD0
    · iapply (takeU c ![n.toNat, 0, 0] (offU h) fullShare.right wu _) $$ HfU1; iintro ⟨HpU1, HrU1⟩
      iapply (takeD c ![n.toNat, 0, 0] (offD h) fullShare.right wd _) $$ HfD1; iintro ⟨HpD1, HrD1⟩
      iapply (turn0_next c i arg4 harg4 arg5 harg5 arg6 harg6 arg9 harg9 v4 h2 x4 TB e p ((read_block i TB).trans he) ((read_before i TB).trans hp) (offU hlt) (offD hlt) (offX hlt) (fun hh => absurd ((cond3_iff i).1 hh) (by omega)) ((cond4_iff i e p).2 ⟨h0, hne⟩) ((cond5_iff i e p).2 (Or.inr hne)) TX n W ((read_next hlt TX).trans hn) ((cond6_iff n).2 (by omega)) (offU h) (offD h) wu wd fu0 fu1 fd0 fd1 fs g2 g3 K)
      isplitl [HB]; · iexact HB
      isplitl [H4]; · iexact H4
      isplitl [HT]; · iexact HT
      isplitl [HS]; · iexact HS
      isplitl [HlU0]; · iexact HlU0
      isplitl [HlD0]; · iexact HlD0
      isplitl [HsU1]; · iexact HsU1
      isplitl [HsD1]; · iexact HsD1
      isplitl [HcU1]; · iexact HcU1
      isplitl [HcD1]; · iexact HcD1
      isplitl [HpU1]; · iexact HpU1
      isplitl [HpD1]; · iexact HpD1
      isplitl [HG2]; · iexact HG2
      isplitl [HG3]; · iexact HG3
      isplitl [HO]; · iexact HO
      iintro %v ⟨%hv, HB, H4, HT, HS, HsU0, HsD0, HcU0, HcD0, HpU0, HpD0, HlU1, HlD1, HG2, HG3, HO⟩
      iapply (giveU c ![e.toNat, 0, 0] (offU hlt) fullShare.left wu _) $$ [HpU0 HrU0]
      · isplitl [HpU0]; · iexact HpU0
        iexact HrU0
      iintro HfU0
      iapply (giveD c ![e.toNat, 0, 0] (offD hlt) fullShare.left wd _) $$ [HpD0 HrD0]
      · isplitl [HpD0]; · iexact HpD0
        iexact HrD0
      iintro HfD0
      iapply Hk
      isplitr; · ipureintro; exact hv
      isplitr [HG3]
      swap; · iexact HG3
      isplitl [HB]; · iexact HB
      isplitl [H4]; · iexact H4
      isplitl [HT]; · iexact HT
      isplitr [HG2 HO]
      swap
      · isplitl [HG2]; · iexact HG2
        iexact HO
      ileft
      isplitl [HS]; · iexact HS
      isplitl [HsU0 HsD0 HcU0 HcD0 HfU0 HfD0]
      · isplitl [HsU0]; · iexact HsU0
        isplitl [HsD0]; · iexact HsD0
        isplitl [HcU0]; · iexact HcU0
        isplitl [HcD0]; · iexact HcD0
        isplitl [HfU0]; · iexact HfU0
        iexact HfD0
      isplitl [HlU1]; · iexact HlU1
      isplitl [HlD1]; · iexact HlD1
      isplitl [HrU1]; · iexact HrU1
      iexact HrD1
  · rw [show toward0 c wu wd n = spare0 c wu wd from dif_neg (by omega), show toward1 c wu wd n = spare1 c wu wd from dif_neg (by omega)]
    unfold coming0 coming1 spare0 spare1
    iintro ⟨⟨HB, H4, HT, (⟨⟨%fs, HS⟩, ⟨⟨%fu0, HsU0⟩, ⟨%fd0, HsD0⟩, HcU0, HcD0, HfU0, HfD0⟩, ⟨⟨%fu1, HlU1⟩, ⟨%fd1, HlD1⟩, HrU1, HrD1⟩⟩ | ⟨⟨%fs, HS⟩, ⟨⟨%fu1, HsU1⟩, ⟨%fd1, HsD1⟩, HcU1, HcD1, HfU1, HfD1⟩, ⟨⟨%fu0, HlU0⟩, ⟨%fd0, HlD0⟩, HrU0, HrD0⟩⟩), ⟨%g2, HG2⟩, ⟨%g3, HG3⟩, HO⟩, Hk⟩
    · iapply (turn1_last c i arg4 harg4 arg5 harg5 arg6 harg6 arg9 harg9 v4 h2 x4 TB e p ((read_block i TB).trans he) ((read_before i TB).trans hp) (offU hlt) (offD hlt) (offX hlt) (fun hh => absurd ((cond3_iff i).1 hh) (by omega)) ((cond4_iff i e p).2 ⟨h0, hne⟩) ((cond5_iff i e p).2 (Or.inr hne)) TX n W ((read_next hlt TX).trans hn) (fun hh => absurd ((cond6_iff n).1 hh) (by omega)) wu wd fu0 fu1 fd0 fd1 fs g2 g3 K)
      isplitl [HB]; · iexact HB
      isplitl [H4]; · iexact H4
      isplitl [HT]; · iexact HT
      isplitl [HS]; · iexact HS
      isplitl [HlU1]; · iexact HlU1
      isplitl [HlD1]; · iexact HlD1
      isplitl [HG2]; · iexact HG2
      isplitl [HG3]; · iexact HG3
      isplitl [HO]; · iexact HO
      iintro %v ⟨%hv, HB, H4, HT, HS, HsU1, HsD1, HcU1, HcD1, HpU1, HpD1, HG2, HG3, HO⟩
      iapply (giveU c ![e.toNat, 0, 0] (offU hlt) fullShare.right wu _) $$ [HpU1 HrU1]
      · isplitl [HpU1]; · iexact HpU1
        iexact HrU1
      iintro HfU1
      iapply (giveD c ![e.toNat, 0, 0] (offD hlt) fullShare.right wd _) $$ [HpD1 HrD1]
      · isplitl [HpD1]; · iexact HpD1
        iexact HrD1
      iintro HfD1
      iapply Hk
      isplitr; · ipureintro; exact hv
      isplitr [HG3]
      swap; · iexact HG3
      isplitl [HB]; · iexact HB
      isplitl [H4]; · iexact H4
      isplitl [HT]; · iexact HT
      isplitr [HG2 HO]
      swap
      · isplitl [HG2]; · iexact HG2
        iexact HO
      iright
      isplitl [HS]; · iexact HS
      isplitl [HsU1 HsD1 HcU1 HcD1 HfU1 HfD1]
      · isplitl [HsU1]; · iexact HsU1
        isplitl [HsD1]; · iexact HsD1
        isplitl [HcU1]; · iexact HcU1
        isplitl [HcD1]; · iexact HcD1
        isplitl [HfU1]; · iexact HfU1
        iexact HfD1
      isplitl [HsU0]; · iexists _; iexact HsU0
      isplitl [HsD0]; · iexists _; iexact HsD0
      isplitl [HcU0]; · iexact HcU0
      isplitl [HcD0]; · iexact HcD0
      isplitl [HfU0]; · iexact HfU0
      iexact HfD0
    · iapply (turn0_last c i arg4 harg4 arg5 harg5 arg6 harg6 arg9 harg9 v4 h2 x4 TB e p ((read_block i TB).trans he) ((read_before i TB).trans hp) (offU hlt) (offD hlt) (offX hlt) (fun hh => absurd ((cond3_iff i).1 hh) (by omega)) ((cond4_iff i e p).2 ⟨h0, hne⟩) ((cond5_iff i e p).2 (Or.inr hne)) TX n W ((read_next hlt TX).trans hn) (fun hh => absurd ((cond6_iff n).1 hh) (by omega)) wu wd fu0 fu1 fd0 fd1 fs g2 g3 K)
      isplitl [HB]; · iexact HB
      isplitl [H4]; · iexact H4
      isplitl [HT]; · iexact HT
      isplitl [HS]; · iexact HS
      isplitl [HlU0]; · iexact HlU0
      isplitl [HlD0]; · iexact HlD0
      isplitl [HG2]; · iexact HG2
      isplitl [HG3]; · iexact HG3
      isplitl [HO]; · iexact HO
      iintro %v ⟨%hv, HB, H4, HT, HS, HsU0, HsD0, HcU0, HcD0, HpU0, HpD0, HG2, HG3, HO⟩
      iapply (giveU c ![e.toNat, 0, 0] (offU hlt) fullShare.left wu _) $$ [HpU0 HrU0]
      · isplitl [HpU0]; · iexact HpU0
        iexact HrU0
      iintro HfU0
      iapply (giveD c ![e.toNat, 0, 0] (offD hlt) fullShare.left wd _) $$ [HpD0 HrD0]
      · isplitl [HpD0]; · iexact HpD0
        iexact HrD0
      iintro HfD0
      iapply Hk
      isplitr; · ipureintro; exact hv
      isplitr [HG3]
      swap; · iexact HG3
      isplitl [HB]; · iexact HB
      isplitl [H4]; · iexact H4
      isplitl [HT]; · iexact HT
      isplitr [HG2 HO]
      swap
      · isplitl [HG2]; · iexact HG2
        iexact HO
      ileft
      isplitl [HS]; · iexact HS
      isplitl [HsU0 HsD0 HcU0 HcD0 HfU0 HfD0]
      · isplitl [HsU0]; · iexact HsU0
        isplitl [HsD0]; · iexact HsD0
        isplitl [HcU0]; · iexact HcU0
        isplitl [HcD0]; · iexact HcD0
        isplitl [HfU0]; · iexact HfU0
        iexact HfD0
      isplitl [HsU1]; · iexists _; iexact HsU1
      isplitl [HsD1]; · iexists _; iexact HsD1
      isplitl [HcU1]; · iexact HcU1
      isplitl [HcD1]; · iexact HcD1
      isplitl [HfU1]; · iexact HfU1
      iexact HfD1

set_option maxHeartbeats 2000000 in
/-- The weights at a block of the expert of the block before it. -/
theorem part_same (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (v4 : BitVec 32) (h2 : k0_cond2 i v4 = 1#1) (x4 : Vec F S2048x128 .i32) (h0 : 0 < (i 0).val)
    (TB : S288.Idx → BitVec 32) (TX : S32.Idx → BitVec 32) (e p n : BitVec 32)
    (he : TB (at288 (i 0).val) = e) (hp : TB (at288 ((i 0).val - 1)) = p) (hlt : e.toNat < 32) (hn : TX (at32 e.toNat) = n) (hfol : n.toNat < 32 ∨ 2 ^ 31 ≤ n.toNat)
    (W : Waits sig Unit) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (K : FVec F S512x2048 .f32 → sProp 𝕄) (heq : e = p) :
    iprop(((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd n ∗ owns (c : Thread nD τ) (Memref.whole cc0_scratch2 : Memref sig .tc .vmem S1024x2048 .bf16) fullShare (upW c wu e hlt) ∗ owns (c : Thread nD τ) (Memref.whole cc0_scratch3 : Memref sig .tc .vmem S1024x1024 .bf16) fullShare (downW c wd e hlt) ∗ owes (c : Thread nD τ) 0 W) ∗ (∀ v, ⌜v = upOf x4 (upW c wu e hlt)⌝ ∗ ((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd n ∗ owns (c : Thread nD τ) (Memref.whole cc0_scratch2 : Memref sig .tc .vmem S1024x2048 .bf16) fullShare (upW c wu e hlt) ∗ (∃ W', owes (c : Thread nD τ) 0 W')) ∗ owns (c : Thread nD τ) (Memref.whole cc0_scratch3 : Memref sig .tc .vmem S1024x1024 .bf16) fullShare (downW c wd e hlt) -∗ K v))
    ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K := by
  rw [owns_unread c (Memref.whole cc0_scratch2 : Memref sig .tc .vmem S1024x2048 .bf16) (Memref.isWhole_whole cc0_scratch2)]
  iintro ⟨⟨HB, H4, HT, HM, HG2, HG3, HO⟩, Hk⟩
  iapply (same c i arg4 harg4 arg5 harg5 arg6 harg6 arg9 harg9 v4 h2 x4 TB e p ((read_block i TB).trans he) ((read_before i TB).trans hp) (offU hlt) (offD hlt) (offX hlt) (fun hh => absurd ((cond3_iff i).1 hh) (by omega)) (fun hh => absurd heq ((cond4_iff i e p).1 hh).2) (fun hh => ((cond5_iff i e p).1 hh).elim (fun z => absurd z (by omega)) (fun z => z heq)) (upW c wu e hlt) K)
  isplitl [HB]; · iexact HB
  isplitl [H4]; · iexact H4
  isplitl [HG2]; · iexact HG2
  iintro %v ⟨%hv, HB, H4, HG2⟩
  iapply Hk
  isplitr; · ipureintro; exact hv
  isplitr [HG3]
  swap; · iexact HG3
  isplitl [HB]; · iexact HB
  isplitl [H4]; · iexact H4
  isplitl [HT]; · iexact HT
  isplitl [HM]; · iexact HM
  isplitl [HG2]; · iexact HG2
  iexists _; iexact HO

end Cert.Kernel2Ideal.Ffn
-- ==== Proof.Tail.lean ====
/- The experts' kernel: what its body leaves, at a used block and at an unused one. -/
module

public import proofs.«01_k».proof.Proof.Slots
public import Idealize.ShloMosaic.Lib.Pipeline.FrameBody

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- What a used block's rows hold afterwards, as pieces: of its first product `u`, the expert's biases and second weight. -/
noncomputable def pieces (u : FVec F S512x2048 .f32) (x5 : Vec F S1x1x2048 .f32) (y3 : Vec F S1024x1024 .bf16) (x6 : Vec F S1x1x1024 .f32) : List (View.Piece (Elt F) S4096x128 .f32) :=
  [⟨⟨(⟨![7, 0], S512x128.size, ![8, 1], inb_S4096x128_S512x128_7_0_s_8_1⟩ : LoadRect S4096x128), spos_8_1⟩, k0_pay4 (k0_pay8 u x5 y3 x6)⟩,
    ⟨⟨(⟨![6, 0], S512x128.size, ![8, 1], inb_S4096x128_S512x128_6_0_s_8_1⟩ : LoadRect S4096x128), spos_8_1⟩, k0_pay3 (k0_pay8 u x5 y3 x6)⟩,
    ⟨⟨(⟨![5, 0], S512x128.size, ![8, 1], inb_S4096x128_S512x128_5_0_s_8_1⟩ : LoadRect S4096x128), spos_8_1⟩, k0_pay2 (k0_pay8 u x5 y3 x6)⟩,
    ⟨⟨(⟨![4, 0], S512x128.size, ![8, 1], inb_S4096x128_S512x128_4_0_s_8_1⟩ : LoadRect S4096x128), spos_8_1⟩, k0_pay13 u x5 y3 x6⟩,
    ⟨⟨(⟨![3, 0], S512x128.size, ![8, 1], inb_S4096x128_S512x128_3_0_s_8_1⟩ : LoadRect S4096x128), spos_8_1⟩, k0_pay12 u x5 y3 x6⟩,
    ⟨⟨(⟨![2, 0], S512x128.size, ![8, 1], inb_S4096x128_S512x128_2_0_s_8_1⟩ : LoadRect S4096x128), spos_8_1⟩, k0_pay11 u x5 y3 x6⟩,
    ⟨⟨(⟨![1, 0], S512x128.size, ![8, 1], inb_S4096x128_S512x128_1_0_s_8_1⟩ : LoadRect S4096x128), spos_8_1⟩, k0_pay10 u x5 y3 x6⟩,
    ⟨⟨(⟨![0, 0], S512x128.size, ![8, 1], inb_S4096x128_S512x128_0_0_s_8_1⟩ : LoadRect S4096x128), spos_8_1⟩, k0_pay9 u x5 y3 x6⟩]

/-- Every row is of one of the pieces: the one its number leaves over eight. -/
theorem cover_pieces (u : FVec F S512x2048 .f32) (x5 : Vec F S1x1x2048 .f32) (y3 : Vec F S1024x1024 .bf16) (x6 : Vec F S1x1x1024 .f32) (y : S4096x128.Idx) :
    ∃ p ∈ pieces u x5 y3 x6, y ∈ p.1.set := by
  have h0 : (y 0).val < 4096 := (y 0).isLt
  have h1 : (y 1).val < 128 := (y 1).isLt
  have hk : (y 0).val % 8 < 8 := Nat.mod_lt _ (by omega)
  unfold pieces
  have key : ∀ (k : ℕ) (hinb), (y 0).val % 8 = k → y ∈ (⟨(⟨![k, 0], S512x128.size, ![8, 1], hinb⟩ : LoadRect S4096x128), spos_8_1⟩ : Rect S4096x128).set := by
    intro k hinb hk
    rw [LoadRect.mem_set]
    intro a
    match a with
    | ⟨0, _⟩ => exact ⟨(y 0).val / 8, show (y 0).val / 8 < 512 by omega, show (y 0).val = k + 8 * ((y 0).val / 8) by omega⟩
    | ⟨1, _⟩ => exact ⟨(y 1).val, show (y 1).val < 128 by omega, show (y 1).val = 0 + 1 * (y 1).val by omega⟩
  have hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hc with h | h | h | h | h | h | h | h
  · exact ⟨_, List.Mem.tail _ (List.Mem.tail _ (List.Mem.tail _ (List.Mem.tail _ (List.Mem.tail _ (List.Mem.tail _ (List.Mem.tail _ (List.Mem.head _))))))), key 0 _ h⟩
  · exact ⟨_, List.Mem.tail _ (List.Mem.tail _ (List.Mem.tail _ (List.Mem.tail _ (List.Mem.tail _ (List.Mem.tail _ (List.Mem.head _)))))), key 1 _ h⟩
  · exact ⟨_, List.Mem.tail _ (List.Mem.tail _ (List.Mem.tail _ (List.Mem.tail _ (List.Mem.tail _ (List.Mem.head _))))), key 2 _ h⟩
  · exact ⟨_, List.Mem.tail _ (List.Mem.tail _ (List.Mem.tail _ (List.Mem.tail _ (List.Mem.head _)))), key 3 _ h⟩
  · exact ⟨_, List.Mem.tail _ (List.Mem.tail _ (List.Mem.tail _ (List.Mem.head _))), key 4 _ h⟩
  · exact ⟨_, List.Mem.tail _ (List.Mem.tail _ (List.Mem.head _)), key 5 _ h⟩
  · exact ⟨_, List.Mem.tail _ (List.Mem.head _), key 6 _ h⟩
  · exact ⟨_, List.Mem.head _, key 7 _ h⟩

/-- The rows a used block leaves. -/
noncomputable def outOf (u : FVec F S512x2048 .f32) (x5 : Vec F S1x1x2048 .f32) (y3 : Vec F S1024x1024 .bf16) (x6 : Vec F S1x1x1024 .f32) : Vec F S4096x128 .f32 := View.canon (pieces u x5 y3 x6)

theorem read_pieces {κ : Kind} {sp : Space} (v : View sig κ sp S4096x128 .f32) (f : v.ty.Contents (Elt F)) (u : FVec F S512x2048 .f32) (x5 : Vec F S1x1x2048 .f32) (y3 : Vec F S1024x1024 .bf16) (x6 : Vec F S1x1x1024 .f32) :
    v.read (Elt F) (v.writes (Elt F) f (pieces u x5 y3 x6)) = outOf u x5 y3 x6 :=
  View.read_writes_eq_canon v f _ (cover_pieces u x5 y3 x6)

set_option maxHeartbeats 4000000 in
/-- The body at a used block, of what its first part does. -/
theorem used (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (TN : Buf (Elt F) (tabN.view.loc (c : Thread nD τ))) (v4 : Elt F .i32) (hv : tabN.view.readAt (Elt F) (Rect.unit (s := S1) ![0] S1.size inb_S1_S1_0).toLoadRect TN (Shape.Idx.first (s := S1) (by decide)) = v4) (h1 : ¬ k0_cond1 i v4 = 1#1) (h2 : k0_cond2 i v4 = 1#1)
    (u : FVec F S512x2048 .f32) (x5 : Vec F S1x1x2048 .f32) (x6 : Vec F S1x1x1024 .f32) (y3 : Vec F S1024x1024 .bf16) (f9 : Buf (Elt F) (arg9.view.loc (c : Thread nD τ))) (P Q : sProp 𝕄)
    (hpart : ∀ K : FVec F S512x2048 .f32 → sProp 𝕄, iprop(P ∗ (∀ v, ⌜v = u⌝ ∗ Q ∗ owns (c : Thread nD τ) (Memref.whole cc0_scratch3 : Memref sig .tc .vmem S1024x1024 .bf16) fullShare y3 -∗ K v)) ⊢ wp frame (wpE (defs₀ (F := F)) Variants.none c none) Set.univ (k0_part2 i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (BitVec.ofNat 32 (i 0).val) v4 h2) K)
    (K : PUnit → sProp 𝕄) :
    iprop(P ∗ (tabN.view.loc (c : Thread nD τ) ↦[tabN.view.set]{fullShare.right} TN) ∗ (arg5.view.loc (c : Thread nD τ) ↦[arg5.view.set]{fullShare} harg5.unread x5) ∗ (arg6.view.loc (c : Thread nD τ) ↦[arg6.view.set]{fullShare} harg6.unread x6) ∗ (arg9.view.loc (c : Thread nD τ) ↦[arg9.view.set]{fullShare} f9)
      ∗ (Q ∗ owns (c : Thread nD τ) (Memref.whole cc0_scratch3 : Memref sig .tc .vmem S1024x1024 .bf16) fullShare y3 ∗ (tabN.view.loc (c : Thread nD τ) ↦[tabN.view.set]{fullShare.right} TN) ∗ (arg5.view.loc (c : Thread nD τ) ↦[arg5.view.set]{fullShare} harg5.unread x5) ∗ (arg6.view.loc (c : Thread nD τ) ↦[arg6.view.set]{fullShare} harg6.unread x6) ∗ owns (c : Thread nD τ) arg9 fullShare (outOf u x5 y3 x6) -∗ K ⟨⟩))
    ⊢ wp frame (wpE (defs₀ (F := F)) Variants.none c none) Set.univ (cc0_expert_ffn i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  rw [cc0_expert_ffn_eq_skeleton]; unfold cc0_expert_ffn_skel
  subst hv
  iintro ⟨HP, HN, H5, H6, H9, Hk⟩
  set_option sl_exec.stopBefore "k0_part2" in sl_exec
  beta_reduce
  rw [Idealize.SL.Sem.wp_bind]
  try delta used.sl.r
  iapply hpart
  isplitl [HP]
  · iexact HP
  iintro %v ⟨%hv, HQ, HS3⟩
  subst hv
  unfold owns
  icases HS3 with ⟨%g, %hg, HS3⟩
  obtain rfl := (Memref.isWhole_whole cc0_scratch3).eq_unread hg
  sl_exec
  sl_step
  iapply Hk
  isplitl [HQ]
  · iexact HQ
  isplitl [HS3]
  · iexists _
    isplitr
    rotate_left
    · iexact HS3
    · ipureintro
      exact hg
  isplitl [HN]
  · iexact HN
  isplitl [H5]
  · iexact H5
  isplitl [H6]
  · iexact H6
  delta used.sl.r_1 used.sl.r_2
  have e5 := (View.readAt_full (Val := Elt F) arg5.view (harg5.unread x5) inb_S1x1x2048_S1x1x2048_0_0_0).trans (harg5.read_unread x5)
  have e6 := (View.readAt_full (Val := Elt F) arg6.view (harg6.unread x6) inb_S1x1x1024_S1x1x1024_0_0_0).trans (harg6.read_unread x6)
  have e3 := (View.readAt_full (Val := Elt F) (Memref.whole cc0_scratch3 : Memref sig .tc .vmem S1024x1024 .bf16).view ((Memref.isWhole_whole cc0_scratch3).unread y3) inb_S1024x1024_S1024x1024_0_0).trans ((Memref.isWhole_whole cc0_scratch3).read_unread y3)
  rw [e5, e6]
  generalize hy : View.readAt (Elt F) _ _ (Memref.IsWhole.unread _ y3) = y
  obtain rfl : y = y3 := hy.symm.trans e3
  clear hy e3 e5 e6
  iexists _
  isplitr
  rotate_left
  · iexact H9
  · ipureintro
    exact read_pieces arg9.view _ v x5 y x6

set_option maxHeartbeats 4000000 in
/-- The body at an unused block: its rows are zeros. -/
theorem unused (c : Dev nD) (i : grid0.Coords) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (TN : Buf (Elt F) (tabN.view.loc (c : Thread nD τ))) (v4 : Elt F .i32) (hv : tabN.view.readAt (Elt F) (Rect.unit (s := S1) ![0] S1.size inb_S1_S1_0).toLoadRect TN (Shape.Idx.first (s := S1) (by decide)) = v4) (h1 : k0_cond1 i v4 = 1#1) (h2 : ¬ k0_cond2 i v4 = 1#1)
    (f9 : Buf (Elt F) (arg9.view.loc (c : Thread nD τ))) (K : PUnit → sProp 𝕄) :
    iprop((tabN.view.loc (c : Thread nD τ) ↦[tabN.view.set]{fullShare.right} TN) ∗ (arg9.view.loc (c : Thread nD τ) ↦[arg9.view.set]{fullShare} f9) ∗ ((tabN.view.loc (c : Thread nD τ) ↦[tabN.view.set]{fullShare.right} TN) ∗ owns (c : Thread nD τ) arg9 fullShare (k0_pay1 (F := F)) -∗ K ⟨⟩))
    ⊢ wp frame (wpE (defs₀ (F := F)) Variants.none c none) Set.univ (cc0_expert_ffn i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  rw [cc0_expert_ffn_eq_skeleton]; unfold cc0_expert_ffn_skel
  subst hv
  iintro ⟨HN, H9, Hk⟩
  sl_exec
  sl_step
  iapply Hk
  isplitl [HN]
  · iexact HN
  unfold owns
  iexists _
  isplitr
  rotate_left
  · iexact H9
  · ipureintro
    exact View.read_writes_full _ _ _ _ []

end Cert.Kernel2Ideal.Ffn
-- ==== Proof.Step.lean ====
/- The experts' kernel: one block of its grid. -/
module

public import proofs.«01_k».proof.Proof.Slots
public import proofs.«01_k».proof.Proof.State
public import proofs.«01_k».proof.Proof.Tail

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- The rings and the weights kept before block `k`. -/
noncomputable def core (c : Dev nD) (TB : S288.Idx → BitVec 32) (TN : S1.Idx → BitVec 32) (TX : S32.Idx → BitVec 32) (hR : Routed TB TN TX) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (k : ℕ) : sProp 𝕄 :=
  if k = 0 ∨ (TN at1).toNat ≤ k then iprop(rings c wu wd ∗ any2 c ∗ any3 c)
  else iprop(mid c wu wd (TX (at32 (TB (at288 (k - 1))).toNat)) ∗ owns (c : Thread nD τ) (Memref.whole cc0_scratch2 : Memref sig .tc .vmem S1024x2048 .bf16) fullShare (upW c wu (TB (at288 (k - 1))) (hR.lt _)) ∗ owns (c : Thread nD τ) (Memref.whole cc0_scratch3 : Memref sig .tc .vmem S1024x1024 .bf16) fullShare (downW c wd (TB (at288 (k - 1))) (hR.lt _)))

/-- What block `k` of the result is. -/
noncomputable def outAt (c : Dev nD) (TB : S288.Idx → BitVec 32) (TN : S1.Idx → BitVec 32) (TX : S32.Idx → BitVec 32) (hR : Routed TB TN TX) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (k : ℕ) (x4 : Vec F S2048x128 .i32) (x5 : Vec F S1x1x2048 .f32) (x6 : Vec F S1x1x1024 .f32) : Vec F S4096x128 .f32 :=
  if k < (TN at1).toNat then outOf (upOf x4 (upW c wu (TB (at288 k)) (hR.lt k))) x5 (downW c wd (TB (at288 k)) (hR.lt k)) x6 else k0_pay1 (F := F)

theorem any2_of (c : Dev nD) (y : Vec F S1024x2048 .bf16) : (owns (c : Thread nD τ) (Memref.whole cc0_scratch2 : Memref sig .tc .vmem S1024x2048 .bf16) fullShare y : sProp 𝕄) ⊢ any2 c := by
  rw [owns_unread c (Memref.whole cc0_scratch2 : Memref sig .tc .vmem S1024x2048 .bf16) (Memref.isWhole_whole cc0_scratch2)]
  unfold any2
  iintro H; iexists _; iexact H
theorem any3_of (c : Dev nD) (y : Vec F S1024x1024 .bf16) : (owns (c : Thread nD τ) (Memref.whole cc0_scratch3 : Memref sig .tc .vmem S1024x1024 .bf16) fullShare y : sProp 𝕄) ⊢ any3 c := by
  rw [owns_unread c (Memref.whole cc0_scratch3 : Memref sig .tc .vmem S1024x1024 .bf16) (Memref.isWhole_whole cc0_scratch3)]
  unfold any3
  iintro H; iexists _; iexact H

theorem rings_of (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (n : BitVec 32) (h : 2 ^ 31 ≤ n.toNat) : (mid c wu wd n : sProp 𝕄) ⊢ rings c wu wd := by
  unfold mid rings
  rw [show toward0 c wu wd n = spare0 c wu wd from dif_neg (by omega), show toward1 c wu wd n = spare1 c wu wd from dif_neg (by omega)]
  iintro (⟨⟨%fs, HS⟩, H0, H1⟩ | ⟨⟨%fs, HS⟩, H1, H0⟩)
  · isplitl [HS]; · iexists _; iexact HS
    isplitl [H0]; · iexact H0
    iexact H1
  · isplitl [HS]; · iexists _; iexact HS
    isplitl [H0]; · iexact H0
    iexact H1

theorem core_succ (c : Dev nD) (TB : S288.Idx → BitVec 32) (TN : S1.Idx → BitVec 32) (TX : S32.Idx → BitVec 32) (hR : Routed TB TN TX) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (k : ℕ) (hk : k < (TN at1).toNat) :
    iprop(mid c wu wd (TX (at32 (TB (at288 k)).toNat)) ∗ owns (c : Thread nD τ) (Memref.whole cc0_scratch2 : Memref sig .tc .vmem S1024x2048 .bf16) fullShare (upW c wu (TB (at288 k)) (hR.lt k)) ∗ owns (c : Thread nD τ) (Memref.whole cc0_scratch3 : Memref sig .tc .vmem S1024x1024 .bf16) fullShare (downW c wd (TB (at288 k)) (hR.lt k))) ⊢ core c TB TN TX hR wu wd (k + 1) := by
  unfold core
  by_cases h : (TN at1).toNat ≤ k + 1
  · rw [if_pos (Or.inr h)]
    iintro ⟨HM, H2, H3⟩
    isplitl [HM]
    · iapply (rings_of c wu wd (TX (at32 (TB (at288 k)).toNat)) (hR.last k (by omega))); iexact HM
    isplitl [H2]
    · iapply (any2_of c _); iexact H2
    iapply (any3_of c _); iexact H3
  · rw [if_neg (by omega)]
    exact .rfl

set_option maxHeartbeats 1000000 in
/-- One block: it takes the rings and the weights kept from one place to the next, and leaves its rows. -/
theorem block (c : Dev nD) (i : grid0.Coords) (k : ℕ) (hik : (i 0).val = k) (arg4 : Memref sig .tc .vmem S2048x128 .i32) (harg4 : arg4.IsWhole) (arg5 : Memref sig .tc .vmem S1x1x2048 .f32) (harg5 : arg5.IsWhole) (arg6 : Memref sig .tc .vmem S1x1x1024 .f32) (harg6 : arg6.IsWhole) (arg9 : Memref sig .tc .vmem S4096x128 .f32) (harg9 : arg9.IsWhole)
    (TB : S288.Idx → BitVec 32) (TN : S1.Idx → BitVec 32) (TX : S32.Idx → BitVec 32) (hR : Routed TB TN TX) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) (x4 : Vec F S2048x128 .i32) (x5 : Vec F S1x1x2048 .f32) (x6 : Vec F S1x1x1024 .f32) (f9 : Buf (Elt F) (arg9.view.loc (c : Thread nD τ))) (W : Waits sig Unit) (K : PUnit → sProp 𝕄) :
    iprop(core c TB TN TX hR wu wd k ∗ ((tabB.view.loc (c : Thread nD τ) ↦[tabB.view.set]{fullShare.right} TB) ∗ (tabX.view.loc (c : Thread nD τ) ↦[tabX.view.set]{fullShare.right} TX) ∗ (tabN.view.loc (c : Thread nD τ) ↦[tabN.view.set]{fullShare.right} TN) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6)) ∗ (arg9.view.loc (c : Thread nD τ) ↦[arg9.view.set]{fullShare} f9) ∗ owes (c : Thread nD τ) 0 W
      ∗ (core c TB TN TX hR wu wd (k + 1) ∗ ((tabB.view.loc (c : Thread nD τ) ↦[tabB.view.set]{fullShare.right} TB) ∗ (tabX.view.loc (c : Thread nD τ) ↦[tabX.view.set]{fullShare.right} TX) ∗ (tabN.view.loc (c : Thread nD τ) ↦[tabN.view.set]{fullShare.right} TN) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6)) ∗ owns (c : Thread nD τ) arg9 fullShare (outAt c TB TN TX hR wu wd k x4 x5 x6) ∗ (∃ W', owes (c : Thread nD τ) 0 W') -∗ K ⟨⟩))
    ⊢ wp frame (wpE (defs₀ (F := F)) Variants.none c none) Set.univ (cc0_expert_ffn i (Memref.whole main_arg0) (Memref.isWhole_whole _) (Memref.whole main_arg1) (Memref.isWhole_whole _) (Memref.whole main_arg2) (Memref.isWhole_whole _) arg4 harg4 arg5 harg5 arg6 harg6 (Memref.whole main_arg4) (Memref.isWhole_whole _) (Memref.whole main_arg6) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) K := by
  have hle := hR.le
  have hpos := hR.pos
  by_cases hu : k < (TN at1).toNat
  · have hc1 : ¬ k0_cond1 i (TN at1) = 1#1 := fun hh => absurd ((cond1_iff i _ hle).1 hh) (by omega)
    have hc2 : k0_cond2 i (TN at1) = 1#1 := (cond2_iff i _ hle).2 (by omega)
    rw [show outAt c TB TN TX hR wu wd k x4 x5 x6 = outOf (upOf x4 (upW c wu (TB (at288 k)) (hR.lt k))) x5 (downW c wd (TB (at288 k)) (hR.lt k)) x6 from if_pos hu]
    by_cases h0 : k = 0
    · rw [show core c TB TN TX hR wu wd k = iprop(rings c wu wd ∗ any2 c ∗ any3 c) from if_pos (Or.inl h0)]
      iintro ⟨⟨HM, H2, H3⟩, ⟨HB, HT, HN, H4, H5, H6⟩, H9, HO, Hk⟩
      iapply (used c i arg4 harg4 arg5 harg5 arg6 harg6 arg9 harg9 TN (TN at1) (read_used TN) hc1 hc2 (upOf x4 (upW c wu (TB (at288 k)) (hR.lt k))) x5 x6 (downW c wd (TB (at288 k)) (hR.lt k)) f9 iprop((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ rings c wu wd ∗ any2 c ∗ any3 c ∗ owes (c : Thread nD τ) 0 W) iprop((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd (TX (at32 (TB (at288 k)).toNat)) ∗ owns (c : Thread nD τ) (Memref.whole cc0_scratch2 : Memref sig .tc .vmem S1024x2048 .bf16) fullShare (upW c wu (TB (at288 k)) (hR.lt k)) ∗ (∃ W', owes (c : Thread nD τ) 0 W')) (fun K => part_first c i arg4 harg4 arg5 harg5 arg6 harg6 arg9 harg9 (TN at1) hc2 x4 (hik.trans h0) TB TX (TB (at288 k)) (TB (at288 (k - 1))) (TX (at32 (TB (at288 k)).toNat)) (by rw [hik]) (by rw [hik]) (hR.lt k) rfl (hR.fol _) W wu wd K) K)
      isplitl [HB H4 HT HM H2 H3 HO]
      · isplitl [HB]; · iexact HB
        isplitl [H4]; · iexact H4
        isplitl [HT]; · iexact HT
        isplitl [HM]; · iexact HM
        isplitl [H2]; · iexact H2
        isplitl [H3]; · iexact H3
        iexact HO
      isplitl [HN]; · iexact HN
      isplitl [H5]; · iexact H5
      isplitl [H6]; · iexact H6
      isplitl [H9]; · iexact H9
      iintro ⟨⟨HB, H4, HT, HM, H2, HO⟩, H3, HN, H5, H6, H9⟩
      iapply Hk
      isplitl [HM H2 H3]
      · iapply (core_succ c TB TN TX hR wu wd k hu)
        isplitl [HM]; · iexact HM
        isplitl [H2]; · iexact H2
        iexact H3
      isplitl [HB HT HN H4 H5 H6]
      · isplitl [HB]; · iexact HB
        isplitl [HT]; · iexact HT
        isplitl [HN]; · iexact HN
        isplitl [H4]; · iexact H4
        isplitl [H5]; · iexact H5
        iexact H6
      isplitl [H9]; · iexact H9
      iexact HO
    · rw [show core c TB TN TX hR wu wd k = iprop(mid c wu wd (TX (at32 (TB (at288 (k - 1))).toNat)) ∗ owns (c : Thread nD τ) (Memref.whole cc0_scratch2 : Memref sig .tc .vmem S1024x2048 .bf16) fullShare (upW c wu (TB (at288 (k - 1))) (hR.lt _)) ∗ owns (c : Thread nD τ) (Memref.whole cc0_scratch3 : Memref sig .tc .vmem S1024x1024 .bf16) fullShare (downW c wd (TB (at288 (k - 1))) (hR.lt _))) from if_neg (by omega)]
      by_cases heq : (TB (at288 k)) = TB (at288 (k - 1))
      · have hU : upW c wu (TB (at288 (k - 1))) (hR.lt _) = (upW c wu (TB (at288 k)) (hR.lt k)) := by congr 1; exact heq.symm
        have hD : downW c wd (TB (at288 (k - 1))) (hR.lt _) = (downW c wd (TB (at288 k)) (hR.lt k)) := by congr 1; exact heq.symm
        rw [hU, hD, show TX (at32 (TB (at288 (k - 1))).toNat) = (TX (at32 (TB (at288 k)).toNat)) from by rw [heq]]
        iintro ⟨⟨HM, H2, H3⟩, ⟨HB, HT, HN, H4, H5, H6⟩, H9, HO, Hk⟩
        iapply (used c i arg4 harg4 arg5 harg5 arg6 harg6 arg9 harg9 TN (TN at1) (read_used TN) hc1 hc2 (upOf x4 (upW c wu (TB (at288 k)) (hR.lt k))) x5 x6 (downW c wd (TB (at288 k)) (hR.lt k)) f9 iprop((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd (TX (at32 (TB (at288 k)).toNat)) ∗ owns (c : Thread nD τ) (Memref.whole cc0_scratch2 : Memref sig .tc .vmem S1024x2048 .bf16) fullShare (upW c wu (TB (at288 k)) (hR.lt k)) ∗ owns (c : Thread nD τ) (Memref.whole cc0_scratch3 : Memref sig .tc .vmem S1024x1024 .bf16) fullShare (downW c wd (TB (at288 k)) (hR.lt k)) ∗ owes (c : Thread nD τ) 0 W) iprop((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd (TX (at32 (TB (at288 k)).toNat)) ∗ owns (c : Thread nD τ) (Memref.whole cc0_scratch2 : Memref sig .tc .vmem S1024x2048 .bf16) fullShare (upW c wu (TB (at288 k)) (hR.lt k)) ∗ (∃ W', owes (c : Thread nD τ) 0 W')) (fun K => part_same c i arg4 harg4 arg5 harg5 arg6 harg6 arg9 harg9 (TN at1) hc2 x4 (by omega) TB TX (TB (at288 k)) (TB (at288 (k - 1))) (TX (at32 (TB (at288 k)).toNat)) (by rw [hik]) (by rw [hik]) (hR.lt k) rfl (hR.fol _) W wu wd K heq) K)
        isplitl [HB H4 HT HM H2 H3 HO]
        · isplitl [HB]; · iexact HB
          isplitl [H4]; · iexact H4
          isplitl [HT]; · iexact HT
          isplitl [HM]; · iexact HM
          isplitl [H2]; · iexact H2
          isplitl [H3]; · iexact H3
          iexact HO
        isplitl [HN]; · iexact HN
        isplitl [H5]; · iexact H5
        isplitl [H6]; · iexact H6
        isplitl [H9]; · iexact H9
        iintro ⟨⟨HB, H4, HT, HM, H2, HO⟩, H3, HN, H5, H6, H9⟩
        iapply Hk
        isplitl [HM H2 H3]
        · iapply (core_succ c TB TN TX hR wu wd k hu)
          isplitl [HM]; · iexact HM
          isplitl [H2]; · iexact H2
          iexact H3
        isplitl [HB HT HN H4 H5 H6]
        · isplitl [HB]; · iexact HB
          isplitl [HT]; · iexact HT
          isplitl [HN]; · iexact HN
          isplitl [H4]; · iexact H4
          isplitl [H5]; · iexact H5
          iexact H6
        isplitl [H9]; · iexact H9
        iexact HO
      · have hst : TX (at32 (TB (at288 (k - 1))).toNat) = (TB (at288 k)) := by
          have h1 : k - 1 + 1 = k := by omega
          rcases hR.step (k - 1) (by omega) with h | h
          · rw [h1] at h; exact absurd h heq
          · rw [h1] at h; exact h
        rw [hst]
        refine BIBase.Entails.trans (show _ ⊢ iprop((mid c wu wd (TB (at288 k)) ∗ any2 c ∗ any3 c) ∗ ((tabB.view.loc (c : Thread nD τ) ↦[tabB.view.set]{fullShare.right} TB) ∗ (tabX.view.loc (c : Thread nD τ) ↦[tabX.view.set]{fullShare.right} TX) ∗ (tabN.view.loc (c : Thread nD τ) ↦[tabN.view.set]{fullShare.right} TN) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6)) ∗ (arg9.view.loc (c : Thread nD τ) ↦[arg9.view.set]{fullShare} f9) ∗ owes (c : Thread nD τ) 0 W
          ∗ (core c TB TN TX hR wu wd (k + 1) ∗ ((tabB.view.loc (c : Thread nD τ) ↦[tabB.view.set]{fullShare.right} TB) ∗ (tabX.view.loc (c : Thread nD τ) ↦[tabX.view.set]{fullShare.right} TX) ∗ (tabN.view.loc (c : Thread nD τ) ↦[tabN.view.set]{fullShare.right} TN) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6)) ∗ owns (c : Thread nD τ) arg9 fullShare (outOf (upOf x4 (upW c wu (TB (at288 k)) (hR.lt k))) x5 (downW c wd (TB (at288 k)) (hR.lt k)) x6) ∗ (∃ W', owes (c : Thread nD τ) 0 W') -∗ K ⟨⟩)) from ?_) ?_
        · iintro ⟨⟨HM, H2, H3⟩, Hr⟩
          isplitl [HM H2 H3]
          · isplitl [HM]; · iexact HM
            isplitl [H2]
            · iapply (any2_of c _); iexact H2
            iapply (any3_of c _); iexact H3
          iexact Hr
        iintro ⟨⟨HM, H2, H3⟩, ⟨HB, HT, HN, H4, H5, H6⟩, H9, HO, Hk⟩
        iapply (used c i arg4 harg4 arg5 harg5 arg6 harg6 arg9 harg9 TN (TN at1) (read_used TN) hc1 hc2 (upOf x4 (upW c wu (TB (at288 k)) (hR.lt k))) x5 x6 (downW c wd (TB (at288 k)) (hR.lt k)) f9 iprop((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd (TB (at288 k)) ∗ any2 c ∗ any3 c ∗ owes (c : Thread nD τ) 0 W) iprop((tabB.view.loc (c : Thread nD τ) ↦[tabB.view.set]{fullShare.right} TB) ∗ (arg4.view.loc (c : Thread nD τ) ↦[arg4.view.set]{fullShare} harg4.unread x4) ∗ (tabX.view.loc (c : Thread nD τ) ↦[tabX.view.set]{fullShare.right} TX) ∗ mid c wu wd (TX (at32 (TB (at288 k)).toNat)) ∗ owns (c : Thread nD τ) (Memref.whole cc0_scratch2 : Memref sig .tc .vmem S1024x2048 .bf16) fullShare (upW c wu (TB (at288 k)) (hR.lt k)) ∗ (∃ W', owes (c : Thread nD τ) 0 W')) (fun K => part_turn c i arg4 harg4 arg5 harg5 arg6 harg6 arg9 harg9 (TN at1) hc2 x4 (by omega) TB TX (TB (at288 k)) (TB (at288 (k - 1))) (TX (at32 (TB (at288 k)).toNat)) (by rw [hik]) (by rw [hik]) (hR.lt k) rfl (hR.fol _) W wu wd K heq) K)
        isplitl [HB H4 HT HM H2 H3 HO]
        · isplitl [HB]; · iexact HB
          isplitl [H4]; · iexact H4
          isplitl [HT]; · iexact HT
          isplitl [HM]; · iexact HM
          isplitl [H2]; · iexact H2
          isplitl [H3]; · iexact H3
          iexact HO
        isplitl [HN]; · iexact HN
        isplitl [H5]; · iexact H5
        isplitl [H6]; · iexact H6
        isplitl [H9]; · iexact H9
        iintro ⟨⟨HB, H4, HT, HM, H2, HO⟩, H3, HN, H5, H6, H9⟩
        iapply Hk
        isplitl [HM H2 H3]
        · iapply (core_succ c TB TN TX hR wu wd k hu)
          isplitl [HM]; · iexact HM
          isplitl [H2]; · iexact H2
          iexact H3
        isplitl [HB HT HN H4 H5 H6]
        · isplitl [HB]; · iexact HB
          isplitl [HT]; · iexact HT
          isplitl [HN]; · iexact HN
          isplitl [H4]; · iexact H4
          isplitl [H5]; · iexact H5
          iexact H6
        isplitl [H9]; · iexact H9
        iexact HO
  · have hc1 : k0_cond1 i (TN at1) = 1#1 := (cond1_iff i _ hle).2 (by omega)
    have hc2 : ¬ k0_cond2 i (TN at1) = 1#1 := fun hh => absurd ((cond2_iff i _ hle).1 hh) (by omega)
    rw [show outAt c TB TN TX hR wu wd k x4 x5 x6 = k0_pay1 (F := F) from if_neg hu,
      show core c TB TN TX hR wu wd k = iprop(rings c wu wd ∗ any2 c ∗ any3 c) from if_pos (Or.inr (by omega)),
      show core c TB TN TX hR wu wd (k + 1) = iprop(rings c wu wd ∗ any2 c ∗ any3 c) from if_pos (Or.inr (by omega))]
    iintro ⟨HC, ⟨HB, HT, HN, H4, H5, H6⟩, H9, HO, Hk⟩
    iapply (unused c i arg4 harg4 arg5 harg5 arg6 harg6 arg9 harg9 TN (TN at1) (read_used TN) hc1 hc2 f9 K)
    isplitl [HN]; · iexact HN
    isplitl [H9]; · iexact H9
    iintro ⟨HN, H9⟩
    iapply Hk
    isplitl [HC]; · iexact HC
    isplitl [HB HT HN H4 H5 H6]
    · isplitl [HB]; · iexact HB
      isplitl [HT]; · iexact HT
      isplitl [HN]; · iexact HN
      isplitl [H4]; · iexact H4
      isplitl [H5]; · iexact H5
      iexact H6
    isplitl [H9]; · iexact H9
    iexists _; iexact HO

end Cert.Kernel2Ideal.Ffn
-- ==== Proof.Entry.lean ====
/- The experts' kernel: what the launch hands its grid, and takes back. -/
module

public import proofs.«01_k».proof.Proof.Step
public import Idealize.ShloMosaic.Lib.Ring
public import Idealize.ShloMosaic.Lib.Pipeline.Value
public import Idealize.ShloMosaic.Lib.Pipeline.FrameBody
public import Idealize.ShloMosaic.Lib.Claim

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

theorem inbsU : ∀ (b : Fin 2) (a : Fin S2x1024x2048.rank), (![b.val, 0, 0] : Fin 3 → ℕ) a + S1x1024x2048.size a ≤ S2x1024x2048.size a := by decide
/-- The elements of a slot of the ring. -/
def setU (b : Fin 2) : Finset S2x1024x2048.Idx := (Rect.unit (s := S2x1024x2048) ![b.val, 0, 0] S1x1024x2048.size (inbsU b)).set
theorem disjU : ∀ s s' : Fin 2, s ≠ s' → Disjoint (setU s) (setU s') :=
  Ring.lead_disjoint (s := S2x1024x2048) (NB := 2) (0 : Fin 3) 1 (fun b => ![b.val, 0, 0]) S1x1024x2048.size inbsU (by decide) (by decide)
theorem coverU : Finset.univ.biUnion setU = Finset.univ :=
  Ring.lead_cover (s := S2x1024x2048) (NB := 2) (0 : Fin 3) 1 (fun b => ![b.val, 0, 0]) S1x1024x2048.size inbsU (by decide) (by decide) (by decide) (by decide) (by decide)
theorem slotsetU0 : slotU0.view.set = setU 0 := (View.set_reshape (v := (View.whole cc0_scratch0).slice (Rect.unit (s := S2x1024x2048) ![0, 0, 0] S1x1024x2048.size inb_S2x1024x2048_S1x1024x2048_0_0_0)) _).trans (View.set_slice_whole _ _)
theorem slotsetU1 : slotU1.view.set = setU 1 := (View.set_reshape (v := (View.whole cc0_scratch0).slice (Rect.unit (s := S2x1024x2048) ![1, 0, 0] S1x1024x2048.size inbU1)) _).trans (View.set_slice_whole _ _)

theorem openU (c : Dev nD) : (iprop(∃ f : Buf (Elt F) ((c : Thread nD τ).loc cc0_scratch0), ((c : Thread nD τ).loc cc0_scratch0) ↦{fullShare} f) : sProp 𝕄)
    ⊢ iprop((∃ f : Buf (Elt F) (slotU0.view.loc (c : Thread nD τ)), slotU0.view.loc (c : Thread nD τ) ↦[slotU0.view.set]{fullShare} f) ∗ ∃ f : Buf (Elt F) (slotU1.view.loc (c : Thread nD τ)), slotU1.view.loc (c : Thread nD τ) ↦[slotU1.view.set]{fullShare} f) :=
  Ring.slots2_split (ℓ := ((c : Thread nD τ).loc cc0_scratch0)) setU disjU coverU
    (fun f => (slotU0.view.loc (c : Thread nD τ) ↦[slotU0.view.set]{fullShare} f)) (fun f => (slotU1.view.loc (c : Thread nD τ) ↦[slotU1.view.set]{fullShare} f))
    (fun f => by rw [slotsetU0]) (fun f => by rw [slotsetU1])
theorem closeU (c : Dev nD) : iprop((∃ f : Buf (Elt F) (slotU0.view.loc (c : Thread nD τ)), slotU0.view.loc (c : Thread nD τ) ↦[slotU0.view.set]{fullShare} f) ∗ ∃ f : Buf (Elt F) (slotU1.view.loc (c : Thread nD τ)), slotU1.view.loc (c : Thread nD τ) ↦[slotU1.view.set]{fullShare} f)
    ⊢ (iprop(∃ f : Buf (Elt F) ((c : Thread nD τ).loc cc0_scratch0), ((c : Thread nD τ).loc cc0_scratch0) ↦{fullShare} f) : sProp 𝕄) :=
  Ring.slots2_join (ℓ := ((c : Thread nD τ).loc cc0_scratch0)) setU disjU coverU
    (fun f => (slotU0.view.loc (c : Thread nD τ) ↦[slotU0.view.set]{fullShare} f)) (fun f => (slotU1.view.loc (c : Thread nD τ) ↦[slotU1.view.set]{fullShare} f))
    (fun f => by rw [slotsetU0]) (fun f => by rw [slotsetU1])

theorem inbsD : ∀ (b : Fin 2) (a : Fin S2x1024x1024.rank), (![b.val, 0, 0] : Fin 3 → ℕ) a + S1x1024x1024.size a ≤ S2x1024x1024.size a := by decide
/-- The elements of a slot of the ring. -/
def setD (b : Fin 2) : Finset S2x1024x1024.Idx := (Rect.unit (s := S2x1024x1024) ![b.val, 0, 0] S1x1024x1024.size (inbsD b)).set
theorem disjD : ∀ s s' : Fin 2, s ≠ s' → Disjoint (setD s) (setD s') :=
  Ring.lead_disjoint (s := S2x1024x1024) (NB := 2) (0 : Fin 3) 1 (fun b => ![b.val, 0, 0]) S1x1024x1024.size inbsD (by decide) (by decide)
theorem coverD : Finset.univ.biUnion setD = Finset.univ :=
  Ring.lead_cover (s := S2x1024x1024) (NB := 2) (0 : Fin 3) 1 (fun b => ![b.val, 0, 0]) S1x1024x1024.size inbsD (by decide) (by decide) (by decide) (by decide) (by decide)
theorem slotsetD0 : slotD0.view.set = setD 0 := (View.set_reshape (v := (View.whole cc0_scratch1).slice (Rect.unit (s := S2x1024x1024) ![0, 0, 0] S1x1024x1024.size inb_S2x1024x1024_S1x1024x1024_0_0_0)) _).trans (View.set_slice_whole _ _)
theorem slotsetD1 : slotD1.view.set = setD 1 := (View.set_reshape (v := (View.whole cc0_scratch1).slice (Rect.unit (s := S2x1024x1024) ![1, 0, 0] S1x1024x1024.size inbD1)) _).trans (View.set_slice_whole _ _)

theorem openD (c : Dev nD) : (iprop(∃ f : Buf (Elt F) ((c : Thread nD τ).loc cc0_scratch1), ((c : Thread nD τ).loc cc0_scratch1) ↦{fullShare} f) : sProp 𝕄)
    ⊢ iprop((∃ f : Buf (Elt F) (slotD0.view.loc (c : Thread nD τ)), slotD0.view.loc (c : Thread nD τ) ↦[slotD0.view.set]{fullShare} f) ∗ ∃ f : Buf (Elt F) (slotD1.view.loc (c : Thread nD τ)), slotD1.view.loc (c : Thread nD τ) ↦[slotD1.view.set]{fullShare} f) :=
  Ring.slots2_split (ℓ := ((c : Thread nD τ).loc cc0_scratch1)) setD disjD coverD
    (fun f => (slotD0.view.loc (c : Thread nD τ) ↦[slotD0.view.set]{fullShare} f)) (fun f => (slotD1.view.loc (c : Thread nD τ) ↦[slotD1.view.set]{fullShare} f))
    (fun f => by rw [slotsetD0]) (fun f => by rw [slotsetD1])
theorem closeD (c : Dev nD) : iprop((∃ f : Buf (Elt F) (slotD0.view.loc (c : Thread nD τ)), slotD0.view.loc (c : Thread nD τ) ↦[slotD0.view.set]{fullShare} f) ∗ ∃ f : Buf (Elt F) (slotD1.view.loc (c : Thread nD τ)), slotD1.view.loc (c : Thread nD τ) ↦[slotD1.view.set]{fullShare} f)
    ⊢ (iprop(∃ f : Buf (Elt F) ((c : Thread nD τ).loc cc0_scratch1), ((c : Thread nD τ).loc cc0_scratch1) ↦{fullShare} f) : sProp 𝕄) :=
  Ring.slots2_join (ℓ := ((c : Thread nD τ).loc cc0_scratch1)) setD disjD coverD
    (fun f => (slotD0.view.loc (c : Thread nD τ) ↦[slotD0.view.set]{fullShare} f)) (fun f => (slotD1.view.loc (c : Thread nD τ) ↦[slotD1.view.set]{fullShare} f))
    (fun f => by rw [slotsetD0]) (fun f => by rw [slotsetD1])

theorem of_eq {P Q : sProp 𝕄} (e : P = Q) : P ⊢ Q := e ▸ .rfl
/-- A whole buffer as a memref's elements. -/
theorem whole_pt (c : Dev nD) (b : Ref sig .tc) (q : PosShare TreeShare) (f : Buf (Elt F) ((c : Thread nD τ).loc b)) :
    (((c : Thread nD τ).loc b) ↦{q} f : sProp 𝕄) = ((View.whole b).loc (c : Thread nD τ) ↦[(View.whole b).set]{q} f) := by
  rw [View.set_whole]

/-- The kernel's own semaphores. -/
def osem : Fin 4 → SemLoc sig := ![cellU0, cellD0, cellU1, cellD1]
theorem ownFacts : Pipeline.OwnSemFacts spec0 osem := by decide
/-- The operands the kernel copies from itself. -/
def hbm : Finset (Ref sig .tc) := {main_arg4, main_arg6}
theorem hbm_sub : hbm ⊆ Pipeline.restRefsP sig pre0 spec0 := by decide

theorem own_eq (c : Dev nD) : (Pipeline.ownSems0 (Ix := Unit) (Name := ℕ) (U := UR sig nD τ × Counters) (Lvl := ℕ) (Val := Elt F) (τ := τ) osem c : sProp 𝕄)
    = iprop(semVal ((c : Thread nD τ), cellU0) 0 ∗ semVal ((c : Thread nD τ), cellD0) 0 ∗ semVal ((c : Thread nD τ), cellU1) 0 ∗ semVal ((c : Thread nD τ), cellD1) 0) :=
  Pipeline.ownSems0_eq_of_list c osem [0, 1, 2, 3] (by decide) (by decide)
theorem hbm_eq (c : Dev nD) (V : (b : Ref sig .tc) → Buf (Elt F) ((c : Thread nD τ).loc b)) :
    (bigSep hbm (fun b => ((c : Thread nD τ).loc b) ↦{fullShare} V b) : sProp 𝕄)
      = iprop((((c : Thread nD τ).loc main_arg4) ↦{fullShare} V main_arg4) ∗ (((c : Thread nD τ).loc main_arg6) ↦{fullShare} V main_arg6)) :=
  (congrArg (fun s => bigSep s _) (show hbm = [main_arg4, main_arg6].toFinset by decide)).trans (bigSep_eq_bigSepL [main_arg4, main_arg6] (by decide) _)
theorem tab_eq (c : Dev nD) (v : pre0.Contents (Elt F)) :
    (Pipeline.ΦT (U := UR sig nD τ × Counters) pre0 v c : sProp 𝕄)
      = iprop((tabB.view.loc (c : Thread nD τ) ↦[tabB.view.set]{fullShare.right} v 0) ∗ (tabN.view.loc (c : Thread nD τ) ↦[tabN.view.set]{fullShare.right} v 1) ∗ (tabX.view.loc (c : Thread nD τ) ↦[tabX.view.set]{fullShare.right} v 2)) := by
  show _ = iprop(((View.whole main_arg0).loc (c : Thread nD τ) ↦[(View.whole main_arg0).set]{fullShare.right} v 0) ∗ ((View.whole main_arg1).loc (c : Thread nD τ) ↦[(View.whole main_arg1).set]{fullShare.right} v 1) ∗ ((View.whole main_arg2).loc (c : Thread nD τ) ↦[(View.whole main_arg2).set]{fullShare.right} v 2))
  rw [View.set_whole, View.set_whole, View.set_whole]
  unfold Pipeline.ΦT Pipeline.prefHeld
  exact bigSep_univ_eq_bigSepL [0, 1, 2] (by decide) (by decide) _

/-- What the launch hands over is the state before the first block. -/
theorem enter (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) :
    iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ (semVal ((c : Thread nD τ), cellU0) 0 ∗ semVal ((c : Thread nD τ), cellD0) 0 ∗ semVal ((c : Thread nD τ), cellU1) 0 ∗ semVal ((c : Thread nD τ), cellD1) 0) ∗ ((Memref.whole main_arg4 : Memref sig .tc .hbm S32x1024x2048 .f32).view.loc (c : Thread nD τ) ↦{fullShare} wu) ∗ ((Memref.whole main_arg6 : Memref sig .tc .hbm S32x1024x1024 .f32).view.loc (c : Thread nD τ) ↦{fullShare} wd))
    ⊢ (iprop(rings c wu wd ∗ any2 c ∗ any3 c) : sProp 𝕄) := by
  unfold rings spare0 spare1 any2 any3
  iintro ⟨⟨H0, H1, ⟨%f2, H2⟩, ⟨%f3, H3⟩, ⟨%f4, H4⟩⟩, ⟨HU0, HD0, HU1, HD1⟩, HA, HB⟩
  ihave H0' := (openU c) $$ H0
  icases H0' with ⟨HsU0, HsU1⟩
  ihave H1' := (openD c) $$ H1
  icases H1' with ⟨HsD0, HsD1⟩
  ihave HA' := (pointsTo_share (PosShare.mem_left_op_right fullShare)).1 $$ HA
  icases HA' with ⟨HAl, HAr⟩
  ihave HB' := (pointsTo_share (PosShare.mem_left_op_right fullShare)).1 $$ HB
  icases HB' with ⟨HBl, HBr⟩
  isplitl [H4 HsU0 HsU1 HsD0 HsD1 HU0 HD0 HU1 HD1 HAl HAr HBl HBr]
  · isplitl [H4]
    · iexists f4; iapply (of_eq (whole_pt c cc0_scratch4 fullShare f4)); iexact H4
    isplitl [HsU0 HsD0 HU0 HD0 HAl HBl]
    · isplitl [HsU0]; · iexact HsU0
      isplitl [HsD0]; · iexact HsD0
      isplitl [HU0]; · iexact HU0
      isplitl [HD0]; · iexact HD0
      isplitl [HAl]; · iexact HAl
      iexact HBl
    isplitl [HsU1]; · iexact HsU1
    isplitl [HsD1]; · iexact HsD1
    isplitl [HU1]; · iexact HU1
    isplitl [HD1]; · iexact HD1
    isplitl [HAr]; · iexact HAr
    iexact HBr
  isplitl [H2]
  · iexists f2; iapply (of_eq (whole_pt c cc0_scratch2 fullShare f2)); iexact H2
  iexists f3; iapply (of_eq (whole_pt c cc0_scratch3 fullShare f3)); iexact H3

/-- And the state after the last block is what the launch takes back. -/
theorem leave (c : Dev nD) (wu : Buf (Elt F) ((Memref.whole main_arg4 : Memref sig .tc .hbm S32x1024x2048 .f32).view.loc (c : Thread nD τ))) (wd : Buf (Elt F) ((Memref.whole main_arg6 : Memref sig .tc .hbm S32x1024x1024 .f32).view.loc (c : Thread nD τ))) :
    (iprop(rings c wu wd ∗ any2 c ∗ any3 c) : sProp 𝕄)
    ⊢ iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ (semVal ((c : Thread nD τ), cellU0) 0 ∗ semVal ((c : Thread nD τ), cellD0) 0 ∗ semVal ((c : Thread nD τ), cellU1) 0 ∗ semVal ((c : Thread nD τ), cellD1) 0) ∗ ((Memref.whole main_arg4 : Memref sig .tc .hbm S32x1024x2048 .f32).view.loc (c : Thread nD τ) ↦{fullShare} wu) ∗ ((Memref.whole main_arg6 : Memref sig .tc .hbm S32x1024x1024 .f32).view.loc (c : Thread nD τ) ↦{fullShare} wd)) := by
  unfold rings spare0 spare1 any2 any3
  iintro ⟨⟨⟨%f4, H4⟩, ⟨HsU0, HsD0, HU0, HD0, HAl, HBl⟩, ⟨HsU1, HsD1, HU1, HD1, HAr, HBr⟩⟩, ⟨%f2, H2⟩, ⟨%f3, H3⟩⟩
  isplitl [H2 H3 H4 HsU0 HsU1 HsD0 HsD1]
  · isplitl [HsU0 HsU1]
    · iapply (closeU c); isplitl [HsU0]; · iexact HsU0
      iexact HsU1
    isplitl [HsD0 HsD1]
    · iapply (closeD c); isplitl [HsD0]; · iexact HsD0
      iexact HsD1
    isplitl [H2]
    · iexists f2; iapply (of_eq (whole_pt c cc0_scratch2 fullShare f2).symm); iexact H2
    isplitl [H3]
    · iexists f3; iapply (of_eq (whole_pt c cc0_scratch3 fullShare f3).symm); iexact H3
    iexists f4; iapply (of_eq (whole_pt c cc0_scratch4 fullShare f4).symm); iexact H4
  isplitl [HU0 HD0 HU1 HD1]
  · isplitl [HU0]; · iexact HU0
    isplitl [HD0]; · iexact HD0
    isplitl [HU1]; · iexact HU1
    iexact HD1
  isplitl [HAl HAr]
  · iapply (pointsTo_share (PosShare.mem_left_op_right fullShare)).2
    isplitl [HAl]; · iexact HAl
    iexact HAr
  iapply (pointsTo_share (PosShare.mem_left_op_right fullShare)).2
  isplitl [HBl]; · iexact HBl
  iexact HBr

end Cert.Kernel2Ideal.Ffn

end
-- ==== Proof.Grid.lean ====
/- The experts' kernel: its launch. -/
module

public import proofs.«01_k».proof.Proof.Entry
public import Idealize.ShloMosaic.Lib.Ring
public import Idealize.ShloMosaic.Lib.Pipeline.Value
public import Idealize.ShloMosaic.Lib.Pipeline.FrameBody
public import Idealize.ShloMosaic.Lib.Claim

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-- The core's buffers as the region finds them. -/
abbrev V (c : Dev nD) (b : Ref sig .tc) : Buf (Elt F) ((c : Thread nD τ).loc b) := m ((c : Thread nD τ).loc b)
/-- The routing's tables. -/
abbrev TB : S288.Idx → BitVec 32 := m (((0 : Dev nD) : Thread nD τ).loc main_arg0)
abbrev TN : S1.Idx → BitVec 32 := m (((0 : Dev nD) : Thread nD τ).loc main_arg1)
abbrev TX : S32.Idx → BitVec 32 := m (((0 : Dev nD) : Thread nD τ).loc main_arg2)
/-- The tables as the region reads them. -/
def tbl : pre0.Contents (Elt F) := fun k => m (((0 : Dev nD) : Thread nD τ).loc (pre0.ref k))

theorem tbl_at1 (i : grid0.Coords) : (tbl m).at 1 (Rect.unit (s := S1) ![0] S1.size inb_S1_S1_0) numel1_S1 = TN m at1 := by
  show TN m _ = TN m _
  refine congrArg (TN m) (funext fun a => Fin.ext ?_)
  match a with
  | ⟨0, _⟩ => rfl
theorem tbl_at0 (i : grid0.Coords) : (tbl m).at 0 (Rect.unit (s := S288) (k0_off1 i) S1.size (k0_off1_inb i)) numel1_S1 = TB m (at288 (i 0).val) := by
  have := point_lt i
  show TB m _ = TB m _
  refine congrArg (TB m) (funext fun a => Fin.ext ?_)
  match a with
  | ⟨0, _⟩ =>
    show (BitVec.ofNat 32 (i 0).val).toNat + 1 * 0 = min (i 0).val 287
    rw [point_toNat]; omega

/-- The last used block, or this one. -/
theorem min_used (i : grid0.Coords) (n : BitVec 32) (h1 : 1 ≤ n.toNat) (h2 : n.toNat ≤ 288) :
    (Scalar.minsi (BitVec.ofNat 32 (i 0).val) (Scalar.subi n 1#32)).toNat = min (i 0).val (n.toNat - 1) := by
  have := point_lt i
  have e : (Scalar.subi n 1#32 : BitVec 32).toNat = n.toNat - 1 := by
    show (n - 1#32).toNat = _
    rw [BitVec.toNat_sub]
    show (2 ^ 32 - 1 + n.toNat) % 2 ^ 32 = _
    omega
  show (IntOp.minsi (BitVec.ofNat 32 (i 0).val) (Scalar.subi n 1#32)).toNat = _
  unfold IntOp.minsi
  rw [BitVec.slt_eq_decide, WordCmp.toInt_eq_toNat_of_lt_half (x := BitVec.ofNat 32 (i 0).val) (by rw [point_toNat]; omega),
    WordCmp.toInt_eq_toNat_of_lt_half (x := (Scalar.subi n 1#32 : BitVec 32)) (by rw [e]; omega), e, point_toNat]
  by_cases hh : ((i 0).val : ℤ) < ((n.toNat - 1 : ℕ) : ℤ)
  · rw [decide_eq_true hh, if_pos rfl, point_toNat]; omega
  · rw [decide_eq_false hh, if_neg (by decide), e]; omega

theorem rows_at (hR : Routed (TB m) (TN m) (TX m)) (i : grid0.Coords) :
    cc0_transform_0 inb_S1_S1_0 numel1_S1 (tbl m) i = ![min (i 0).val ((TN m at1).toNat - 1), 0] := by
  have e : cc0_transform_0 inb_S1_S1_0 numel1_S1 (tbl m) i = ![(Scalar.minsi (BitVec.ofNat 32 (i 0).val) (Scalar.subi ((tbl m).at 1 (Rect.unit (s := S1) ![0] S1.size inb_S1_S1_0) numel1_S1) 1#32)).toNat, 0] := rfl
  rw [e, tbl_at1 m i, min_used i _ hR.pos hR.le]
theorem up_at (i : grid0.Coords) : cc0_transform_1 k0_off1_inb numel1_S1 (tbl m) i = ![(TB m (at288 (i 0).val)).toNat, 0, 0] := by
  have e : cc0_transform_1 k0_off1_inb numel1_S1 (tbl m) i = ![((tbl m).at 0 (Rect.unit (s := S288) (k0_off1 i) S1.size (k0_off1_inb i)) numel1_S1 : BitVec 32).toNat, 0, 0] := rfl
  rw [e, tbl_at0 m i]
theorem down_at (i : grid0.Coords) : cc0_transform_2 k0_off1_inb numel1_S1 (tbl m) i = ![(TB m (at288 (i 0).val)).toNat, 0, 0] := by
  have e : cc0_transform_2 k0_off1_inb numel1_S1 (tbl m) i = ![((tbl m).at 0 (Rect.unit (s := S288) (k0_off1 i) S1.size (k0_off1_inb i)) numel1_S1 : BitVec 32).toNat, 0, 0] := rfl
  rw [e, tbl_at0 m i]

/-- The region's side condition of the tables. -/
theorem ok_of (hR : Routed (TB m) (TN m) (TX m)) : ok0 (tbl m) := by
  unfold ok0
  refine ⟨fun i => ⟨?_, Or.inl rfl⟩, fun i => ⟨?_, Or.inl rfl⟩, fun i => ⟨?_, Or.inl rfl⟩⟩
  · have := point_lt i
    rw [rows_at m hR i]
    intro a
    match a with
    | ⟨0, _⟩ => show (min (i 0).val _ + 1) * 2048 ≤ 589824; omega
    | ⟨1, _⟩ => show (0 + 1) * 128 ≤ 128; omega
  · have := hR.lt (i 0).val
    rw [up_at m i]
    intro a
    match a with
    | ⟨0, _⟩ => show ((TB m (at288 (i 0).val)).toNat + 1) * 1 ≤ 32; omega
    | ⟨1, _⟩ => show (0 + 1) * 1 ≤ 1; omega
    | ⟨2, _⟩ => show (0 + 1) * 2048 ≤ 2048; omega
  · have := hR.lt (i 0).val
    rw [down_at m i]
    intro a
    match a with
    | ⟨0, _⟩ => show ((TB m (at288 (i 0).val)).toNat + 1) * 1 ≤ 32; omega
    | ⟨1, _⟩ => show (0 + 1) * 1 ≤ 1; omega
    | ⟨2, _⟩ => show (0 + 1) * 1024 ≤ 1024; omega

variable (hR : Routed (TB m) (TN m) (TX m))

/-- The tables the region is run at. -/
abbrev adm : (p : Fin 1) → (pcfgs (F := F) p).Adm := fun _ => ⟨tbl m, ok_of m hR⟩
/-- The pipeline at them. -/
abbrev cfgR : Pipeline.Cfg sig Λ₀ := Pipeline.pin (pcfgs (F := F)) (adm m hR) 0

theorem tbl_eq (c : Dev nD) (k : Fin 3) : V m c (pre0.ref k) = (adm m hR 0).1 k := by
  obtain rfl : c = 0 := Subsingleton.elim _ _
  rfl

/-- A point's coordinate is its number. -/
theorem coord (t : Fin grid0.N) : (grid0.coords t 0).val = t.val := (by decide +kernel : ∀ t : Fin grid0.N, (grid0.coords t 0).val = t.val) t

/-- Window `w`'s block at point `t`. -/
def iblk (c : Dev nD) (w : Fin (cfgR m hR).W) (t : Fin (cfgR m hR).N) : (((cfgR m hR).win w).xblock ((cfgR m hR).grid.coords t)).Idx → Elt F ((cfgR m hR).win w).elt :=
  (((cfgR m hR).win w).blk t).view.read (Elt F) (V m c (Pipeline.arrRef spec0 w))

/-- The blocks, at their shapes. -/
def in0 (c : Dev nD) (t : Fin (cfgR m hR).N) : Vec F S2048x128 .i32 := iblk m hR c 0 t
def in1 (c : Dev nD) (t : Fin (cfgR m hR).N) : Vec F S1x1x2048 .f32 := iblk m hR c 1 t
def in2 (c : Dev nD) (t : Fin (cfgR m hR).N) : Vec F S1x1x1024 .f32 := iblk m hR c 2 t

/-- What block `t` of the result is. -/
noncomputable def outs (c : Dev nD) (t : Fin (cfgR m hR).N) : Vec F S4096x128 .f32 :=
  outAt c (TB m) (TN m) (TX m) hR (V m c main_arg4) (V m c main_arg6) t.val (in0 m hR c t) (in1 m hR c t) (in2 m hR c t)

/-- The state before point `k`. -/
noncomputable def state (c : Dev nD) (k : ℕ) : sProp 𝕄 :=
  iprop(((tabB.view.loc (c : Thread nD τ) ↦[tabB.view.set]{fullShare.right} TB m) ∗ (tabN.view.loc (c : Thread nD τ) ↦[tabN.view.set]{fullShare.right} TN m) ∗ (tabX.view.loc (c : Thread nD τ) ↦[tabX.view.set]{fullShare.right} TX m))
    ∗ (∃ r, prngReg c r) ∗ core c (TB m) (TN m) (TX m) hR (V m c main_arg4) (V m c main_arg6) k)

/-- The proof data. -/
noncomputable def dats (_ : Fin 1) (c : Dev nD) : Dat τ (Elt F) Unit ℕ (UR sig nD τ × Counters) ℕ (cfgR m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => outs m hR c t
  Φ k := state m hR c k.val
  q _ := fullShare
  owed _ := 0

theorem A_eq (c : Dev nD) (w : Fin (cfgR m hR).W) : (dats m hR 0 c).A w = V m c (Pipeline.arrRef spec0 w) := by
  dsimp only [dats]
theorem after0 (c : Dev nD) (t : Fin (cfgR m hR).N) : (dats m hR 0 c).after 0 t = iblk m hR c 0 t
  := rfl
theorem after1 (c : Dev nD) (t : Fin (cfgR m hR).N) : (dats m hR 0 c).after 1 t = iblk m hR c 1 t
  := rfl
theorem after2 (c : Dev nD) (t : Fin (cfgR m hR).N) : (dats m hR 0 c).after 2 t = iblk m hR c 2 t
  := rfl
theorem after3 (c : Dev nD) (t : Fin (cfgR m hR).N) : (dats m hR 0 c).after 3 t = outs m hR c t := rfl

theorem before0 (c : Dev nD) (t : Fin (cfgR m hR).N) (d) : (dats m hR 0 c).before 0 t d = iblk m hR c 0 t :=
  ((dats m hR 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (c : Dev nD) (t : Fin (cfgR m hR).N) (d) : (dats m hR 0 c).before 1 t d = iblk m hR c 1 t :=
  ((dats m hR 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (c : Dev nD) (t : Fin (cfgR m hR).N) (d) : (dats m hR 0 c).before 2 t d = iblk m hR c 2 t :=
  ((dats m hR 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The result's block is written at every point. -/
theorem idle3 (t : Fin (cfgR m hR).N) : (cfgR m hR).idle 3 ((cfgR m hR).grid.coords t) = false := by
  have h : ∀ i : grid0.Coords, idle0 (tbl m) 3 i = false := by
    intro i
    have e : (tbl m).atD 1 ![0] = TN m at1 := by
      unfold Pipeline.Prefetch.Contents.atD
      rw [dif_pos (by decide)]
      show TN m _ = TN m _
      refine congrArg (TN m) (funext fun a => Fin.ext ?_)
      match a with
      | ⟨0, _⟩ => rfl
    show (!(k0_cond1 i ((tbl m).atD 1 ![0]) == 1#1) && !(k0_cond2 i ((tbl m).atD 1 ![0]) == 1#1)) = false
    rw [e]
    by_cases hh : (i 0).val < (TN m at1).toNat
    · rw [(cond2_iff i _ hR.le).2 hh]; simp
    · rw [(cond1_iff i _ hR.le).2 (by omega)]; simp
  exact h _

abbrev ms0 (t : Fin (cfgR m hR).N) : Memref sig .tc .vmem S2048x128 .i32 := spec0_0.stage ((cfgR m hR).slots t 0)
abbrev hs0 (t : Fin (cfgR m hR).N) : (ms0 m hR t).IsWhole := hstage0_0 (((cfgR m hR).slots t 0).cast nbuf0_0)
abbrev ms1 (t : Fin (cfgR m hR).N) : Memref sig .tc .vmem S1x1x2048 .f32 := spec0_1.stage ((cfgR m hR).slots t 1)
abbrev hs1 (t : Fin (cfgR m hR).N) : (ms1 m hR t).IsWhole := hstage0_1 (((cfgR m hR).slots t 1).cast nbuf0_1)
abbrev ms2 (t : Fin (cfgR m hR).N) : Memref sig .tc .vmem S1x1x1024 .f32 := spec0_2.stage ((cfgR m hR).slots t 2)
abbrev hs2 (t : Fin (cfgR m hR).N) : (ms2 m hR t).IsWhole := hstage0_2 (((cfgR m hR).slots t 2).cast nbuf0_2)
abbrev ms3 (t : Fin (cfgR m hR).N) : Memref sig .tc .vmem S4096x128 .f32 := spec0_3.stage ((cfgR m hR).slots t 3)
abbrev hs3 (t : Fin (cfgR m hR).N) : (ms3 m hR t).IsWhole := hstage0_3 (((cfgR m hR).slots t 3).cast nbuf0_3)

/-- The body at a point. -/
noncomputable abbrev bodyAt (t : Fin (cfgR m hR).N) :=
  cc0_expert_ffn (F := F) (grid0.coords t) (Memref.whole main_arg0) (Memref.isWhole_whole _) (Memref.whole main_arg1) (Memref.isWhole_whole _) (Memref.whole main_arg2) (Memref.isWhole_whole _) (ms0 m hR t) (hs0 m hR t) (ms1 m hR t) (hs1 m hR t) (ms2 m hR t) (hs2 m hR t) (Memref.whole main_arg4) (Memref.isWhole_whole _) (Memref.whole main_arg6) (Memref.isWhole_whole _) (ms3 m hR t) (hs3 m hR t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

/-- What the body is given, and gives back, at point `t`. -/
noncomputable def bodyPre (c : Dev nD) (t : Fin (cfgR m hR).N) : sProp 𝕄 :=
  iprop(state m hR c t.val ∗ (dats m hR 0 c).owesAt () t.castSucc
    ∗ owns (c : Thread nD τ) (ms0 m hR t) fullShare (in0 m hR c t)
    ∗ owns (c : Thread nD τ) (ms1 m hR t) fullShare (in1 m hR c t)
    ∗ owns (c : Thread nD τ) (ms2 m hR t) fullShare (in2 m hR c t)
    ∗ (∃ d, owns (c : Thread nD τ) (ms3 m hR t) fullShare d))
noncomputable def bodyPost (c : Dev nD) (t : Fin (cfgR m hR).N) : sProp 𝕄 :=
  iprop(state m hR c (t.val + 1) ∗ (dats m hR 0 c).owesAt () t.succ
    ∗ owns (c : Thread nD τ) (ms0 m hR t) fullShare (in0 m hR c t)
    ∗ owns (c : Thread nD τ) (ms1 m hR t) fullShare (in1 m hR c t)
    ∗ owns (c : Thread nD τ) (ms2 m hR t) fullShare (in2 m hR c t)
    ∗ owns (c : Thread nD τ) (ms3 m hR t) fullShare (outs m hR c t))

set_option maxHeartbeats 1600000 in
/-- The body at any point. -/
theorem sound_body (c : Dev nD) (t : Fin (cfgR m hR).N) :
    bodyPre m hR c t ⊢ wp frame (wpE (defs₀ (F := F)) Variants.none c none) Set.univ (bodyAt m hR t) (fun _ => bodyPost m hR c t) := by
  unfold bodyPre bodyPost
  unfold state outs
  rw [owns_unread c (ms0 m hR t) (hs0 m hR t), owns_unread c (ms1 m hR t) (hs1 m hR t), owns_unread c (ms2 m hR t) (hs2 m hR t)]
  unfold Dat.owesAt Pipeline.owesWithin
  rw [show (dats m hR 0 c).owed t.castSucc = 0 from rfl, show (dats m hR 0 c).owed t.succ = 0 from rfl]
  iintro ⟨⟨⟨HB, HN, HX⟩, Hg, Hc⟩, ⟨%W, %hW, Ho⟩, H0, H1, H2, ⟨%d3, H3⟩⟩
  ihave H9 := (of_eq (owns_unread c (ms3 m hR t) (hs3 m hR t) d3)) $$ H3
  iapply (block c (grid0.coords t) t.val (coord t) (ms0 m hR t) (hs0 m hR t) (ms1 m hR t) (hs1 m hR t) (ms2 m hR t) (hs2 m hR t) (ms3 m hR t) (hs3 m hR t)
    (TB m) (TN m) (TX m) hR (V m c main_arg4) (V m c main_arg6) (in0 m hR c t) (in1 m hR c t) (in2 m hR c t) ((hs3 m hR t).unread d3) W)
  isplitl [Hc]; · iexact Hc
  isplitl [HB HX HN H0 H1 H2]
  · isplitl [HB]; · iexact HB
    isplitl [HX]; · iexact HX
    isplitl [HN]; · iexact HN
    isplitl [H0]; · iexact H0
    isplitl [H1]; · iexact H1
    iexact H2
  isplitl [H9]; · iexact H9
  isplitl [Ho]; · iexact Ho
  iintro ⟨Hc, ⟨HB, HX, HN, H0, H1, H2⟩, H9, ⟨%W', Ho⟩⟩
  isplitl [Hc HB HN HX Hg]
  · isplitl [HB HN HX]
    · isplitl [HB]; · iexact HB
      isplitl [HN]; · iexact HN
      iexact HX
    isplitl [Hg]; · iexact Hg
    iexact Hc
  isplitl [Ho]
  · iexists W'; isplitr
    · ipureintro; exact fun _ _ => Or.inl trivial
    iexact Ho
  isplitl [H0]; · iexact H0
  isplitl [H1]; · iexact H1
  isplitl [H2]; · iexact H2
  iexact H9

theorem defs₀_row (t : Fin (cfgR m hR).N) :
    defs₀ (F := F) .tc (cfgR m hR).body ((cfgR m hR).bodyArgs t ((cfgR m hR).slots t)) = bodyAt m hR t := by
  unfold defs₀; rw [Defs.onTc_tc]

/-- The obligation of the pipeline, at every point. -/
theorem body_obligation (c : Dev nD) : BodyObligation (dats m hR 0 c) (defs₀ (F := F)) Variants.none () Set.univ := fun t => by
  rw [bigSep_W0, bigSep_W0, defs₀_row]
  simp only [idle3 m hR t]
  rw [show (dats m hR 0 c).Φ t.castSucc = state m hR c t.val from rfl, show (dats m hR 0 c).Φ t.succ = state m hR c (t.val + 1) from rfl]
  refine triple_restated (sound_body m hR c t) rfl ?_ fun _ => ?_
  · unfold bodyPre
    iintro ⟨HΦ, Ho, ⟨%d0, H0⟩, ⟨%d1, H1⟩, ⟨%d2, H2⟩, ⟨%d3, H3⟩⟩
    isplitl [HΦ]; · iexact HΦ
    isplitl [Ho]; · iexact Ho
    isplitl [H0]
    · iapply (of_eq (congrArg (owns (c : Thread nD τ) (ms0 m hR t) fullShare) (before0 m hR c t d0))); iexact H0
    isplitl [H1]
    · iapply (of_eq (congrArg (owns (c : Thread nD τ) (ms1 m hR t) fullShare) (before1 m hR c t d1))); iexact H1
    isplitl [H2]
    · iapply (of_eq (congrArg (owns (c : Thread nD τ) (ms2 m hR t) fullShare) (before2 m hR c t d2))); iexact H2
    iexists _; iexact H3
  · split
    · rename_i hi
      exact absurd (hi.symm.trans (idle3 m hR t)) (by decide)
    · exact .rfl

theorem state_in (c : Dev nD) : iprop(Pipeline.ΦD osem spec0 hbm (V m) c ∗ Pipeline.ΦT pre0 (tbl m) c) ⊢ state m hR c 0 := by
  unfold Pipeline.ΦD state
  rw [tab_eq, scopedRest0_eq, own_eq, hbm_eq, show core c (TB m) (TN m) (TX m) hR (V m c main_arg4) (V m c main_arg6) 0 = iprop(rings c (V m c main_arg4) (V m c main_arg6) ∗ any2 c ∗ any3 c) from if_pos (Or.inl rfl)]
  iintro ⟨⟨HS, Hg, HO, HH⟩, HT⟩
  isplitl [HT]; · iexact HT
  isplitl [Hg]; · iexact Hg
  iapply (enter c (V m c main_arg4) (V m c main_arg6))
  isplitl [HS]; · iexact HS
  isplitl [HO]; · iexact HO
  iexact HH

theorem state_out (c : Dev nD) : state m hR c grid0.N ⊢ Pipeline.ΦD osem spec0 hbm (V m) c := by
  unfold Pipeline.ΦD state
  rw [scopedRest0_eq, own_eq, hbm_eq, show core c (TB m) (TN m) (TX m) hR (V m c main_arg4) (V m c main_arg6) grid0.N = iprop(rings c (V m c main_arg4) (V m c main_arg6) ∗ any2 c ∗ any3 c) from if_pos (Or.inr (by rw [N_0]; exact hR.le))]
  iintro ⟨-, Hg, HR⟩
  ihave H := (leave c (V m c main_arg4) (V m c main_arg6)) $$ HR
  icases H with ⟨HS, HO, HH⟩
  isplitl [HS]; · iexact HS
  isplitl [Hg]; · iexact Hg
  isplitl [HO]; · iexact HO
  iexact HH

theorem hmain : Pipeline.HMainP (Ix := Unit) (Name := ℕ) (U := UR sig nD τ × Counters) (Lvl := ℕ) pcfgs 0 defs₀ Variants.none m (main (F := F)) (V m) :=
  Pipeline.hmainP_region pcfgs 0 defs₀ Variants.none m main fun c => (main_chain c).trans rfl

set_option backward.isDefEq.respectTransparency.types false in
/-- The launch. -/
theorem run_main_quiescent : θ_run defs (onTc (τ := τ) (main (F := F))) (s₀ m ρ)
    (fun r => (Pipeline.FramePost (Pipeline.pin (pcfgs (F := F)) (adm m hR)) (dats m hR) 0 (V m)) r ∧ r.2.sem = fun _ => 0) :=
  Pipeline.θ_run_frameP_dma (Q' := _) pcfgs (adm m hR) (dats m hR) (0 : Fin 1) launch0 osem defs₀ Variants.none ownFacts hbm hbm_sub m ρ main
    (hbody := fun c => (body_obligation m hR c).loose) (hshare := fun c => (dats m hR 0 c).share_full fun _ => rfl)
    (howed := fun _ _ => rfl) (V := V m) (hmain := hmain m) (hA := A_eq m hR) (hpf := tbl_eq m hR)
    (hin := state_in m hR) (hout := state_out m hR)

end Cert.Kernel2Ideal.Ffn

end
-- ==== Proof.Kept.lean ====
/- The experts' kernel: what its launch keeps. -/
module

public import proofs.«01_k».proof.Proof.Grid

@[expose] public section

set_option maxRecDepth 16384

namespace Cert.Kernel2Ideal.Ffn

open Cert.Kernel2Ideal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)
variable (hR : Routed (TB m) (TN m) (TX m))

/-- The launch's run, with what it says of every core. -/
theorem run_blocks : θ_run defs (onTc (τ := τ) (main (F := F))) ⟨m, fun _ => 0, ρ⟩ (fun r => (∀ c : Dev nD,
      r.2.mem ((c : Thread nD τ).loc main_v0) = (dats m hR 0 c).arrAt 3 (cfgR m hR).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun r h => ⟨fun c => ⟨(h.1 c).1 3,
      (h.1 c).2 main_arg0 (show main_arg0 ∈ Pipeline.restRefs sig spec0 by decide),
      (h.1 c).2 main_arg1 (show main_arg1 ∈ Pipeline.restRefs sig spec0 by decide),
      (h.1 c).2 main_arg2 (show main_arg2 ∈ Pipeline.restRefs sig spec0 by decide),
      ((h.1 c).1 0).trans (((dats m hR 0 c).arrAt_in 0 rfl _).trans (A_eq m hR c 0)),
      (h.1 c).2 main_arg4 (show main_arg4 ∈ Pipeline.restRefs sig spec0 by decide),
      ((h.1 c).1 1).trans (((dats m hR 0 c).arrAt_in 1 rfl _).trans (A_eq m hR c 1)),
      (h.1 c).2 main_arg6 (show main_arg6 ∈ Pipeline.restRefs sig spec0 by decide),
      ((h.1 c).1 2).trans (((dats m hR 0 c).arrAt_in 2 rfl _).trans (A_eq m hR c 2))⟩, h.2⟩)
    (run_main_quiescent m ρ hR)

end Cert.Kernel2Ideal.Ffn

end
-- ==== Proof.Spec.lean ====
/- One row of an expert's block: the function both programs compute. -/
module

public import Idealize.ShloMosaic.Lib.Pointwise

@[expose] public section

noncomputable section

namespace Cert.Expert

open Idealize.ShloMosaic Idealize.ShloMosaic.Tactic

/-- Half `p` of a packed word. -/
def half (w : BitVec 32) (p : ℕ) : EReal := Ideal.ofBits .bf16 (w.extractLsb' (p * 16) 16)

/-- Value `k` of row `r` of block `t`: the low halves of the row's words, then the high ones. -/
def row (A3 : (⟨2, ![589824, 128]⟩ : Shape).Idx → BitVec 32) (t : Fin 288) (r : Fin 512) (k : Fin 1024) : EReal :=
  if k.val < 512 then half (A3 (ix2 ⟨t.val * 2048 + r.val * 4 + k.val % 512 / 128, by omega⟩ ⟨k.val % 128, by omega⟩)) 0
  else half (A3 (ix2 ⟨t.val * 2048 + r.val * 4 + k.val % 512 / 128, by omega⟩ ⟨k.val % 128, by omega⟩)) 1

/-- The first product with its bias. -/
def up (A3 : (⟨2, ![589824, 128]⟩ : Shape).Idx → BitVec 32) (A4 : (⟨3, ![32, 1024, 2048]⟩ : Shape).Idx → EReal)
    (A5 : (⟨3, ![32, 1, 2048]⟩ : Shape).Idx → EReal) (t : Fin 288) (r : Fin 512) (e : Fin 32) (n : Fin 2048) : EReal :=
  ∑ x : Fin 1024, row A3 t r x * A4 (ix3 e x n) + A5 (ix3 e (0 : Fin 1) n)

/-- The gated values. -/
def hid (g : Fin 2048 → EReal) (j : Fin 1024) : EReal :=
  min (g ⟨j.val, by omega⟩) (Ideal.ofBits .f32 0x40E00000#32)
      * Ideal.logistic (Ideal.ofBits .f32 0x3FD9DB23#32 * min (g ⟨j.val, by omega⟩) (Ideal.ofBits .f32 0x40E00000#32))
    * (min (Ideal.ofBits .f32 0x40E00000#32) (max (Ideal.ofBits .f32 0xC0E00000#32) (g ⟨1024 + j.val, by omega⟩)) + 1)

/-- The row's result. -/
def out (A3 : (⟨2, ![589824, 128]⟩ : Shape).Idx → BitVec 32) (A4 : (⟨3, ![32, 1024, 2048]⟩ : Shape).Idx → EReal)
    (A5 : (⟨3, ![32, 1, 2048]⟩ : Shape).Idx → EReal) (A6 : (⟨3, ![32, 1024, 1024]⟩ : Shape).Idx → EReal)
    (A7 : (⟨3, ![32, 1, 1024]⟩ : Shape).Idx → EReal) (t : Fin 288) (r : Fin 512) (e : Fin 32) (c : Fin 1024) : EReal :=
  ∑ x : Fin 1024, hid (up A3 A4 A5 t r e) x * A6 (ix3 e x c) + A7 (ix3 e (0 : Fin 1) c)

/-- The result: block `t`'s rows after its expert `A0 t`, and zero past the `A1` blocks used. -/
def result (A0 : (⟨1, ![288]⟩ : Shape).Idx → BitVec 32) (A1 : (⟨1, ![1]⟩ : Shape).Idx → BitVec 32)
    (A3 : (⟨2, ![589824, 128]⟩ : Shape).Idx → BitVec 32) (A4 : (⟨3, ![32, 1024, 2048]⟩ : Shape).Idx → EReal)
    (A5 : (⟨3, ![32, 1, 2048]⟩ : Shape).Idx → EReal) (A6 : (⟨3, ![32, 1024, 1024]⟩ : Shape).Idx → EReal)
    (A7 : (⟨3, ![32, 1, 1024]⟩ : Shape).Idx → EReal) : (⟨2, ![1179648, 128]⟩ : Shape).Idx → EReal := fun i =>
  if (i 0).val / 4096 < (A1 (ix1 (0 : Fin 1))).toNat then
    out A3 A4 A5 A6 A7 ⟨(i 0).val / 4096, by have : (i 0).val < 1179648 := (i 0).isLt; omega⟩ ⟨(i 0).val / 8 % 512, by omega⟩
      ⟨(A0 (ix1 (⟨(i 0).val / 4096, by have : (i 0).val < 1179648 := (i 0).isLt; omega⟩ : Fin 288))).toNat % 32, by omega⟩
      ⟨(i 0).val % 8 * 128 + (i 1).val, by have : (i 1).val < 128 := (i 1).isLt; omega⟩
  else 0

end Cert.Expert

end
-- ==== Proof.Mix.lean ====
/- The experts' kernel: a block it leaves, element by element. -/
module

public import proofs.«01_k».proof.Proof.Kept
public import proofs.«01_k».proof.Proof.Spec
public import Idealize.ShloMosaic.Lib.Pointwise
public import Idealize.ShloMosaic.Lib.Pipeline.ValueKit

@[expose] public section

set_option maxRecDepth 16384
set_option maxHeartbeats 1000000

noncomputable section

namespace Cert.Kernel2Ideal.Ffn

open Cert.Kernel2Ideal.Gen
open Idealize.ShloMosaic Idealize.ShloMosaic.TcCoe Idealize.ShloMosaic.Tactic
open Idealize.SL Idealize.SL.Sem

theorem row0_apply (x : Vec Ideal S2048x128 .i32) (r : Fin 512) (c : Fin 128) : row0 x (ix2 r c) = x (ix2 ⟨4 * r.val + 0, by omega⟩ c) := by
  refine congrArg x (funext fun a => Fin.ext ?_)
  match a with
  | ⟨0, _⟩ => show 0 + 4 * r.val = 4 * r.val + 0; omega
  | ⟨1, _⟩ => show 0 + 1 * c.val = c.val; omega
theorem row1_apply (x : Vec Ideal S2048x128 .i32) (r : Fin 512) (c : Fin 128) : row1 x (ix2 r c) = x (ix2 ⟨4 * r.val + 1, by omega⟩ c) := by
  refine congrArg x (funext fun a => Fin.ext ?_)
  match a with
  | ⟨0, _⟩ => show 1 + 4 * r.val = 4 * r.val + 1; omega
  | ⟨1, _⟩ => show 0 + 1 * c.val = c.val; omega
theorem row2_apply (x : Vec Ideal S2048x128 .i32) (r : Fin 512) (c : Fin 128) : row2 x (ix2 r c) = x (ix2 ⟨4 * r.val + 2, by omega⟩ c) := by
  refine congrArg x (funext fun a => Fin.ext ?_)
  match a with
  | ⟨0, _⟩ => show 2 + 4 * r.val = 4 * r.val + 2; omega
  | ⟨1, _⟩ => show 0 + 1 * c.val = c.val; omega
theorem row3_apply (x : Vec Ideal S2048x128 .i32) (r : Fin 512) (c : Fin 128) : row3 x (ix2 r c) = x (ix2 ⟨4 * r.val + 3, by omega⟩ c) := by
  refine congrArg x (funext fun a => Fin.ext ?_)
  match a with
  | ⟨0, _⟩ => show 3 + 4 * r.val = 4 * r.val + 3; omega
  | ⟨1, _⟩ => show 0 + 1 * c.val = c.val; omega

/-- Value `k` of row `r` of a block of packed words. -/
def unp (x : Vec Ideal S2048x128 .i32) (r : Fin 512) (k : Fin 1024) : EReal :=
  if k.val < 512 then Cert.Expert.half (x (ix2 ⟨4 * r.val + k.val % 512 / 128, by omega⟩ ⟨k.val % 128, by omega⟩)) 0
  else Cert.Expert.half (x (ix2 ⟨4 * r.val + k.val % 512 / 128, by omega⟩ ⟨k.val % 128, by omega⟩)) 1

theorem half_low (x : Vec Ideal S2048x128 .i32) (r : Fin 512) (k : Fin 1024) (i : Fin 2048) (j : Fin 128)
    (hk : k.val < 512) (hi : i.val = 4 * r.val + k.val % 512 / 128) (hj : j.val = k.val % 128) :
    Ideal.ofBits .bf16 (BitVec.extractLsb' 0 16 (x (ix2 i j))) = unp x r k := by
  unfold unp Cert.Expert.half
  rw [if_pos hk]
  refine congrArg (fun z => Ideal.ofBits .bf16 (BitVec.extractLsb' 0 16 (x z))) ?_
  congr 1 <;> apply Fin.ext <;> assumption
theorem half_high (x : Vec Ideal S2048x128 .i32) (r : Fin 512) (k : Fin 1024) (i : Fin 2048) (j : Fin 128)
    (hk : ¬ k.val < 512) (hi : i.val = 4 * r.val + k.val % 512 / 128) (hj : j.val = k.val % 128) :
    Ideal.ofBits .bf16 (BitVec.extractLsb' 16 16 (x (ix2 i j))) = unp x r k := by
  unfold unp Cert.Expert.half
  rw [if_neg hk]
  refine congrArg (fun z => Ideal.ofBits .bf16 (BitVec.extractLsb' 16 16 (x z))) ?_
  congr 1 <;> apply Fin.ext <;> assumption

/-- The eight parts of a row, one beside the other. -/
def parts (a b d e : Vec Ideal S512x128 .i32) (r : Fin 512) (k : Fin 1024) : EReal :=
  let x := if k.val % 512 / 128 = 0 then a else if k.val % 512 / 128 = 1 then b else if k.val % 512 / 128 = 2 then d else e
  if k.val < 512 then Ideal.ofBits .bf16 (BitVec.extractLsb' 0 16 (x (ix2 r ⟨k.val % 128, by omega⟩)))
  else Ideal.ofBits .bf16 (BitVec.extractLsb' 16 16 (x (ix2 r ⟨k.val % 128, by omega⟩)))

theorem part_low (a b d e x : Vec Ideal S512x128 .i32) (r : Fin 512) (k : Fin 1024) (j : Fin 128) (hk : k.val < 512) (hj : j.val = k.val % 128)
    (hx : x = if k.val % 512 / 128 = 0 then a else if k.val % 512 / 128 = 1 then b else if k.val % 512 / 128 = 2 then d else e) :
    Ideal.ofBits .bf16 (BitVec.extractLsb' 0 16 (x (ix2 r j))) = parts a b d e r k := by
  have ej : j = ⟨k.val % 128, by omega⟩ := Fin.ext hj
  rw [ej]
  unfold parts
  rw [← hx]
  exact (if_pos hk).symm
theorem part_high (a b d e x : Vec Ideal S512x128 .i32) (r : Fin 512) (k : Fin 1024) (j : Fin 128) (hk : ¬ k.val < 512) (hj : j.val = k.val % 128)
    (hx : x = if k.val % 512 / 128 = 0 then a else if k.val % 512 / 128 = 1 then b else if k.val % 512 / 128 = 2 then d else e) :
    Ideal.ofBits .bf16 (BitVec.extractLsb' 16 16 (x (ix2 r j))) = parts a b d e r k := by
  have ej : j = ⟨k.val % 128, by omega⟩ := Fin.ext hj
  rw [ej]
  unfold parts
  rw [← hx]
  exact (if_neg hk).symm

theorem pay7_apply (a b d e : Vec Ideal S512x128 .i32) (w : Vec Ideal S1024x2048 .bf16) (r : Fin 512) (n : Fin 2048) :
    k0_pay7 a b d e w (ix2 r n) = ∑ k : Fin 1024, parts a b d e r k * w (ix2 k n) := by
  pointwise [k0_pay7]
  refine Finset.sum_congr rfl fun k _ => congrArg (· * _) ?_
  have := k.isLt
  split_ifs
  · exact part_low a b d e a r k _ (by omega) (by dsimp only; omega) (by rw [if_pos (by omega)])
  · exact part_low a b d e a r k _ (by omega) (by dsimp only; omega) (by rw [if_pos (by omega)])
  · exact part_low a b d e b r k _ (by omega) (by dsimp only; omega) (by rw [if_neg (by omega)]; rw [if_pos (by omega)])
  · exact part_low a b d e b r k _ (by omega) (by dsimp only; omega) (by rw [if_neg (by omega)]; rw [if_pos (by omega)])
  · exact part_low a b d e d r k _ (by omega) (by dsimp only; omega) (by rw [if_neg (by omega)]; rw [if_neg (by omega)]; rw [if_pos (by omega)])
  · exact part_low a b d e d r k _ (by omega) (by dsimp only; omega) (by rw [if_neg (by omega)]; rw [if_neg (by omega)]; rw [if_pos (by omega)])
  · exact part_low a b d e e r k _ (by omega) (by dsimp only; omega) (by rw [if_neg (by omega)]; rw [if_neg (by omega)]; rw [if_neg (by omega)]; skip)
  · exact part_low a b d e e r k _ (by omega) (by dsimp only; omega) (by rw [if_neg (by omega)]; rw [if_neg (by omega)]; rw [if_neg (by omega)]; skip)
  · exact part_high a b d e a r k _ (by omega) (by dsimp only; omega) (by rw [if_pos (by omega)])
  · exact part_high a b d e a r k _ (by omega) (by dsimp only; omega) (by rw [if_pos (by omega)])
  · exact part_high a b d e b r k _ (by omega) (by dsimp only; omega) (by rw [if_neg (by omega)]; rw [if_pos (by omega)])
  · exact part_high a b d e b r k _ (by omega) (by dsimp only; omega) (by rw [if_neg (by omega)]; rw [if_pos (by omega)])
  · exact part_high a b d e d r k _ (by omega) (by dsimp only; omega) (by rw [if_neg (by omega)]; rw [if_neg (by omega)]; rw [if_pos (by omega)])
  · exact part_high a b d e d r k _ (by omega) (by dsimp only; omega) (by rw [if_neg (by omega)]; rw [if_neg (by omega)]; rw [if_pos (by omega)])
  · exact part_high a b d e e r k _ (by omega) (by dsimp only; omega) (by rw [if_neg (by omega)]; rw [if_neg (by omega)]; rw [if_neg (by omega)]; skip)
  · exact part_high a b d e e r k _ (by omega) (by dsimp only; omega) (by rw [if_neg (by omega)]; rw [if_neg (by omega)]; rw [if_neg (by omega)]; skip)

theorem parts_rows (x : Vec Ideal S2048x128 .i32) (r : Fin 512) (k : Fin 1024) :
    parts (row0 x) (row1 x) (row2 x) (row3 x) r k = unp x r k := by
  have := k.isLt
  unfold parts
  dsimp only
  split_ifs with h0 h1 h2 h3
  · exact (congrArg (fun z => Ideal.ofBits .bf16 (BitVec.extractLsb' 0 16 z)) (row0_apply x r _)).trans (half_low x r k _ _ (by omega) (by dsimp only; omega) rfl)
  · exact (congrArg (fun z => Ideal.ofBits .bf16 (BitVec.extractLsb' 0 16 z)) (row1_apply x r _)).trans (half_low x r k _ _ (by omega) (by dsimp only; omega) rfl)
  · exact (congrArg (fun z => Ideal.ofBits .bf16 (BitVec.extractLsb' 0 16 z)) (row2_apply x r _)).trans (half_low x r k _ _ (by omega) (by dsimp only; omega) rfl)
  · exact (congrArg (fun z => Ideal.ofBits .bf16 (BitVec.extractLsb' 0 16 z)) (row3_apply x r _)).trans (half_low x r k _ _ (by omega) (by dsimp only; omega) rfl)
  · exact (congrArg (fun z => Ideal.ofBits .bf16 (BitVec.extractLsb' 16 16 z)) (row0_apply x r _)).trans (half_high x r k _ _ (by omega) (by dsimp only; omega) rfl)
  · exact (congrArg (fun z => Ideal.ofBits .bf16 (BitVec.extractLsb' 16 16 z)) (row1_apply x r _)).trans (half_high x r k _ _ (by omega) (by dsimp only; omega) rfl)
  · exact (congrArg (fun z => Ideal.ofBits .bf16 (BitVec.extractLsb' 16 16 z)) (row2_apply x r _)).trans (half_high x r k _ _ (by omega) (by dsimp only; omega) rfl)
  · exact (congrArg (fun z => Ideal.ofBits .bf16 (BitVec.extractLsb' 16 16 z)) (row3_apply x r _)).trans (half_high x r k _ _ (by omega) (by dsimp only; omega) rfl)

theorem upOf_apply (x : Vec Ideal S2048x128 .i32) (w : Vec Ideal S1024x2048 .bf16) (r : Fin 512) (n : Fin 2048) :
    upOf x w (ix2 r n) = ∑ k : Fin 1024, unp x r k * w (ix2 k n) :=
  (pay7_apply (row0 x) (row1 x) (row2 x) (row3 x) w r n).trans (Finset.sum_congr rfl fun k _ => congrArg (· * _) (parts_rows x r k))

theorem pay8_apply (u : FVec Ideal S512x2048 .f32) (x5 : Vec Ideal S1x1x2048 .f32) (y3 : Vec Ideal S1024x1024 .bf16) (x6 : Vec Ideal S1x1x1024 .f32) (r : Fin 512) (c : Fin 1024) :
    k0_pay8 u x5 y3 x6 (ix2 r c) = ∑ x : Fin 1024, Cert.Expert.hid (fun n => u (ix2 r n) + x5 (ix3 (0 : Fin 1) (0 : Fin 1) n)) x * y3 (ix2 x c) + x6 (ix3 (0 : Fin 1) (0 : Fin 1) c) := by
  pointwise [k0_pay8]
  rfl

theorem castU_apply (x : Vec Ideal S1024x2048 .f32) (k : Fin 1024) (n : Fin 2048) : castU x (ix2 k n) = x (ix2 k n) := by
  pointwise [castU, k0_pay5]
theorem castD_apply (x : Vec Ideal S1024x1024 .f32) (k : Fin 1024) (n : Fin 1024) : castD x (ix2 k n) = x (ix2 k n) := by
  pointwise [castD, k0_pay6]

/-- The output block as one function of the rows: row `8 r + q`, column `j`, is row `r`'s column `128 q + j`. -/
def blkOut (f : FVec Ideal S512x1024 .f32) : Vec Ideal S4096x128 .f32 := fun y =>
  f (ix2 ⟨(y 0).val / 8, by have : (y 0).val < 4096 := (y 0).isLt; omega⟩ ⟨(y 0).val % 8 * 128 + (y 1).val, by have : (y 1).val < 128 := (y 1).isLt; omega⟩)

theorem piece_eq (f : FVec Ideal S512x1024 .f32) (k : ℕ) (hk : k < 8) (inb) (g : S512x128.Idx → EReal)
    (hg : ∀ (r : Fin 512) (c : Fin 128), g (ix2 r c) = f (ix2 r ⟨k * 128 + c.val, by omega⟩)) (x : S512x128.Idx) :
    g x = blkOut f ((⟨(⟨![k, 0], S512x128.size, ![8, 1], inb⟩ : LoadRect S4096x128), spos_8_1⟩ : Rect S4096x128).emb x) := by
  have h0 : (x 0).val < 512 := (x 0).isLt
  have h1 : (x 1).val < 128 := (x 1).isLt
  obtain ⟨r, c, rfl⟩ : ∃ (r : Fin 512) (c : Fin 128), x = ix2 r c := ⟨x 0, x 1, by funext a; fin_cases a <;> rfl⟩
  rw [hg]
  unfold blkOut
  refine congrArg f ?_
  have e0 : ((⟨(⟨![k, 0], S512x128.size, ![8, 1], inb⟩ : LoadRect S4096x128), spos_8_1⟩ : Rect S4096x128).emb (ix2 r c) 0).val = k + 8 * r.val := rfl
  have e1 : ((⟨(⟨![k, 0], S512x128.size, ![8, 1], inb⟩ : LoadRect S4096x128), spos_8_1⟩ : Rect S4096x128).emb (ix2 r c) 1).val = 0 + 1 * c.val := rfl
  congr 1
  · apply Fin.ext; dsimp only; rw [e0]; omega
  · apply Fin.ext; dsimp only; rw [e0, e1]; omega

theorem outOf_eq (u : FVec Ideal S512x2048 .f32) (x5 : Vec Ideal S1x1x2048 .f32) (y3 : Vec Ideal S1024x1024 .bf16) (x6 : Vec Ideal S1x1x1024 .f32) :
    outOf u x5 y3 x6 = blkOut (k0_pay8 u x5 y3 x6) := by
  funext y
  unfold outOf
  refine View.canon_apply_of_pieces _ _ ?_ y (cover_pieces u x5 y3 x6 y)
  unfold pieces
  intro p hp
  simp only [List.mem_cons, List.not_mem_nil, or_false] at hp
  rcases hp with rfl | rfl | rfl | rfl | rfl | rfl | rfl | rfl
  · exact fun x => piece_eq _ 7 (by omega) _ _ (fun r c => by unfold k0_pay4; pointwise) x
  · exact fun x => piece_eq _ 6 (by omega) _ _ (fun r c => by unfold k0_pay3; pointwise) x
  · exact fun x => piece_eq _ 5 (by omega) _ _ (fun r c => by unfold k0_pay2; pointwise) x
  · exact fun x => piece_eq _ 4 (by omega) _ _ (fun r c => by unfold k0_pay13; pointwise) x
  · exact fun x => piece_eq _ 3 (by omega) _ _ (fun r c => by unfold k0_pay12; pointwise) x
  · exact fun x => piece_eq _ 2 (by omega) _ _ (fun r c => by unfold k0_pay11; pointwise) x
  · exact fun x => piece_eq _ 1 (by omega) _ _ (fun r c => by unfold k0_pay10; pointwise) x
  · exact fun x => piece_eq _ 0 (by omega) _ _ (fun r c => by unfold k0_pay9; pointwise) x

theorem srcU_apply (wu : Vec Ideal S32x1024x2048 .f32) (e : BitVec 32) (h : e.toNat < 32) (k : Fin 1024) (n : Fin 2048) :
    (srcU ![e.toNat, 0, 0] (offU h)).view.read (Elt Ideal) wu (ix2 k n) = wu (ix3 ⟨e.toNat, h⟩ k n) := by
  have es : (srcU ![e.toNat, 0, 0] (offU h)).view.emb (ix2 k n) = (Rect.unit (s := S32x1024x2048) ![e.toNat, 0, 0] S1x1024x2048.size (offU h)).emb (Fin.cons ⟨0, Nat.one_pos⟩ (ix2 k n)) := by
    show (((View.whole main_arg4).slice _).reshape S1024x2048 _).emb (ix2 k n) = _
    rw [View.emb_reshape, View.emb_slice, View.emb_whole]
    show (Rect.unit (s := S32x1024x2048) ![e.toNat, 0, 0] S1x1024x2048.size (offU h)).emb (Shape.reshapeEquiv _ (ix2 k n)) = _
    rw [Shape.reshapeEquiv_cons_one]
  refine congrArg wu (es.trans (funext fun a => Fin.ext ?_))
  match a with
  | ⟨0, _⟩ => show e.toNat + 1 * 0 = e.toNat; omega
  | ⟨1, _⟩ => show 0 + 1 * k.val = k.val; omega
  | ⟨2, _⟩ => show 0 + 1 * n.val = n.val; omega
theorem srcD_apply (wd : Vec Ideal S32x1024x1024 .f32) (e : BitVec 32) (h : e.toNat < 32) (k : Fin 1024) (n : Fin 1024) :
    (srcD ![e.toNat, 0, 0] (offD h)).view.read (Elt Ideal) wd (ix2 k n) = wd (ix3 ⟨e.toNat, h⟩ k n) := by
  have es : (srcD ![e.toNat, 0, 0] (offD h)).view.emb (ix2 k n) = (Rect.unit (s := S32x1024x1024) ![e.toNat, 0, 0] S1x1024x1024.size (offD h)).emb (Fin.cons ⟨0, Nat.one_pos⟩ (ix2 k n)) := by
    show (((View.whole main_arg6).slice _).reshape S1024x1024 _).emb (ix2 k n) = _
    rw [View.emb_reshape, View.emb_slice, View.emb_whole]
    show (Rect.unit (s := S32x1024x1024) ![e.toNat, 0, 0] S1x1024x1024.size (offD h)).emb (Shape.reshapeEquiv _ (ix2 k n)) = _
    rw [Shape.reshapeEquiv_cons_one]
  refine congrArg wd (es.trans (funext fun a => Fin.ext ?_))
  match a with
  | ⟨0, _⟩ => show e.toNat + 1 * 0 = e.toNat; omega
  | ⟨1, _⟩ => show 0 + 1 * k.val = k.val; omega
  | ⟨2, _⟩ => show 0 + 1 * n.val = n.val; omega

end Cert.Kernel2Ideal.Ffn

end
-- ==== Proof.Blocks.lean ====
/- The experts' kernel: the array it leaves. -/
module

public import proofs.«01_k».proof.Proof.Mix
public import Idealize.ShloMosaic.Lib.Pointwise
public import Idealize.ShloMosaic.Lib.Pipeline.ValueKit
public import Idealize.ShloMosaic.Lib.Pipeline.Covers

@[expose] public section

set_option maxRecDepth 16384
set_option maxHeartbeats 1000000

noncomputable section

namespace Cert.Kernel2Ideal.Ffn

open Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ) (hR : Routed (TB m) (TN m) (TX m))

theorem index0 (t : Fin (cfgR m hR).N) : ((cfgR m hR).win 0).index t = ![min t.val ((TN m at1).toNat - 1), 0] := by
  refine (rows_at m hR (grid0.coords t)).trans ?_
  rw [coord]
theorem index1 (t : Fin (cfgR m hR).N) : ((cfgR m hR).win 1).index t = ![(TB m (at288 t.val)).toNat, 0, 0] := by
  refine (up_at m (grid0.coords t)).trans ?_
  rw [coord]
theorem index2 (t : Fin (cfgR m hR).N) : ((cfgR m hR).win 2).index t = ![(TB m (at288 t.val)).toNat, 0, 0] := by
  refine (down_at m (grid0.coords t)).trans ?_
  rw [coord]
theorem index3 (t : Fin (cfgR m hR).N) : ((cfgR m hR).win 3).index t = ![t.val, 0] := by
  have e : ((cfgR m hR).win 3).index t = ![(BitVec.ofNat 32 (grid0.coords t 0).val).toNat, 0] := rfl
  rw [e, point_toNat, coord]

theorem in0_apply (c : Dev nD) (t : Fin (cfgR m hR).N) (ht : t.val < (TN m at1).toNat) (a : Fin 2048) (b : Fin 128) :
    in0 m hR c t (ix2 a b) = m ((c : Thread nD τ).loc main_arg3) (ix2 ⟨t.val * 2048 + a.val, by have : t.val < 288 := t.isLt; omega⟩ b) := by
  have : t.val < 288 := t.isLt
  have e := index0 m hR t
  have e0 := congrFun e (0 : Fin 2)
  have e1 := congrFun e (1 : Fin 2)
  show _ = V m c main_arg3 _
  blk_simp [in0, iblk]
  refine congrArg _ (funext fun j => Fin.ext ?_)
  match j with
  | ⟨0, _⟩ => refine (Pipeline.Window.rect_emb_val _ _ _ _).trans ?_; rw [e]; show min t.val ((TN m at1).toNat - 1) * 2048 + a.val = t.val * 2048 + a.val; rw [Nat.min_eq_left (by omega)]
  | ⟨1, _⟩ => refine (Pipeline.Window.rect_emb_val _ _ _ _).trans ?_; rw [e]; show 0 * 128 + b.val = b.val; omega

theorem in1_apply (c : Dev nD) (t : Fin (cfgR m hR).N) (e : Fin 32) (he : (TB m (at288 t.val)).toNat = e.val) (n : Fin 2048) :
    in1 m hR c t (ix3 (0 : Fin 1) (0 : Fin 1) n) = m ((c : Thread nD τ).loc main_arg5) (ix3 e (0 : Fin 1) n) := by
  have : t.val < 288 := t.isLt
  show _ = V m c main_arg5 _
  blk_simp [in1, iblk]
  blk_ext [index1 m hR t]

theorem in2_apply (c : Dev nD) (t : Fin (cfgR m hR).N) (e : Fin 32) (he : (TB m (at288 t.val)).toNat = e.val) (n : Fin 1024) :
    in2 m hR c t (ix3 (0 : Fin 1) (0 : Fin 1) n) = m ((c : Thread nD τ).loc main_arg7) (ix3 e (0 : Fin 1) n) := by
  have : t.val < 288 := t.isLt
  show _ = V m c main_arg7 _
  blk_simp [in2, iblk]
  blk_ext [index2 m hR t]

theorem covers3 : ((cfgR m hR).win 3).Covers :=
  ((cfgR m hR).win 3).covers_of_indexMap_surj rfl (by intro a; match a with | ⟨0, _⟩ => exact (by decide : 0 < 4096) | ⟨1, _⟩ => exact (by decide : 0 < 128)) fun β => by
    have z0 : 0 < 2 := by decide
    have z1 : 1 < 2 := by decide
    have h0 : (β ⟨0, z0⟩).val < 288 := lt_of_lt_of_eq (β ⟨0, z0⟩).isLt (show (1179648 + 4096 - 1) / 4096 = 288 by decide)
    have h1 : (β ⟨1, z1⟩).val < 1 := lt_of_lt_of_eq (β ⟨1, z1⟩).isLt (show (128 + 128 - 1) / 128 = 1 by decide)
    refine ⟨fun | ⟨0, _⟩ => ⟨(β ⟨0, z0⟩).val, h0⟩, fun a => ?_⟩
    match a with
    | ⟨0, _⟩ => show (BitVec.ofNat 32 (β ⟨0, z0⟩).val).toNat = _; rw [BitVec.toNat_ofNat]; omega
    | ⟨1, _⟩ => show 0 = _; omega

theorem unp_in0 (c : Dev nD) (t : Fin (cfgR m hR).N) (ht : t.val < (TN m at1).toNat) (r : Fin 512) (k : Fin 1024) :
    unp (in0 m hR c t) r k = Cert.Expert.row (m ((c : Thread nD τ).loc main_arg3)) ⟨t.val, t.isLt⟩ r k := by
  have : t.val < 288 := t.isLt
  unfold unp Cert.Expert.row
  rw [in0_apply m hR c t ht]
  have e : (⟨t.val * 2048 + (4 * r.val + k.val % 512 / 128), by omega⟩ : Fin 589824) = ⟨t.val * 2048 + r.val * 4 + k.val % 512 / 128, by omega⟩ :=
    Fin.ext (by dsimp only; omega)
  rw [e]

theorem upIn_eq (c : Dev nD) (t : Fin (cfgR m hR).N) (ht : t.val < (TN m at1).toNat) (e : Fin 32) (he : (TB m (at288 t.val)).toNat = e.val)
    (hl : (TB m (at288 t.val)).toNat < 32) (r : Fin 512) (n : Fin 2048) :
    upOf (in0 m hR c t) (upW c (V m c main_arg4) (TB m (at288 t.val)) hl) (ix2 r n) + in1 m hR c t (ix3 (0 : Fin 1) (0 : Fin 1) n)
      = Cert.Expert.up (m ((c : Thread nD τ).loc main_arg3)) (m ((c : Thread nD τ).loc main_arg4)) (m ((c : Thread nD τ).loc main_arg5)) ⟨t.val, t.isLt⟩ r e n := by
  obtain rfl : e = ⟨(TB m (at288 t.val)).toNat, hl⟩ := Fin.ext he.symm
  rw [upOf_apply, in1_apply m hR c t ⟨(TB m (at288 t.val)).toNat, hl⟩ rfl]
  unfold Cert.Expert.up
  refine congrArg (· + _) (Finset.sum_congr rfl fun k _ => ?_)
  rw [unp_in0 m hR c t ht]
  refine congrArg (HMul.hMul (α := EReal) (β := EReal) (γ := EReal) _) ?_
  unfold upW
  rw [castU_apply]
  exact srcU_apply (V m c main_arg4) _ hl k n

theorem outs_apply (c : Dev nD) (t : Fin (cfgR m hR).N) (y : S4096x128.Idx) (e : Fin 32) (he : (TB m (at288 t.val)).toNat = e.val)
    (r : Fin 512) (n : Fin 1024) (hr : r.val = (y 0).val / 8) (hn : n.val = (y 0).val % 8 * 128 + (y 1).val) :
    outs m hR c t y = if t.val < (TN m at1).toNat then
      Cert.Expert.out (m ((c : Thread nD τ).loc main_arg3)) (m ((c : Thread nD τ).loc main_arg4)) (m ((c : Thread nD τ).loc main_arg5)) (m ((c : Thread nD τ).loc main_arg6)) (m ((c : Thread nD τ).loc main_arg7)) ⟨t.val, t.isLt⟩ r e n else 0 := by
  unfold outs outAt
  by_cases ht : t.val < (TN m at1).toNat
  · rw [if_pos ht, if_pos ht, outOf_eq]
    have hl := hR.lt t.val
    have hy : blkOut (k0_pay8 (upOf (in0 m hR c t) (upW c (V m c main_arg4) (TB m (at288 t.val)) hl)) (in1 m hR c t)
        (downW c (V m c main_arg6) (TB m (at288 t.val)) hl) (in2 m hR c t)) y
        = k0_pay8 (upOf (in0 m hR c t) (upW c (V m c main_arg4) (TB m (at288 t.val)) hl)) (in1 m hR c t)
          (downW c (V m c main_arg6) (TB m (at288 t.val)) hl) (in2 m hR c t) (ix2 r n) := by
      unfold blkOut
      congr 1
      congr 1 <;> apply Fin.ext <;> dsimp only
      · exact hr.symm
      · exact hn.symm
    refine hy.trans ?_
    rw [pay8_apply]
    unfold Cert.Expert.out
    rw [show (fun n => upOf (in0 m hR c t) (upW c (V m c main_arg4) (TB m (at288 t.val)) hl) (ix2 r n) + in1 m hR c t (ix3 (0 : Fin 1) (0 : Fin 1) n))
      = Cert.Expert.up (m ((c : Thread nD τ).loc main_arg3)) (m ((c : Thread nD τ).loc main_arg4)) (m ((c : Thread nD τ).loc main_arg5)) ⟨t.val, t.isLt⟩ r e from funext fun n => upIn_eq m hR c t ht e he hl r n,
      in2_apply m hR c t e he]
    refine congrArg (· + _) (Finset.sum_congr rfl fun k _ => congrArg (HMul.hMul (α := EReal) (β := EReal) (γ := EReal) _) ?_)
    obtain rfl : e = ⟨(TB m (at288 t.val)).toNat, hl⟩ := Fin.ext he.symm
    unfold downW
    rw [castD_apply]
    exact srcD_apply (V m c main_arg6) _ hl k n
  · rw [if_neg ht, if_neg ht]
    show Ideal.ofBits .f32 0#32 = 0
    simp [Ideal.ofBits, Ideal.ieee]

theorem point_eq (c : Dev nD) (t : Fin (cfgR m hR).N) (y : S4096x128.Idx) (z : S1179648x128.Idx)
    (h0 : (z 0).val = t.val * 4096 + (y 0).val) (h1 : (z 1).val = (y 1).val) :
    outs m hR c t y = Cert.Expert.result (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) z := by
  have y0 : (y 0).val < 4096 := (y 0).isLt
  have y1 : (y 1).val < 128 := (y 1).isLt
  have z0 : (z 0).val < 1179648 := (z 0).isLt
  have ht : t.val < 288 := t.isLt
  have et : (⟨(z 0).val / 4096, by omega⟩ : Fin 288) = ⟨t.val, ht⟩ := Fin.ext (by dsimp only; omega)
  obtain rfl : c = 0 := Subsingleton.elim _ _
  have eB : TB m (at288 t.val) = m (((0 : Dev nD) : Thread nD τ).loc main_arg0) (ix1 (⟨(z 0).val / 4096, by omega⟩ : Fin 288)) := by
    rw [et]
    refine congrArg (TB m) (funext fun a => Fin.ext ?_)
    match a with
    | ⟨0, _⟩ => show min t.val 287 = t.val; omega
  have eN : TN m at1 = m (((0 : Dev nD) : Thread nD τ).loc main_arg1) (ix1 (0 : Fin 1)) := by
    refine congrArg (TN m) (funext fun a => Fin.ext ?_)
    match a with
    | ⟨0, _⟩ => rfl
  have hl := hR.lt t.val
  have e0 : (z 0).val / 4096 = t.val := by omega
  refine (outs_apply m hR 0 t y ⟨(m (((0 : Dev nD) : Thread nD τ).loc main_arg0) (ix1 (⟨(z 0).val / 4096, by omega⟩ : Fin 288))).toNat % 32, by omega⟩
    (by rw [eB] at hl ⊢; exact (Nat.mod_eq_of_lt hl).symm) ⟨(z 0).val / 8 % 512, by omega⟩ ⟨(z 0).val % 8 * 128 + (z 1).val, by omega⟩
    (by dsimp only; omega) (by dsimp only; omega)).trans ?_
  unfold Cert.Expert.result
  by_cases hu : t.val < (TN m at1).toNat
  · rw [if_pos hu]
    refine Eq.trans ?_ (if_pos (by rw [← eN, e0]; exact hu)).symm
    exact congrArg (fun q => Cert.Expert.out _ _ _ _ _ q _ _ _) et.symm
  · rw [if_neg hu]
    exact (if_neg (by rw [← eN, e0]; exact hu)).symm

theorem final (c : Dev nD) : (dats m hR 0 c).arrAt 3 (cfgR m hR).N
    = Cert.Expert.result (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m hR 0 c).arrAt_eq_of_covers 3 _ (covers3 m hR) fun t hf y => ?_
  refine (point_eq m hR c t y (((((cfgR m hR).win 3).blk t).view.emb y)) ?_ ?_)
  · refine (Pipeline.Window.rect_emb_val _ _ _ _).trans ?_
    rw [index3 m hR t]
    rfl
  · refine (Pipeline.Window.rect_emb_val _ _ _ _).trans ?_
    rw [index3 m hR t]
    exact Nat.zero_add _

end Cert.Kernel2Ideal.Ffn

end
-- ==== Proof.Rows.lean ====
/- The experts' reference, element by element. -/
module

public import proofs.«01_k».proof.Proof.Gen.Reference2Ideal.Run
public import Idealize.ShloMosaic.Lib.Pointwise
public import Idealize.ShloMosaic.Lib.BitcastConvert
public import proofs.«01_k».proof.Proof.Spec
public import Idealize.ShloMosaic.Lib.WordCmp
public import Idealize.ShloMosaic.Lib.Affine

@[expose] public section

set_option maxRecDepth 16384
set_option maxHeartbeats 1000000

noncomputable section

namespace Cert.Reference2Ideal.Ffn

open Cert.Reference2Ideal Cert.Reference2Ideal.Gen Facts
open Idealize.ShloMosaic Idealize.ShloMosaic.TcCoe Idealize.ShloMosaic.Tactic Idealize.SL.Sem

/-- Each block's expert, as the reference indexes by it. -/
def refI (A0 : IVec S288 32) : IVec S288x1 32 :=
  (broadcastInDim S288x1 ![0] bcast_S288_S288x1_0 (select (cmpi .slt A0 (broadcastInDim S288 ![] bcast_S_S288 (constantI S_ 32 0#32))) (addi A0 (broadcastInDim S288 ![] bcast_S_S288 (constantI S_ 32 32#32))) A0))

/-- The halves of the packed words. -/
def refW (A3 : IVec S589824x128 32) : FVec Ideal S288x512x512x2 .bf16 :=
  (bitcastToFloat (F := Ideal) .bf16 (Host.bitcastConvertNarrow S288x512x512x2 16 (shapeCast _ A3 shapeCasts_S589824x128_S288x512x512) splits_S288x512x512_w32_S288x512x512x2_w16))

/-- The unpacked rows. -/
def refX (A3 : IVec S589824x128 32) : FVec Ideal S288x512x1024 .f32 :=
  (extf .f32 (concatenate S288x512x1024 2 [⟨S288x512x512, (shapeCast _ (extractStridedSlice S288x512x512x1 ![0, 0, 0, 0] (refW A3) slices_S288x512x512x2_S288x512x512x1_0_0_0_0) shapeCasts_S288x512x512x1_S288x512x512)⟩, ⟨S288x512x512, (shapeCast _ (extractStridedSlice S288x512x512x1 ![0, 0, 0, 1] (refW A3) slices_S288x512x512x2_S288x512x512x1_0_0_0_1) shapeCasts_S288x512x512x1_S288x512x512)⟩] concatenates_S288x512x512_S288x512x512_S288x512x1024_d2) bitsLt_bf16_f32)

/-- The first product with its bias. -/
def refUp (A0 : IVec S288 32) (A3 : IVec S589824x128 32) (A4 : FVec Ideal S32x1024x2048 .f32) (A5 : FVec Ideal S32x1x2048 .f32) : FVec Ideal S288x512x2048 .f32 :=
  (addf (Host.dotGeneral dot_S288x512x1024_S288x1024x2048_S288x512x2048_2_1_1_2_0_0 none (refX A3) (Host.gather gather_S32x1024x2048_S288x1_S288x1024x2048_12_0_n_n_0_1_110242048 A4 (refI A0))) (broadcastInDim S288x512x2048 ![0, 1, 2] bcast_S288x1x2048_S288x512x2048_0_1_2 (Host.gather gather_S32x1x2048_S288x1_S288x1x2048_12_0_n_n_0_1_112048 A5 (refI A0))))

/-- The gated values between the two products. -/
def refHid (U : FVec Ideal S288x512x2048 .f32) : FVec Ideal S288x512x1024 .f32 :=
  (mulf (mulf (minimumf (extractStridedSlice S288x512x1024 ![0, 0, 0] U slices_S288x512x2048_S288x512x1024_0_0_0) (broadcastInDim S288x512x1024 ![] bcast_S_S288x512x1024 (constant S_ .f32 0x40E00000#32))) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] U slices_S288x512x2048_S288x512x1024_0_0_0) (broadcastInDim S288x512x1024 ![] bcast_S_S288x512x1024 (constant S_ .f32 0x40E00000#32))))))))) (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] U slices_S288x512x2048_S288x512x1024_0_0_1024))) (broadcastInDim S288x512x1024 ![] bcast_S_S288x512x1024 (constant S_ .f32 0x3F800000#32))))

/-- The reference's result. -/
def refOut (A0 : IVec S288 32) (A1 : IVec S1 32) (A3 : IVec S589824x128 32) (A4 : FVec Ideal S32x1024x2048 .f32) (A5 : FVec Ideal S32x1x2048 .f32)
    (A6 : FVec Ideal S32x1024x1024 .f32) (A7 : FVec Ideal S32x1x1024 .f32) : FVec Ideal S1179648x128 .f32 :=
  shapeCast _ (select (broadcastInDim S288x512x1024 ![0, 1, 2] bcast_S288x1x1_S288x512x1024_0_1_2 (cmpi .slt (broadcastInDim S288x1x1 ![0] bcast_S288_S288x1x1_0 (iotaInDim S288 32 0)) (broadcastInDim S288x1x1 ![] bcast_S_S288x1x1 (shapeCast _ A1 shapeCasts_S1_S_)))) (addf (Host.dotGeneral dot_S288x512x1024_S288x1024x1024_S288x512x1024_2_1_1_2_0_0 none (refHid (refUp A0 A3 A4 A5)) (Host.gather gather_S32x1024x1024_S288x1_S288x1024x1024_12_0_n_n_0_1_110241024 A6 (refI A0))) (broadcastInDim S288x512x1024 ![0, 1, 2] bcast_S288x1x1024_S288x512x1024_0_1_2 (Host.gather gather_S32x1x1024_S288x1_S288x1x1024_12_0_n_n_0_1_111024 A7 (refI A0)))) (broadcastInDim S288x512x1024 ![] bcast_S_S288x512x1024 (id (constant S_ .f32 0x00000000#32)))) shapeCasts_S288x512x1024_S1179648x128

/-- The run's result term is that function of the arguments. -/
theorem res_eq (m : (ℓ : Loc nD τ sig) → Buf (Elt Ideal) ℓ) (c : Dev nD) :
    Value.res_main_v65 m c = refOut (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Value.res_main_v65; rfl

/-- The gather of an expert's rows, at an index. -/
theorem gatherU (x : FVec Ideal S32x1024x2048 .f32) (idx : IVec S288x1 32) (t : Fin 288) (a : Fin 1024) (b : Fin 2048) (e : Fin 32)
    (he : min (idx (ix2 t (0 : Fin 1))).toInt.toNat 31 = e.val) :
    Host.gather gather_S32x1024x2048_S288x1_S288x1024x2048_12_0_n_n_0_1_110242048 x idx (ix3 t a b) = x (ix3 e a b) := by
  unfold Host.gather
  refine congrArg x (funext fun k => Fin.ext ?_)
  show gather_S32x1024x2048_S288x1_S288x1024x2048_12_0_n_n_0_1_110242048.start (ix3 t a b) idx k + gather_S32x1024x2048_S288x1_S288x1024x2048_12_0_n_n_0_1_110242048.batchCoord (ix3 t a b) k + gather_S32x1024x2048_S288x1_S288x1024x2048_12_0_n_n_0_1_110242048.offCoord (ix3 t a b) k = _
  rw [GatherDims.batchCoord_eq_zero _ _ _ List.not_mem_nil]
  match k with
  | ⟨0, hk⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, hk⟩ : Fin 3) ∈ gather_S32x1024x2048_S288x1_S288x1024x2048_12_0_n_n_0_1_110242048.startIndexMap from List.mem_singleton.mpr rfl)]
    have hsi : gather_S32x1024x2048_S288x1_S288x1024x2048_12_0_n_n_0_1_110242048.siIdx (ix3 t a b) ⟨List.idxOf (⟨0, hk⟩ : Fin 3) gather_S32x1024x2048_S288x1_S288x1024x2048_12_0_n_n_0_1_110242048.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    refine Eq.trans ?_ he
    rw [hsi]
    rfl
  | ⟨1, hk⟩ =>
    unfold GatherDims.start
    rw [dif_neg (show ¬ (⟨1, hk⟩ : Fin 3) ∈ gather_S32x1024x2048_S288x1_S288x1024x2048_12_0_n_n_0_1_110242048.startIndexMap from fun h => absurd (congrArg Fin.val (List.mem_singleton.mp h)) (show ¬ (1 : ℕ) = 0 by decide))]
    show 0 + 0 + a.val = a.val
    omega
  | ⟨2, hk⟩ =>
    unfold GatherDims.start
    rw [dif_neg (show ¬ (⟨2, hk⟩ : Fin 3) ∈ gather_S32x1024x2048_S288x1_S288x1024x2048_12_0_n_n_0_1_110242048.startIndexMap from fun h => absurd (congrArg Fin.val (List.mem_singleton.mp h)) (show ¬ (2 : ℕ) = 0 by decide))]
    show 0 + 0 + b.val = b.val
    omega

/-- The gather of an expert's rows, at an index. -/
theorem gatherBU (x : FVec Ideal S32x1x2048 .f32) (idx : IVec S288x1 32) (t : Fin 288) (a : Fin 1) (b : Fin 2048) (e : Fin 32)
    (he : min (idx (ix2 t (0 : Fin 1))).toInt.toNat 31 = e.val) :
    Host.gather gather_S32x1x2048_S288x1_S288x1x2048_12_0_n_n_0_1_112048 x idx (ix3 t a b) = x (ix3 e a b) := by
  unfold Host.gather
  refine congrArg x (funext fun k => Fin.ext ?_)
  show gather_S32x1x2048_S288x1_S288x1x2048_12_0_n_n_0_1_112048.start (ix3 t a b) idx k + gather_S32x1x2048_S288x1_S288x1x2048_12_0_n_n_0_1_112048.batchCoord (ix3 t a b) k + gather_S32x1x2048_S288x1_S288x1x2048_12_0_n_n_0_1_112048.offCoord (ix3 t a b) k = _
  rw [GatherDims.batchCoord_eq_zero _ _ _ List.not_mem_nil]
  match k with
  | ⟨0, hk⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, hk⟩ : Fin 3) ∈ gather_S32x1x2048_S288x1_S288x1x2048_12_0_n_n_0_1_112048.startIndexMap from List.mem_singleton.mpr rfl)]
    have hsi : gather_S32x1x2048_S288x1_S288x1x2048_12_0_n_n_0_1_112048.siIdx (ix3 t a b) ⟨List.idxOf (⟨0, hk⟩ : Fin 3) gather_S32x1x2048_S288x1_S288x1x2048_12_0_n_n_0_1_112048.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    refine Eq.trans ?_ he
    rw [hsi]
    rfl
  | ⟨1, hk⟩ =>
    unfold GatherDims.start
    rw [dif_neg (show ¬ (⟨1, hk⟩ : Fin 3) ∈ gather_S32x1x2048_S288x1_S288x1x2048_12_0_n_n_0_1_112048.startIndexMap from fun h => absurd (congrArg Fin.val (List.mem_singleton.mp h)) (show ¬ (1 : ℕ) = 0 by decide))]
    show 0 + 0 + a.val = a.val
    omega
  | ⟨2, hk⟩ =>
    unfold GatherDims.start
    rw [dif_neg (show ¬ (⟨2, hk⟩ : Fin 3) ∈ gather_S32x1x2048_S288x1_S288x1x2048_12_0_n_n_0_1_112048.startIndexMap from fun h => absurd (congrArg Fin.val (List.mem_singleton.mp h)) (show ¬ (2 : ℕ) = 0 by decide))]
    show 0 + 0 + b.val = b.val
    omega

/-- The gather of an expert's rows, at an index. -/
theorem gatherD (x : FVec Ideal S32x1024x1024 .f32) (idx : IVec S288x1 32) (t : Fin 288) (a : Fin 1024) (b : Fin 1024) (e : Fin 32)
    (he : min (idx (ix2 t (0 : Fin 1))).toInt.toNat 31 = e.val) :
    Host.gather gather_S32x1024x1024_S288x1_S288x1024x1024_12_0_n_n_0_1_110241024 x idx (ix3 t a b) = x (ix3 e a b) := by
  unfold Host.gather
  refine congrArg x (funext fun k => Fin.ext ?_)
  show gather_S32x1024x1024_S288x1_S288x1024x1024_12_0_n_n_0_1_110241024.start (ix3 t a b) idx k + gather_S32x1024x1024_S288x1_S288x1024x1024_12_0_n_n_0_1_110241024.batchCoord (ix3 t a b) k + gather_S32x1024x1024_S288x1_S288x1024x1024_12_0_n_n_0_1_110241024.offCoord (ix3 t a b) k = _
  rw [GatherDims.batchCoord_eq_zero _ _ _ List.not_mem_nil]
  match k with
  | ⟨0, hk⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, hk⟩ : Fin 3) ∈ gather_S32x1024x1024_S288x1_S288x1024x1024_12_0_n_n_0_1_110241024.startIndexMap from List.mem_singleton.mpr rfl)]
    have hsi : gather_S32x1024x1024_S288x1_S288x1024x1024_12_0_n_n_0_1_110241024.siIdx (ix3 t a b) ⟨List.idxOf (⟨0, hk⟩ : Fin 3) gather_S32x1024x1024_S288x1_S288x1024x1024_12_0_n_n_0_1_110241024.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    refine Eq.trans ?_ he
    rw [hsi]
    rfl
  | ⟨1, hk⟩ =>
    unfold GatherDims.start
    rw [dif_neg (show ¬ (⟨1, hk⟩ : Fin 3) ∈ gather_S32x1024x1024_S288x1_S288x1024x1024_12_0_n_n_0_1_110241024.startIndexMap from fun h => absurd (congrArg Fin.val (List.mem_singleton.mp h)) (show ¬ (1 : ℕ) = 0 by decide))]
    show 0 + 0 + a.val = a.val
    omega
  | ⟨2, hk⟩ =>
    unfold GatherDims.start
    rw [dif_neg (show ¬ (⟨2, hk⟩ : Fin 3) ∈ gather_S32x1024x1024_S288x1_S288x1024x1024_12_0_n_n_0_1_110241024.startIndexMap from fun h => absurd (congrArg Fin.val (List.mem_singleton.mp h)) (show ¬ (2 : ℕ) = 0 by decide))]
    show 0 + 0 + b.val = b.val
    omega

/-- The gather of an expert's rows, at an index. -/
theorem gatherBD (x : FVec Ideal S32x1x1024 .f32) (idx : IVec S288x1 32) (t : Fin 288) (a : Fin 1) (b : Fin 1024) (e : Fin 32)
    (he : min (idx (ix2 t (0 : Fin 1))).toInt.toNat 31 = e.val) :
    Host.gather gather_S32x1x1024_S288x1_S288x1x1024_12_0_n_n_0_1_111024 x idx (ix3 t a b) = x (ix3 e a b) := by
  unfold Host.gather
  refine congrArg x (funext fun k => Fin.ext ?_)
  show gather_S32x1x1024_S288x1_S288x1x1024_12_0_n_n_0_1_111024.start (ix3 t a b) idx k + gather_S32x1x1024_S288x1_S288x1x1024_12_0_n_n_0_1_111024.batchCoord (ix3 t a b) k + gather_S32x1x1024_S288x1_S288x1x1024_12_0_n_n_0_1_111024.offCoord (ix3 t a b) k = _
  rw [GatherDims.batchCoord_eq_zero _ _ _ List.not_mem_nil]
  match k with
  | ⟨0, hk⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, hk⟩ : Fin 3) ∈ gather_S32x1x1024_S288x1_S288x1x1024_12_0_n_n_0_1_111024.startIndexMap from List.mem_singleton.mpr rfl)]
    have hsi : gather_S32x1x1024_S288x1_S288x1x1024_12_0_n_n_0_1_111024.siIdx (ix3 t a b) ⟨List.idxOf (⟨0, hk⟩ : Fin 3) gather_S32x1x1024_S288x1_S288x1x1024_12_0_n_n_0_1_111024.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    refine Eq.trans ?_ he
    rw [hsi]
    rfl
  | ⟨1, hk⟩ =>
    unfold GatherDims.start
    rw [dif_neg (show ¬ (⟨1, hk⟩ : Fin 3) ∈ gather_S32x1x1024_S288x1_S288x1x1024_12_0_n_n_0_1_111024.startIndexMap from fun h => absurd (congrArg Fin.val (List.mem_singleton.mp h)) (show ¬ (1 : ℕ) = 0 by decide))]
    show 0 + 0 + a.val = a.val
    omega
  | ⟨2, hk⟩ =>
    unfold GatherDims.start
    rw [dif_neg (show ¬ (⟨2, hk⟩ : Fin 3) ∈ gather_S32x1x1024_S288x1_S288x1x1024_12_0_n_n_0_1_111024.startIndexMap from fun h => absurd (congrArg Fin.val (List.mem_singleton.mp h)) (show ¬ (2 : ℕ) = 0 by decide))]
    show 0 + 0 + b.val = b.val
    omega

theorem refI_apply (A0 : IVec S288 32) (t : Fin 288) (e : Fin 32) (he : (A0 (ix1 t)).toNat = e.val) :
    min (refI A0 (ix2 t (0 : Fin 1))).toInt.toNat 31 = e.val := by
  have hi : (A0 (ix1 t)).toInt = (A0 (ix1 t)).toNat := WordCmp.toInt_eq_toNat_of_lt_half (by omega)
  have es : refI A0 (ix2 t (0 : Fin 1)) = A0 (ix1 t) := by
    pointwise [refI]
    refine if_neg fun hh => ?_
    have h2 := IntOp.cmpi_slt.1 hh
    rw [hi] at h2
    exact absurd h2 (by show ¬ ((A0 (ix1 t)).toNat : ℤ) < 0; omega)
  rw [es, hi]
  show min ((A0 (ix1 t)).toNat : ℤ).toNat 31 = e.val
  omega

theorem refX_apply (A3 : IVec S589824x128 32) (t : Fin 288) (r : Fin 512) (j : Fin 1024) : refX A3 (ix3 t r j) = Cert.Expert.row A3 t r j := by
  pointwise [refX, refW]
  unfold Cert.Expert.row Cert.Expert.half
  split <;> rename_i h
  · refine congrArg (fun z => Ideal.ofBits .bf16 (BitVec.extractLsb' 0 16 (A3 z))) ?_
    congr 1 <;> apply Fin.ext <;> dsimp only <;> omega
  · refine congrArg (fun z => Ideal.ofBits .bf16 (BitVec.extractLsb' 16 16 (A3 z))) ?_
    congr 1 <;> apply Fin.ext <;> dsimp only <;> omega

theorem refUp_apply (A0 : IVec S288 32) (A3 : IVec S589824x128 32) (A4 : FVec Ideal S32x1024x2048 .f32) (A5 : FVec Ideal S32x1x2048 .f32) (t : Fin 288) (r : Fin 512) (n : Fin 2048)
    (e : Fin 32) (he : (A0 (ix1 t)).toNat = e.val) :
    refUp A0 A3 A4 A5 (ix3 t r n) = Cert.Expert.up A3 A4 A5 t r e n := by
  pointwise [refUp]
  unfold Cert.Expert.up
  rw [gatherBU _ _ _ _ _ e (refI_apply A0 t e he)]
  refine congrArg (· + _) (Finset.sum_congr rfl fun x _ => ?_)
  rw [gatherU _ _ _ _ _ e (refI_apply A0 t e he), refX_apply]

theorem refHid_apply (U : FVec Ideal S288x512x2048 .f32) (t : Fin 288) (r : Fin 512) (j : Fin 1024) :
    refHid U (ix3 t r j) = Cert.Expert.hid (fun n => U (ix3 t r n)) j := by
  pointwise [refHid]
  rfl

theorem refOut_apply (A0 : IVec S288 32) (A1 : IVec S1 32) (A3 : IVec S589824x128 32) (A4 : FVec Ideal S32x1024x2048 .f32) (A5 : FVec Ideal S32x1x2048 .f32)
    (A6 : FVec Ideal S32x1024x1024 .f32) (A7 : FVec Ideal S32x1x1024 .f32) (i : Fin 1179648) (j : Fin 128)
    (e : Fin 32) (he : (A0 (ix1 (⟨i.val / 4096, by omega⟩ : Fin 288))).toNat = e.val) (hN : (A1 (ix1 (0 : Fin 1))).toNat ≤ 288) :
    refOut A0 A1 A3 A4 A5 A6 A7 (ix2 i j)
      = if i.val / 4096 < (A1 (ix1 (0 : Fin 1))).toNat then
          Cert.Expert.out A3 A4 A5 A6 A7 ⟨i.val / 4096, by omega⟩ ⟨i.val / 8 % 512, by omega⟩ e ⟨i.val % 8 * 128 + j.val, by omega⟩
        else 0 := by
  pointwise [refOut]
  have hb : IntOp.cmpi CmpIPredicate.slt (BitVec.ofNat 32 (i.val / 4096)) (A1 (ix1 (0 : Fin 1))) = 1#1 ↔ i.val / 4096 < (A1 (ix1 (0 : Fin 1))).toNat := by
    have hn : (BitVec.ofNat 32 (i.val / 4096)).toNat = i.val / 4096 := by rw [BitVec.toNat_ofNat]; omega
    rw [IntOp.cmpi_slt, WordCmp.toInt_eq_toNat_of_lt_half (x := BitVec.ofNat 32 (i.val / 4096)) (by rw [hn]; omega),
      WordCmp.toInt_eq_toNat_of_lt_half (x := A1 (ix1 (0 : Fin 1))) (by omega), hn]
    omega
  by_cases hu : i.val / 4096 < (A1 (ix1 (0 : Fin 1))).toNat
  · rw [if_pos hu]
    refine (if_pos (hb.2 hu)).trans ?_
    unfold Cert.Expert.out
    rw [gatherBD _ _ _ _ _ e (refI_apply A0 _ e he)]
    refine congrArg (· + _) (Finset.sum_congr rfl fun x _ => ?_)
    rw [gatherD _ _ _ _ _ e (refI_apply A0 _ e he), refHid_apply]
    refine congrArg (· * _) (congrArg (fun g => Cert.Expert.hid g x) (funext fun n => ?_))
    exact refUp_apply A0 A3 A4 A5 _ _ n e he
  · rw [if_neg hu]
    refine (if_neg fun h => hu (hb.1 h)).trans ?_
    show Ideal.ofBits .f32 0#32 = 0
    simp [Ideal.ofBits, Ideal.ieee]

end Cert.Reference2Ideal.Ffn

end
-- ==== Proof.Decode.lean ====
/- The routing's precondition, read: what it says of the three tables. -/
module

public import proofs.«01_k».proof.Pre_routed
public import Idealize.ShloMosaic.Lib.ReduceAll
public import Idealize.ShloMosaic.Lib.Affine
public import Idealize.ShloMosaic.Lib.Pointwise
public import Idealize.ShloMosaic.Lib.WordCmp
public import Idealize.ShloMosaic.Lib.ValueIdxCore

@[expose] public section

set_option maxRecDepth 16384

noncomputable section

namespace Cert.Pre_routed

open Idealize.ShloMosaic Idealize.ShloMosaic.Tactic

instance : Subsingleton S_.Idx := ⟨fun a b => funext fun i => i.elim0⟩

variable [Facts]
open Facts

/-- The gather of a table of 32 at 288 indices, at an index. -/
theorem gather_apply (x : IVec S32 32) (idx : IVec S288x1 32) (y : S288.Idx) :
    Host.gather gather_S32_S288x1_S288_n_0_n_n_0_1_1 x idx y
      = x (ix1 (⟨min (idx (ix2 (y 0 : Fin 288) (0 : Fin 1))).toInt.toNat 31, by omega⟩ : Fin 32)) := by
  unfold Host.gather
  congr 1
  funext a
  obtain rfl : a = 0 := Subsingleton.elim _ _
  refine Fin.ext ?_
  show gather_S32_S288x1_S288_n_0_n_n_0_1_1.start y idx 0 + gather_S32_S288x1_S288_n_0_n_n_0_1_1.batchCoord y 0 + gather_S32_S288x1_S288_n_0_n_n_0_1_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S288x1_S288_n_0_n_n_0_1_1.startIndexMap from List.mem_singleton.mpr rfl)]
  have hsi : gather_S32_S288x1_S288_n_0_n_n_0_1_1.siIdx y ⟨List.idxOf (0 : Fin 1) gather_S32_S288x1_S288_n_0_n_n_0_1_1.startIndexMap,
      List.idxOf_lt_length_iff.2 (List.mem_singleton.mpr rfl)⟩ = ix2 (y 0 : Fin 288) (0 : Fin 1) := by
    funext b; refine Fin.ext ?_
    match b with
    | ⟨0, _⟩ => rfl
    | ⟨1, _⟩ => rfl
  rw [hsi]
  rfl

theorem toNat_of_range {x : BitVec 32} {n : ℕ} (h0 : (0 : ℤ) ≤ x.toInt) (h1 : x.toInt < n) : x.toNat < n ∧ x.toInt = x.toNat := by
  have := x.isLt
  rw [BitVec.toInt_eq_toNat_cond] at *
  split at h0 <;> rename_i h
  · rw [if_pos h] at *; constructor <;> omega
  · omega

variable {F : FTy → Type} [FloatOps F]
/-- What the precondition says. -/
theorem decode (B : IVec S288 32) (N : IVec S1 32) (X : IVec S32 32) (x3 : IVec S589824x128 32) (x4 : FVec F S32x1024x2048 .f32) (x5 : FVec F S32x1x2048 .f32)
    (x6 : FVec F S32x1024x1024 .f32) (x7 : FVec F S32x1x1024 .f32) (h : fn (F := F) B N X x3 x4 x5 x6 x7 = fun _ => 1#1) :
    (1 ≤ (N (ix1 (0 : Fin 1))).toNat ∧ (N (ix1 (0 : Fin 1))).toNat ≤ 288)
    ∧ (∀ k : Fin 288, (B (ix1 k)).toNat < 32)
    ∧ (∀ e : Fin 32, (X (ix1 e)).toNat < 32 ∨ 2 ^ 31 ≤ (X (ix1 e)).toNat)
    ∧ (∀ (k : Fin 288) (e : Fin 32), (B (ix1 k)).toNat = e.val → k.val + 1 = (N (ix1 (0 : Fin 1))).toNat → 2 ^ 31 ≤ (X (ix1 e)).toNat)
    ∧ (∀ (k l : Fin 288) (e : Fin 32), (B (ix1 k)).toNat = e.val → l.val = k.val + 1 → l.val < (N (ix1 (0 : Fin 1))).toNat →
        B (ix1 l) = B (ix1 k) ∨ X (ix1 e) = B (ix1 l)) := by
  have h0 := congrFun h (fun a => a.elim0)
  simp only [fn, fn_part1, fn_part2] at h0
  obtain ⟨h36, h45⟩ := IntOp.andi_eq_one.1 h0
  obtain ⟨h30, h35⟩ := IntOp.andi_eq_one.1 h36
  obtain ⟨h26, h29⟩ := IntOp.andi_eq_one.1 h30
  obtain ⟨h19, h25⟩ := IntOp.andi_eq_one.1 h26
  obtain ⟨h16, h18⟩ := IntOp.andi_eq_one.1 h19
  have eN : shapeCast S_ N shapeCasts_S1_S_ (fun a => a.elim0) = N (ix1 (0 : Fin 1)) := by
    refine congrArg N (funext fun a => ?_)
    match a with
    | ⟨0, _⟩ => exact Subsingleton.elim (α := Fin 1) _ _
  have hN : ∀ q : S288.Idx, broadcastInDim S288 ![] bcast_S_S288 (subi (shapeCast S_ N shapeCasts_S1_S_) (constantI S_ 32 1#32)) q = N (ix1 (0 : Fin 1)) - 1#32 := by
    intro q
    rw [← eN]
    show subi (shapeCast S_ N shapeCasts_S1_S_) (constantI S_ 32 1#32) _ = _
    rw [show (fun a : Fin 0 => a.elim0 : S_.Idx) = _ from Subsingleton.elim _ _]
    rfl
  have n1 : (1 : ℤ) ≤ (N (ix1 (0 : Fin 1))).toInt := by
    have := IntOp.cmpi_sge.1 h16
    rw [eN] at this; exact this
  have n2 : (N (ix1 (0 : Fin 1))).toInt ≤ 288 := by
    have := IntOp.cmpi_sle.1 h18
    rw [eN] at this; exact this
  obtain ⟨n3, n4⟩ := toNat_of_range (n := 289) (x := N (ix1 (0 : Fin 1))) (by omega) (by omega)
  have hB : ∀ k : Fin 288, (B (ix1 k)).toNat < 32 ∧ (B (ix1 k)).toInt = (B (ix1 k)).toNat := by
    intro k
    obtain ⟨u, v⟩ := IntOp.andi_eq_one.1 (Host.reduce_andi_all _ _ _ _ _ h25 (ix1 k))
    exact toNat_of_range (IntOp.cmpi_sge.1 u) (IntOp.cmpi_slt.1 v)
  have hX : ∀ e : Fin 32, (X (ix1 e)).toInt < 32 := fun e => IntOp.cmpi_slt.1 (Host.reduce_andi_all _ _ _ _ _ h29 (ix1 e))
  have hG : ∀ (k : Fin 288) (e : Fin 32), (B (ix1 k)).toNat = e.val →
      Host.gather gather_S32_S288x1_S288_n_0_n_n_0_1_1 X (broadcastInDim S288x1 ![0] bcast_S288_S288x1_0
        (select (cmpi .slt B (broadcastInDim S288 ![] bcast_S_S288 (constantI S_ 32 0#32))) (addi B (broadcastInDim S288 ![] bcast_S_S288 (constantI S_ 32 32#32))) B)) (ix1 k)
      = X (ix1 e) := by
    intro k e he
    have hk := hB k
    rw [gather_apply]
    have es : broadcastInDim S288x1 ![0] bcast_S288_S288x1_0
        (select (cmpi .slt B (broadcastInDim S288 ![] bcast_S_S288 (constantI S_ 32 0#32))) (addi B (broadcastInDim S288 ![] bcast_S_S288 (constantI S_ 32 32#32))) B) (ix2 (ix1 k 0 : Fin 288) (0 : Fin 1)) = B (ix1 k) := by
      pointwise
      refine if_neg ?_
      intro hh
      have h2 := IntOp.cmpi_slt.1 hh
      rw [hk.2] at h2
      exact absurd h2 (by show ¬ ((B (ix1 k)).toNat : ℤ) < 0; omega)
    refine congrArg X (congrArg ix1 (Fin.ext ?_))
    refine (congrArg (fun z : BitVec 32 => min z.toInt.toNat 31) es).trans ?_
    show min (B (ix1 k)).toInt.toNat 31 = e.val
    rw [hk.2]
    show min ((B (ix1 k)).toNat : ℤ).toNat 31 = e.val
    omega
  have w1 : (N (ix1 (0 : Fin 1)) - 1#32).toNat = (N (ix1 (0 : Fin 1))).toNat - 1 := by
    rw [BitVec.toNat_sub]
    show (2 ^ 32 - 1 + (N (ix1 (0 : Fin 1))).toNat) % 2 ^ 32 = _
    omega
  have hI : ∀ k : Fin 288, iotaInDim S288 32 0 (ix1 k) = BitVec.ofNat 32 k.val := fun k => rfl
  have hIn : ∀ k : Fin 288, (BitVec.ofNat 32 k.val).toNat = k.val := fun k => by rw [BitVec.toNat_ofNat]; omega
  refine ⟨⟨by omega, by omega⟩, fun k => (hB k).1, ?_, ?_, ?_⟩
  · intro e
    have := hX e
    have := (X (ix1 e)).isLt
    rw [BitVec.toInt_eq_toNat_cond] at *
    split at * <;> omega
  · intro k e he hk
    have q := IntOp.ori_eq_one.1 (Host.reduce_andi_all _ _ _ _ _ h35 (ix1 k))
    rcases q with q | q
    · refine absurd ?_ (IntOp.not_eq_one.1 q)
      refine IntOp.cmpi_eq.2 ?_
      rw [hN, hI, ← BitVec.toNat_inj, w1, hIn]
      omega
    · have q := IntOp.cmpi_slt.1 q
      rw [hG k e he] at q
      have q : (X (ix1 e)).toInt < 0 := q
      have := (X (ix1 e)).isLt
      rw [BitVec.toInt_eq_toNat_cond] at q
      split at q <;> omega
  · intro k l e he hl hu
    have q := IntOp.ori_eq_one.1 (Host.reduce_andi_all _ _ _ _ _ h45 (ix1 k))
    have eC : concatenate S288 0 [⟨S287, extractStridedSlice S287 ![1] B slices_S288_S287_1⟩, ⟨S1, extractStridedSlice S1 ![287] B slices_S288_S1_287⟩] concatenates_S287_S1_S288_d0 (ix1 k) = B (ix1 l) := by
      pointwise
      rw [dif_pos (by omega)]
      refine congrArg B (congrArg ix1 (Fin.ext ?_))
      show 1 + k.val = l.val
      omega
    rcases q with q | q
    · rcases IntOp.ori_eq_one.1 q with q | q
      · have q := IntOp.cmpi_sge.1 q
        rw [hN, hI, WordCmp.toInt_eq_toNat_of_lt_half (x := BitVec.ofNat 32 k.val) (by rw [hIn]; omega),
          WordCmp.toInt_eq_toNat_of_lt_half (x := N (ix1 (0 : Fin 1)) - 1#32) (by rw [w1]; omega), w1, hIn] at q
        omega
      · have q := IntOp.cmpi_eq.1 q
        exact Or.inl (eC.symm.trans q)
    · have q := IntOp.cmpi_eq.1 q
      exact Or.inr (((hG k e he).symm.trans q).trans eC)

end Cert.Pre_routed

end
-- ==== Proof.Tables.lean ====
/- From the precondition's words to what the experts' kernel asks of the routing's tables. -/
module

public import proofs.«01_k».proof.Proof.Decode
public import proofs.«01_k».proof.Proof.Words
public import proofs.«01_k».proof.Proof.WordTables

@[expose] public section

namespace Cert.Pre_routed

open Idealize.ShloMosaic Idealize.ShloMosaic.Tactic

variable [Facts] {F : FTy → Type} [FloatOps F]

theorem tables (B : IVec S288 32) (N : IVec S1 32) (X : IVec S32 32) (x3 : IVec S589824x128 32) (x4 : FVec F S32x1024x2048 .f32) (x5 : FVec F S32x1x2048 .f32)
    (x6 : FVec F S32x1024x1024 .f32) (x7 : FVec F S32x1x1024 .f32) (h : fn (F := F) B N X x3 x4 x5 x6 x7 = fun _ => 1#1) :
    Cert.Kernel2Ideal.Ffn.Routed B N X := by
  obtain ⟨⟨h1, h2⟩, hB, hX, hlast, hstep⟩ := decode B N X x3 x4 x5 x6 x7 h
  have eN : Cert.Kernel2Ideal.Ffn.at1 = ix1 (0 : Fin 1) := funext fun a => match a with | ⟨0, _⟩ => rfl
  have eB : ∀ k, Cert.Kernel2Ideal.Ffn.at288 k = ix1 (⟨min k 287, by omega⟩ : Fin 288) := fun k => funext fun a => match a with | ⟨0, _⟩ => rfl
  have eX : ∀ k, Cert.Kernel2Ideal.Ffn.at32 k = ix1 (⟨min k 31, by omega⟩ : Fin 32) := fun k => funext fun a => match a with | ⟨0, _⟩ => rfl
  refine ⟨by rw [eN]; exact h1, by rw [eN]; exact h2, fun k => by rw [eB]; exact hB _, fun k => by rw [eX]; exact hX _, fun k hk => ?_, fun k hk => ?_⟩
  · rw [eN] at hk
    have hb := hB ⟨min k 287, by omega⟩
    rw [eX, eB]
    exact hlast ⟨min k 287, by omega⟩ _ (by dsimp only; omega) (by dsimp only; omega)
  · rw [eN] at hk
    have hb := hB ⟨min k 287, by omega⟩
    rw [eX, eB, eB]
    exact hstep ⟨min k 287, by omega⟩ ⟨min (k + 1) 287, by omega⟩ _ (by dsimp only; omega) (by dsimp only; omega) (by dsimp only; omega)

theorem tables_words (B : IVec S288 32) (N : IVec S1 32) (X : IVec S32 32) (x3 : IVec S589824x128 32) (x4 : FVec F S32x1024x2048 .f32) (x5 : FVec F S32x1x2048 .f32)
    (x6 : FVec F S32x1024x1024 .f32) (x7 : FVec F S32x1x1024 .f32) (h : fn (F := F) B N X x3 x4 x5 x6 x7 = fun _ => 1#1) :
    Cert.Kernel2.Ffn.Routed B N X := by
  obtain ⟨⟨h1, h2⟩, hB, hX, hlast, hstep⟩ := decode B N X x3 x4 x5 x6 x7 h
  have eN : Cert.Kernel2.Ffn.at1 = ix1 (0 : Fin 1) := funext fun a => match a with | ⟨0, _⟩ => rfl
  have eB : ∀ k, Cert.Kernel2.Ffn.at288 k = ix1 (⟨min k 287, by omega⟩ : Fin 288) := fun k => funext fun a => match a with | ⟨0, _⟩ => rfl
  have eX : ∀ k, Cert.Kernel2.Ffn.at32 k = ix1 (⟨min k 31, by omega⟩ : Fin 32) := fun k => funext fun a => match a with | ⟨0, _⟩ => rfl
  refine ⟨by rw [eN]; exact h1, by rw [eN]; exact h2, fun k => by rw [eB]; exact hB _, fun k => by rw [eX]; exact hX _, fun k hk => ?_, fun k hk => ?_⟩
  · rw [eN] at hk
    have hb := hB ⟨min k 287, by omega⟩
    rw [eX, eB]
    exact hlast ⟨min k 287, by omega⟩ _ (by dsimp only; omega) (by dsimp only; omega)
  · rw [eN] at hk
    have hb := hB ⟨min k 287, by omega⟩
    rw [eX, eB, eB]
    exact hstep ⟨min k 287, by omega⟩ ⟨min (k + 1) 287, by omega⟩ _ (by dsimp only; omega) (by dsimp only; omega) (by dsimp only; omega)

end Cert.Pre_routed

end
-- ==== Proof.Memory.lean ====
/- The memory's keys and values: what the kernel's array holds is what the reference computes. -/
module

public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pointwise
public import Idealize.ShloMosaic.Lib.Pipeline.ValueKit
public import Idealize.ShloMosaic.Lib.Pipeline.Covers

@[expose] public section

set_option maxRecDepth 16384
set_option maxHeartbeats 1000000

noncomputable section

namespace Cert.Memory

open Idealize.ShloMosaic

/-- The scale of a row of the memory: the reciprocal root of the mean of its squares. -/
def scale (M : (⟨3, ![16, 256, 1024]⟩ : Shape).Idx → EReal) (b : Fin 16) (r : Fin 256) : EReal :=
  Ideal.rsqrt (Ideal.div (∑ k : Fin 1024, M (ix3 b r k) * M (ix3 b r k)) (Ideal.ofBits .f32 1149239296#32) + Ideal.ofBits .f32 925353388#32)

/-- One key or value: column `j` of row `i` of the memory, of all sequences. -/
def entry (M : (⟨3, ![16, 256, 1024]⟩ : Shape).Idx → EReal) (G : (⟨2, ![1, 1024]⟩ : Shape).Idx → EReal)
    (W : (⟨3, ![1, 1024, 2048]⟩ : Shape).Idx → EReal) (i : Fin 4096) (j : Fin 2048) : EReal :=
  ∑ k : Fin 1024, M (ix3 (⟨i.val / 256, by omega⟩ : Fin 16) (⟨i.val % 256, by omega⟩ : Fin 256) k)
    * scale M (⟨i.val / 256, by omega⟩ : Fin 16) (⟨i.val % 256, by omega⟩ : Fin 256) * G (ix2 (0 : Fin 1) k) * W (ix3 (0 : Fin 1) k j)

/-- The array of keys and values. -/
def result (M : (⟨3, ![16, 256, 1024]⟩ : Shape).Idx → EReal) (G : (⟨2, ![1, 1024]⟩ : Shape).Idx → EReal)
    (W : (⟨3, ![1, 1024, 2048]⟩ : Shape).Idx → EReal) : (⟨2, ![4096, 2048]⟩ : Shape).Idx → EReal :=
  fun y => entry M G W (y 0) (y 1)

end Cert.Memory

namespace Cert.Reference3Ideal.Kv

open Cert.Reference3Ideal Cert.Reference3Ideal.Gen Facts
open Idealize.ShloMosaic Idealize.ShloMosaic.TcCoe Idealize.ShloMosaic.Tactic Idealize.SL.Sem

/-- The reference's result. -/
def refOut (M : FVec Ideal S16x256x1024 .f32) (G : FVec Ideal S1x1024 .f32) (W : FVec Ideal S1x1024x2048 .f32) : FVec Ideal S4096x2048 .bf16 :=
  truncf .bf16 (shapeCast _ (Host.dotGeneral dot_S16x256x1024_S1024x2048_S16x256x2048_2_0_01_1_n_n none (mulf (mulf M (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf M M) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x3727C5AC#32)))))) (broadcastInDim S16x256x1024 ![0, 1, 2] bcast_S1x1x1024_S16x256x1024_0_1_2 (broadcastInDim S1x1x1024 ![2] bcast_S1024_S1x1x1024_2 (shapeCast _ G shapeCasts_S1x1024_S1024)))) (shapeCast _ W shapeCasts_S1x1024x2048_S1024x2048)) shapeCasts_S16x256x2048_S4096x2048) bitsLt_bf16_f32

/-- The reference at an index. -/
theorem refOut_apply (M : FVec Ideal S16x256x1024 .f32) (G : FVec Ideal S1x1024 .f32) (W : FVec Ideal S1x1024x2048 .f32) (i : Fin 4096) (j : Fin 2048) :
    refOut M G W (ix2 i j) = Cert.Memory.entry M G W i j := by
  unfold refOut
  pointwise
  all_goals rfl

end Cert.Reference3Ideal.Kv

namespace Cert.Kernel3Ideal.Kv

open Cert.Kernel3Ideal Cert.Kernel3Ideal.Gen
open Idealize.ShloMosaic Idealize.ShloMosaic.TcCoe Idealize.ShloMosaic.Tactic
open Idealize.SL Idealize.SL.Sem

variable (m : (ℓ : Loc nD τ sig) → Buf (Elt Ideal) ℓ)

/-- What the body stores, at an index. -/
theorem pay_apply (x : FVec Ideal S256x1024 .f32) (g : FVec Ideal S1x1024 .f32) (w : FVec Ideal S1024x2048 .bf16) (r : Fin 256) (j : Fin 2048) :
    k0_pay1 (F := Ideal) x g w (ix2 r j) = ∑ k : Fin 1024, x (ix2 r k)
      * Ideal.rsqrt (Ideal.div (∑ k' : Fin 1024, x (ix2 r k') * x (ix2 r k')) (Ideal.ofBits .f32 1149239296#32) + Ideal.ofBits .f32 925353388#32)
      * g (ix2 (0 : Fin 1) k) * w (ix2 k j) := by
  pointwise [k0_pay1]

/-- What the host operations before the launch leave: the memory's rows, -/
theorem V_rows (c : Dev nD) : V m c main_v0 = shapeCast S4096x1024 (m ((c : Thread nD τ).loc main_arg0)) shapeCasts_S16x256x1024_S4096x1024 := by
  show StableHlo.after hostOps0 (fun b => m (c, b)) _ = _
  after_results <;> rfl
/-- the norm's gains, -/
theorem V_gain (c : Dev nD) : V m c main_v2 = shapeCast S1x1024 (shapeCast S1024 (m ((c : Thread nD τ).loc main_arg1)) shapeCasts_S1x1024_S1024) shapeCasts_S1024_S1x1024 := by
  show StableHlo.after hostOps0 (fun b => m (c, b)) _ = _
  after_results <;> rfl
/-- and the weights. -/
theorem V_weights (c : Dev nD) : V m c main_v4 = truncf (F := Ideal) .bf16 (shapeCast S1024x2048 (m ((c : Thread nD τ).loc main_arg2)) shapeCasts_S1x1024x2048_S1024x2048) bitsLt_bf16_f32 := by
  show StableHlo.after hostOps0 (fun b => m (c, b)) _ = _
  after_results <;> rfl

/-- The same at an index. -/
theorem rows_apply (M : FVec Ideal S16x256x1024 .f32) (i : Fin 4096) (k : Fin 1024) :
    shapeCast S4096x1024 M shapeCasts_S16x256x1024_S4096x1024 (ix2 i k) = M (ix3 (⟨i.val / 256, by omega⟩ : Fin 16) (⟨i.val % 256, by omega⟩ : Fin 256) k) := by
  pointwise
  all_goals rfl
theorem gain_apply (G : FVec Ideal S1x1024 .f32) (k : Fin 1024) :
    shapeCast S1x1024 (shapeCast S1024 G shapeCasts_S1x1024_S1024) shapeCasts_S1024_S1x1024 (ix2 (0 : Fin 1) k) = G (ix2 (0 : Fin 1) k) := by
  pointwise
theorem weights_apply (W : FVec Ideal S1x1024x2048 .f32) (k : Fin 1024) (j : Fin 2048) :
    (truncf .bf16 (shapeCast S1024x2048 W shapeCasts_S1x1024x2048_S1024x2048) bitsLt_bf16_f32 : FVec Ideal S1024x2048 .bf16) (ix2 k j) = W (ix3 (0 : Fin 1) k j) := by
  pointwise

/-- The blocks of the result fill it. -/
theorem covers3 : (cfg0.win 3).Covers :=
  (cfg0.win 3).covers_of_indexMap_surj rfl (by intro a; match a with | ⟨0, _⟩ => exact (by decide : 0 < 256) | ⟨1, _⟩ => exact (by decide : 0 < 2048)) fun β => by
    have z0 : 0 < 2 := by decide
    have z1 : 1 < 2 := by decide
    have h0 : (β ⟨0, z0⟩).val < 16 := lt_of_lt_of_eq (β ⟨0, z0⟩).isLt (show (4096 + 256 - 1) / 256 = 16 by decide)
    have h1 : (β ⟨1, z1⟩).val < 1 := lt_of_lt_of_eq (β ⟨1, z1⟩).isLt (show (2048 + 2048 - 1) / 2048 = 1 by decide)
    refine ⟨fun | ⟨0, _⟩ => ⟨(β ⟨0, z0⟩).val, h0⟩, fun a => ?_⟩
    match a with
    | ⟨0, _⟩ => show (BitVec.ofNat 32 (β ⟨0, z0⟩).val).toNat = _; rw [BitVec.toNat_ofNat]; omega
    | ⟨1, _⟩ => show 0 = _; omega

theorem index0 (t : Fin cfg0.N) : (cfg0.win 0).index t = ![t.val, 0] :=
  (by decide +kernel : ∀ t : Fin cfg0.N, (cfg0.win 0).index t = ![t.val, 0]) t
theorem index3 (t : Fin cfg0.N) : (cfg0.win 3).index t = ![t.val, 0] :=
  (by decide +kernel : ∀ t : Fin cfg0.N, (cfg0.win 3).index t = ![t.val, 0]) t

/-- The blocks that the body loads: 256 rows of the memory at a time, -/
theorem in0_apply (A : FVec Ideal S4096x1024 .f32) (t : Fin cfg0.N) (a : Fin 256) (b : Fin 1024) :
    View.ld (((cfg0.win 0).blk t).view.read (Elt Ideal) A) r0_0 (ix2 a b) = A (ix2 (⟨t.val * 256 + a.val, by have : t.val < 16 := t.isLt; omega⟩ : Fin 4096) b) := by
  refine congrArg A (funext fun k => Fin.ext ?_)
  match k with
  | ⟨0, _⟩ =>
    refine (Pipeline.Window.rect_emb_val _ _ _ _).trans ?_
    rw [index0 t]
    show t.val * 256 + (0 + 1 * a.val) = t.val * 256 + a.val
    omega
  | ⟨1, _⟩ =>
    refine (Pipeline.Window.rect_emb_val _ _ _ _).trans ?_
    rw [index0 t]
    show 0 * 1024 + (0 + 1 * b.val) = b.val
    omega

/-- the gains whole -/
theorem in1_apply (A : FVec Ideal S1x1024 .f32) (t : Fin cfg0.N) (b : Fin 1024) :
    View.ld (((cfg0.win 1).blk t).view.read (Elt Ideal) A) r0_1 (ix2 (0 : Fin 1) b) = A (ix2 (0 : Fin 1) b) := by
  refine congrArg A (funext fun k => Fin.ext ?_)
  match k with
  | ⟨0, _⟩ => rfl
  | ⟨1, _⟩ => refine (Pipeline.Window.rect_emb_val _ _ _ _).trans ?_; show 0 * 1024 + (0 + 1 * b.val) = b.val; omega

/-- and the weights whole. -/
theorem in2_apply (A : FVec Ideal S1024x2048 .bf16) (t : Fin cfg0.N) (a : Fin 1024) (b : Fin 2048) :
    View.ld (((cfg0.win 2).blk t).view.read (Elt Ideal) A) r0_2 (ix2 a b) = A (ix2 a b) := by
  refine congrArg A (funext fun k => Fin.ext ?_)
  match k with
  | ⟨0, _⟩ => refine (Pipeline.Window.rect_emb_val _ _ _ _).trans ?_; show 0 * 1024 + (0 + 1 * a.val) = a.val; omega
  | ⟨1, _⟩ => refine (Pipeline.Window.rect_emb_val _ _ _ _).trans ?_; show 0 * 2048 + (0 + 1 * b.val) = b.val; omega

/-- What grid point `t` leaves in its block. -/
theorem block_apply (c : Dev nD) (t : Fin cfg0.N) (a : Fin 256) (j : Fin 2048) :
    out0_3 (iblk m c 0 t) (iblk m c 1 t) (iblk m c 2 t) (ix2 a j)
      = Cert.Memory.entry (m ((c : Thread nD τ).loc main_arg0)) (m ((c : Thread nD τ).loc main_arg1)) (m ((c : Thread nD τ).loc main_arg2))
        (⟨t.val * 256 + a.val, by have : t.val < 16 := t.isLt; omega⟩ : Fin 4096) j := by
  have ht : t.val < 16 := t.isLt
  have e : out0_3 (iblk m c 0 t) (iblk m c 1 t) (iblk m c 2 t) (ix2 a j)
      = k0_pay1 (View.ld (iblk m c 0 t) r0_0) (View.ld (iblk m c 1 t) r0_1) (View.ld (iblk m c 2 t) r0_2) (ix2 a j) := by
    unfold out0_3
    exact congrFun (View.canon_cons_unit_lit _ _ _ (fun a => by match a with | ⟨0, _⟩ => rfl | ⟨1, _⟩ => rfl)) (ix2 a j)
  rw [e, pay_apply]
  have x (k : Fin 1024) : View.ld (iblk m c 0 t) r0_0 (ix2 a k)
      = m ((c : Thread nD τ).loc main_arg0) (ix3 (⟨(t.val * 256 + a.val) / 256, by omega⟩ : Fin 16) (⟨(t.val * 256 + a.val) % 256, by omega⟩ : Fin 256) k) := by
    unfold iblk
    refine (in0_apply (V m c main_v0) t a k).trans ?_
    rw [V_rows]
    exact rows_apply _ _ _
  have g (k : Fin 1024) : View.ld (iblk m c 1 t) r0_1 (ix2 (0 : Fin 1) k) = m ((c : Thread nD τ).loc main_arg1) (ix2 (0 : Fin 1) k) := by
    unfold iblk
    refine (in1_apply (V m c main_v2) t k).trans ?_
    rw [V_gain]
    exact gain_apply _ _
  have w (k : Fin 1024) : View.ld (iblk m c 2 t) r0_2 (ix2 k j) = m ((c : Thread nD τ).loc main_arg2) (ix3 (0 : Fin 1) k j) := by
    unfold iblk
    refine (in2_apply (V m c main_v4) t k j).trans ?_
    rw [V_weights]
    exact weights_apply _ _ _
  simp only [x, g, w]
  rfl

/-- The array that the run leaves. -/
theorem final (c : Dev nD) : (dats m 0 c).arrAt 3 cfg0.N
    = Cert.Memory.result (m ((c : Thread nD τ).loc main_arg0)) (m ((c : Thread nD τ).loc main_arg1)) (m ((c : Thread nD τ).loc main_arg2)) := by
  refine (dats m 0 c).arrAt_eq_of_covers 3 _ covers3 fun t hf y => ?_
  obtain ⟨a, j, rfl⟩ : ∃ (a : Fin 256) (j : Fin 2048), y = ix2 a j := ⟨y 0, y 1, by funext k; fin_cases k <;> rfl⟩
  refine (congrFun (after0_3 m c t) (ix2 a j)).trans ((block_apply m c t a j).trans ?_)
  have ht : t.val < 16 := t.isLt
  unfold Cert.Memory.result
  refine congrArg₂ (Cert.Memory.entry _ _ _) (Fin.ext ?_) (Fin.ext ?_)
  · refine Eq.symm ((Pipeline.Window.rect_emb_val _ _ _ _).trans ?_)
    rw [index3 t]
    rfl
  · refine Eq.symm ((Pipeline.Window.rect_emb_val _ _ _ _).trans ?_)
    rw [index3 t]
    exact Nat.zero_add _

end Cert.Kernel3Ideal.Kv

end
-- ==== Proof.lean ====
/- The proof of the certificate's claim: the frames of the attention's, the experts' and the memory's kernel, of their idealizations
   and of the references, and the equations of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.WordLaunch
public import proofs.«01_k».proof.Proof.Value
public import proofs.«01_k».proof.Proof.Reference
public import proofs.«01_k».proof.Proof.Finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_routed
public import proofs.«01_k».proof.Proof.WordKept
public import proofs.«01_k».proof.Proof.Blocks
public import proofs.«01_k».proof.Proof.Rows
public import proofs.«01_k».proof.Proof.Tables
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Memory
public import Idealize.ShloMosaic.Lib.Claim
public import Idealize.ShloMosaic.Adequacy
public import Idealize.ShloMosaic.Init

@[expose] public section

noncomputable section

namespace Cert.Proof

open Idealize.ShloMosaic Idealize.SL.Sem

/-- The kernel's result array is the reference's, from the same arguments. -/
theorem result_eq (Q : FVec Ideal Cert.ReferenceIdeal.S1024x32768 .bf16) (K : FVec Ideal Cert.ReferenceIdeal.S32768x1024 .bf16)
    (V : FVec Ideal Cert.ReferenceIdeal.S512x32768 .bf16) :
    Cert.KernelIdeal.Attn.result Q K V = Cert.ReferenceIdeal.Attn.refOut Q K V := by
  funext y
  obtain ⟨r, e, rfl⟩ : ∃ (r : Fin 32768) (e : Fin 512), y = ix2 r e := ⟨y 0, y 1, by funext a; fin_cases a <;> rfl⟩
  rw [Cert.ReferenceIdeal.Attn.refOut_row]
  rfl

/-- The reference declares no semaphore. -/
theorem no_sem (s : SemLoc Cert.ReferenceIdeal.sig) : False := by
  rcases s with s | s
  · exact Fin.elim0 s
  · exact Fin.elim0 s

/-- The reference's frame: it runs, its arguments stay, and it has no counters. -/
theorem frame_reference : @Cert.quiescent_ReferenceIdeal Cert.ReferenceIdeal.Gen.facts := fun m g _ =>
  (θ_run _ _ _).mono (fun _ h => ⟨fun c => (h c).2, funext fun s => (no_sem s.2).elim⟩) (Cert.ReferenceIdeal.Value.run m g)

/-- The value claim. -/
theorem algebraic : @Cert.algebraic_KernelIdeal_ReferenceIdeal_pre_finite_scores Cert.KernelIdeal.Gen.facts Cert.ReferenceIdeal.Gen.facts Cert.Pre_finite_scores.facts := by
  intro m g m' g' hpre hargs
  have hfin := fun c => @Cert.Pre_finite_scores.reals Cert.Pre_finite_scores.facts _ _ _ (hpre c)
  refine ⟨fun c => Cert.KernelIdeal.Attn.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ?_) (Cert.KernelIdeal.Attn.run_blocks m g)
    refine ⟨(h c).1.trans (Cert.KernelIdeal.Attn.final m (fun c => (hfin c).1) (fun c => (hfin c).2) c), (h c).2⟩
  · refine (θ_run _ _ _).mono (fun r h c => ?_) (Cert.ReferenceIdeal.Value.run m' g')
    refine ⟨(h c).1.trans ?_, (h c).2⟩
    rw [Cert.ReferenceIdeal.Attn.res_eq]
    obtain ⟨h0, h1, h2⟩ := hargs c
    rw [h0, h1, h2]
    exact (result_eq _ _ _).symm

/-! ## The experts -/

/-- What the experts' kernel computes the reference computes, from tables that are a routing's. -/
theorem experts_eq (A0 : IVec Cert.Reference2Ideal.S288 32) (A1 : IVec Cert.Reference2Ideal.S1 32) (A3 : IVec Cert.Reference2Ideal.S589824x128 32)
    (A4 : FVec Ideal Cert.Reference2Ideal.S32x1024x2048 .f32) (A5 : FVec Ideal Cert.Reference2Ideal.S32x1x2048 .f32)
    (A6 : FVec Ideal Cert.Reference2Ideal.S32x1024x1024 .f32) (A7 : FVec Ideal Cert.Reference2Ideal.S32x1x1024 .f32)
    (hN : (A1 (ix1 (0 : Fin 1))).toNat ≤ 288) (hB : ∀ k : Fin 288, (A0 (ix1 k)).toNat < 32) :
    Cert.Expert.result A0 A1 A3 A4 A5 A6 A7 = Cert.Reference2Ideal.Ffn.refOut A0 A1 A3 A4 A5 A6 A7 := by
  funext y
  obtain ⟨i, j, rfl⟩ : ∃ (i : Fin 1179648) (j : Fin 128), y = ix2 i j := ⟨y 0, y 1, by funext a; fin_cases a <;> rfl⟩
  rw [Cert.Reference2Ideal.Ffn.refOut_apply A0 A1 A3 A4 A5 A6 A7 i j ⟨(A0 (ix1 (⟨i.val / 4096, by omega⟩ : Fin 288))).toNat % 32, by omega⟩
    (Nat.mod_eq_of_lt (hB _)).symm hN]
  rfl

/-- The second reference declares no semaphore. -/
theorem no_sem2 (s : SemLoc Cert.Reference2Ideal.sig) : False := by
  rcases s with s | s
  · exact Fin.elim0 s
  · exact Fin.elim0 s

/-- The frames of the experts' kernel over words, -/
theorem frame_words2 : @Cert.quiescent_Kernel2 Cert.Kernel2.Gen.facts Cert.Pre_routed.Gen.facts := fun m g hpre =>
  (θ_run _ _ _).mono (fun _ h => ⟨fun c => (h.1 c).2, h.2⟩)
    (Cert.Kernel2.Ffn.run_blocks m g (@Cert.Pre_routed.tables_words Cert.Pre_routed.Gen.facts _ _ _ _ _ _ _ _ _ _ (hpre 0)))

/-- of its idealization, -/
theorem frame_kernel2 : @Cert.quiescent_Kernel2Ideal Cert.Kernel2Ideal.Gen.facts Cert.Pre_routed.Gen.facts := fun m g hpre =>
  (θ_run _ _ _).mono (fun _ h => ⟨fun c => (h.1 c).2, h.2⟩)
    (Cert.Kernel2Ideal.Ffn.run_blocks m g (@Cert.Pre_routed.tables Cert.Pre_routed.Gen.facts _ _ _ _ _ _ _ _ _ _ (hpre 0)))

/-- and of the reference. -/
theorem frame_reference2 : @Cert.quiescent_Reference2Ideal Cert.Reference2Ideal.Gen.facts := fun m g _ =>
  (θ_run _ _ _).mono (fun _ h => ⟨fun c => (h c).2, funext fun s => (no_sem2 s.2).elim⟩) (Cert.Reference2Ideal.Value.run m g)

/-- The value claim of the experts. -/
theorem algebraic2 : @Cert.algebraic_Kernel2Ideal_Reference2Ideal Cert.Kernel2Ideal.Gen.facts Cert.Reference2Ideal.Gen.facts Cert.Pre_routed.Gen.facts := by
  intro m g m' g' hpre hargs
  have hR := @Cert.Pre_routed.tables Cert.Pre_routed.Gen.facts _ _ _ _ _ _ _ _ _ _ (hpre 0)
  refine ⟨fun c => Cert.Expert.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)), ?_, ?_⟩
  · refine (θ_run _ _ _).mono (fun r h c => ?_) (Cert.Kernel2Ideal.Ffn.run_blocks m g hR)
    exact ⟨(h.1 c).1.trans (Cert.Kernel2Ideal.Ffn.final m hR c), (h.1 c).2⟩
  · refine (θ_run _ _ _).mono (fun r h c => ?_) (Cert.Reference2Ideal.Value.run m' g')
    refine ⟨(h c).1.trans ?_, (h c).2⟩
    have hd := @Cert.Pre_routed.decode Cert.Pre_routed.Gen.facts _ _ _ _ _ _ _ _ _ _ (hpre c)
    rw [Cert.Reference2Ideal.Ffn.res_eq]
    obtain ⟨h0, h1, h2, h3, h4, h5, h6, h7⟩ := hargs c
    rw [h0, h1, h3, h4, h5, h6, h7]
    exact (experts_eq _ _ _ _ _ _ _ hd.1.2 hd.2.1).symm

/-! ## The memory's keys and values -/

/-- The kernel's array of keys and values is the reference's. -/
theorem memory_eq (M : FVec Ideal Cert.Reference3Ideal.S16x256x1024 .f32) (G : FVec Ideal Cert.Reference3Ideal.S1x1024 .f32)
    (W : FVec Ideal Cert.Reference3Ideal.S1x1024x2048 .f32) : Cert.Memory.result M G W = Cert.Reference3Ideal.Kv.refOut M G W := by
  funext y
  obtain ⟨i, j, rfl⟩ : ∃ (i : Fin 4096) (j : Fin 2048), y = ix2 i j := ⟨y 0, y 1, by funext a; fin_cases a <;> rfl⟩
  rw [Cert.Reference3Ideal.Kv.refOut_apply]
  rfl

/-- The third reference declares no semaphore. -/
theorem no_sem3 (s : SemLoc Cert.Reference3Ideal.sig) : False := by
  rcases s with s | s
  · exact Fin.elim0 s
  · exact Fin.elim0 s

/-- Its frame. -/
theorem frame_reference3 : @Cert.quiescent_Reference3Ideal Cert.Reference3Ideal.Gen.facts := fun m g _ =>
  (θ_run _ _ _).mono (fun _ h => ⟨fun c => (h c).2, funext fun s => (no_sem3 s.2).elim⟩) (Cert.Reference3Ideal.Value.run m g)

/-- The value claim of the memory's keys and values. -/
theorem algebraic3 : @Cert.algebraic_Kernel3Ideal_Reference3Ideal Cert.Kernel3Ideal.Gen.facts Cert.Reference3Ideal.Gen.facts := by
  intro m g m' g' _ hargs
  refine ⟨fun c => Cert.Memory.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run _ _ _).mono (fun r h c => ?_) (Cert.Kernel3Ideal.Value.run_blocks m g)
    exact ⟨(h c).1.trans (Cert.Kernel3Ideal.Kv.final m c), (h c).2⟩
  · refine (θ_run _ _ _).mono (fun r h c => ?_) (Cert.Reference3Ideal.Value.run m' g')
    refine ⟨(h c).1.trans ?_, (h c).2⟩
    obtain ⟨h0, h1, h2⟩ := hargs c
    rw [h0, h1, h2]
    exact (memory_eq _ _ _).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores.facts, Cert.Pre_routed.Gen.facts,
    fun m g _ => Cert.Kernel.Attn.frame m g, fun m g _ => Cert.KernelIdeal.Attn.frame m g, fun m g _ => Cert.KernelIdeal.Attn.frame m g,
    frame_reference, fun m g _ => frame_reference m g trivial, frame_words2, frame_kernel2, frame_reference2,
    fun m g _ => frame_reference2 m g trivial, fun m g _ => Cert.Kernel3.Gen.frame m g, fun m g _ => Cert.Kernel3Ideal.Gen.frame m g, frame_reference3,
    trivial, algebraic, trivial, algebraic2, trivial, algebraic3⟩

end Cert.Proof

end
